-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
-- ==== Pre_in_vocab.lean ====
abbrev S16384x26 : Shape := ⟨2, ![16384, 26]⟩
abbrev S26x100000x16 : Shape := ⟨3, ![26, 100000, 16]⟩
abbrev S_ : Shape := ⟨0, ![]⟩

class Facts : Prop where
  bcast_S_S16384x26 : S_.BroadcastsInDim S16384x26 (![] : Fin 0 → Fin S16384x26.rank)
  reducesTo_S16384x26_S_d0_1 : S16384x26.ReducesTo [0, 1] S_
  h_S_ : 0 < S_.numel

variable [Facts]

def fn {F : FTy → Type} [FloatOps F] (main_arg0 : IVec S16384x26 32) (main_arg1 : FVec F S26x100000x16 .f32) : IVec S_ 1 :=
  let main_c : IVec S_ 32 := constantI S_ 32 0#32
  let main_v0 : IVec S16384x26 32 := broadcastInDim S16384x26 ![] bcast_S_S16384x26 main_c
  let main_v1 : IVec S16384x26 1 := cmpi .sge main_arg0 main_v0
  let main_c_0 : IVec S_ 1 := constantI S_ 1 1#1
  let main_v2 : IVec S_ 1 := (fun x v => Host.reduce IntOp.andi x v reducesTo_S16384x26_S_d0_1 h_S_) main_v1 main_c_0
  let main_c_1 : IVec S_ 32 := constantI S_ 32 100000#32
  let main_v3 : IVec S16384x26 32 := broadcastInDim S16384x26 ![] bcast_S_S16384x26 main_c_1
  let main_v4 : IVec S16384x26 1 := cmpi .slt main_arg0 main_v3
  let main_c_2 : IVec S_ 1 := constantI S_ 1 1#1
  let main_v5 : IVec S_ 1 := (fun x v => Host.reduce IntOp.andi x v reducesTo_S16384x26_S_d0_1 h_S_) main_v4 main_c_2
  let main_v6 : IVec S_ 1 := andi main_v2 main_v5
  main_v6
-- ==== Kernel.lean ====
abbrev S16384x26 : Shape := ⟨2, ![16384, 26]⟩
abbrev S26x100000x16 : Shape := ⟨3, ![26, 100000, 16]⟩
abbrev S26x16x100000 : Shape := ⟨3, ![26, 16, 100000]⟩
abbrev S26x16384 : Shape := ⟨2, ![26, 16384]⟩
abbrev S26x16x16384 : Shape := ⟨3, ![26, 16, 16384]⟩
abbrev S100000 : Shape := ⟨1, ![100000]⟩
abbrev S16384 : Shape := ⟨1, ![16384]⟩
abbrev S8192 : Shape := ⟨1, ![8192]⟩
abbrev S_ : Shape := ⟨0, ![]⟩
abbrev S1x16384 : Shape := ⟨2, ![1, 16384]⟩
abbrev S1x1x100000 : Shape := ⟨3, ![1, 1, 100000]⟩
abbrev S4096 : Shape := ⟨1, ![4096]⟩
abbrev S1x1x4096 : Shape := ⟨3, ![1, 1, 4096]⟩
abbrev S16 : Shape := ⟨1, ![16]⟩
abbrev S26x16384x16 : Shape := ⟨3, ![26, 16384, 16]⟩

abbrev nBuf : Table → Nat
  | .hbm => 6
  | .local .scVector .vmem => 3
  | _ => 0

abbrev bufTy : (tb : Table) → Fin (nBuf tb) → BufTy
  | .hbm, ⟨0, _⟩ => ⟨S16384x26, .i32⟩
  | .hbm, ⟨1, _⟩ => ⟨S26x100000x16, .f32⟩
  | .hbm, ⟨2, _⟩ => ⟨S26x16x100000, .f32⟩
  | .hbm, ⟨3, _⟩ => ⟨S26x16384, .i32⟩
  | .hbm, ⟨4, _⟩ => ⟨S26x16x16384, .f32⟩
  | .hbm, ⟨5, _⟩ => ⟨S26x16384x16, .f32⟩
  | .local .scVector .vmem, ⟨0, _⟩ => ⟨S100000, .f32⟩
  | .local .scVector .vmem, ⟨1, _⟩ => ⟨S16384, .i32⟩
  | .local .scVector .vmem, ⟨2, _⟩ => ⟨S8192, .f32⟩
  | _, _ => ⟨S16384x26, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v1_scv : Ref sig .scVector := ⟨.hbm, 3, rfl⟩
abbrev main_v0_scv : Ref sig .scVector := ⟨.hbm, 2, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c13_i32_1 : BitVec 32 := 13#32
  let v3 : BitVec 32 := Scalar.addi c0_i32_0 c13_i32_1
  let c1_i32 : BitVec 32 := 1#32
  ⟨c0_i32_0, v3, c1_i32⟩
def k0_cond1 (i : grid0.Coords) (k0_t1 : Fin k0_t1_loop.trips) : BitVec 1 :=
  let c0_i32_0 : BitVec 32 := 0#32
  let c1_i32 : BitVec 32 := 1#32
  let arg10 : BitVec 32 := Scf.iv c0_i32_0 c1_i32 k0_t1
  let c0_i32_35 : BitVec 32 := 0#32
  let v73 : BitVec 1 := Scalar.cmpi .eq arg10 c0_i32_35
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let v45 : BitVec 32 := Scalar.addi v2 arg10
  let c16_i32_29 : BitVec 32 := 16#32
  let c0_i32_30 : BitVec 32 := 0#32
  let v63 : BitVec 1 := Scalar.cmpi .eq c16_i32_29 c0_i32_30
  let c1_i32_31 : BitVec 32 := 1#32
  let v64 : BitVec 32 := Scalar.select v63 c1_i32_31 c16_i32_29
  let v65 : BitVec 32 := Scalar.remsi v45 v64
  let c0_i32_33 : BitVec 32 := 0#32
  let v67 : BitVec 1 := Scalar.cmpi .slt v65 c0_i32_33
  let c0_i32_34 : BitVec 32 := 0#32
  let v68 : BitVec 1 := Scalar.cmpi .slt v64 c0_i32_34
  let v69 : BitVec 1 := Scalar.xori v67 v68
  let c0_i32_32 : BitVec 32 := 0#32
  let v66 : BitVec 1 := Scalar.cmpi .ne v65 c0_i32_32
  let v70 : BitVec 1 := Scalar.andi v69 v66
  let v71 : BitVec 32 := Scalar.addi v65 v64
  let v72 : BitVec 32 := Scalar.select v70 v71 v65
  let c0_i32_36 : BitVec 32 := 0#32
  let v74 : BitVec 1 := Scalar.cmpi .eq v72 c0_i32_36
  let v75 : BitVec 1 := Scalar.ori v73 v74
  let v76 : BitVec 32 := Scalar.extui v75
  let c0_i32_37 : BitVec 32 := 0#32
  let v77 : BitVec 1 := Scalar.cmpi .ne v76 c0_i32_37
  v77

def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c0_i32_0 : BitVec 32 := 0#32
  let c1_i32 : BitVec 32 := 1#32
  let arg10 : BitVec 32 := Scf.iv c0_i32_0 c1_i32 k0_t1
  let v45 : BitVec 32 := Scalar.addi v2 arg10
  let c0_i32_23 : BitVec 32 := 0#32
  let v47 : BitVec 1 := Scalar.cmpi .sgt v45 c0_i32_23
  let v48 : BitVec 32 := Scalar.extui v47
  let c0_i32_24 : BitVec 32 := 0#32
  let v49 : BitVec 1 := Scalar.cmpi .slt v45 c0_i32_24
  let v50 : BitVec 32 := Scalar.extui v49
  let v51 : BitVec 32 := Scalar.subi v48 v50
  let c16_i32_22 : BitVec 32 := 16#32
  let c0_i32_25 : BitVec 32 := 0#32
  let v52 : BitVec 1 := Scalar.cmpi .sgt c16_i32_22 c0_i32_25
  let v53 : BitVec 32 := Scalar.extui v52
  let c0_i32_26 : BitVec 32 := 0#32
  let v54 : BitVec 1 := Scalar.cmpi .slt c16_i32_22 c0_i32_26
  let v55 : BitVec 32 := Scalar.extui v54
  let v56 : BitVec 32 := Scalar.subi v53 v55
  let v57 : BitVec 1 := Scalar.cmpi .ne v51 v56
  let v58 : BitVec 32 := Scalar.remsi v45 c16_i32_22
  let c0_i32_27 : BitVec 32 := 0#32
  let v59 : BitVec 1 := Scalar.cmpi .ne v58 c0_i32_27
  let v60 : BitVec 1 := Scalar.andi v57 v59
  let v46 : BitVec 32 := Scalar.divsi v45 c16_i32_22
  let c1_i32_28 : BitVec 32 := 1#32
  let v61 : BitVec 32 := Scalar.subi v46 c1_i32_28
  let v62 : BitVec 32 := Scalar.select v60 v61 v46
  let c0_i32_86_r0 : BitVec 32 := 0#32
  ![v62.toNat, 0]
def k0_off2 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c0_i32_0 : BitVec 32 := 0#32
  let c1_i32 : BitVec 32 := 1#32
  let arg10 : BitVec 32 := Scf.iv c0_i32_0 c1_i32 k0_t1
  let v45 : BitVec 32 := Scalar.addi v2 arg10
  let c0_i32_23 : BitVec 32 := 0#32
  let v47 : BitVec 1 := Scalar.cmpi .sgt v45 c0_i32_23
  let v48 : BitVec 32 := Scalar.extui v47
  let c0_i32_24 : BitVec 32 := 0#32
  let v49 : BitVec 1 := Scalar.cmpi .slt v45 c0_i32_24
  let v50 : BitVec 32 := Scalar.extui v49
  let v51 : BitVec 32 := Scalar.subi v48 v50
  let c16_i32_22 : BitVec 32 := 16#32
  let c0_i32_25 : BitVec 32 := 0#32
  let v52 : BitVec 1 := Scalar.cmpi .sgt c16_i32_22 c0_i32_25
  let v53 : BitVec 32 := Scalar.extui v52
  let c0_i32_26 : BitVec 32 := 0#32
  let v54 : BitVec 1 := Scalar.cmpi .slt c16_i32_22 c0_i32_26
  let v55 : BitVec 32 := Scalar.extui v54
  let v56 : BitVec 32 := Scalar.subi v53 v55
  let v57 : BitVec 1 := Scalar.cmpi .ne v51 v56
  let v58 : BitVec 32 := Scalar.remsi v45 c16_i32_22
  let c0_i32_27 : BitVec 32 := 0#32
  let v59 : BitVec 1 := Scalar.cmpi .ne v58 c0_i32_27
  let v60 : BitVec 1 := Scalar.andi v57 v59
  let v46 : BitVec 32 := Scalar.divsi v45 c16_i32_22
  let c1_i32_28 : BitVec 32 := 1#32
  let v61 : BitVec 32 := Scalar.subi v46 c1_i32_28
  let v62 : BitVec 32 := Scalar.select v60 v61 v46
  let c16_i32_29 : BitVec 32 := 16#32
  let c0_i32_30 : BitVec 32 := 0#32
  let v63 : BitVec 1 := Scalar.cmpi .eq c16_i32_29 c0_i32_30
  let c1_i32_31 : BitVec 32 := 1#32
  let v64 : BitVec 32 := Scalar.select v63 c1_i32_31 c16_i32_29
  let v65 : BitVec 32 := Scalar.remsi v45 v64
  let c0_i32_33 : BitVec 32 := 0#32
  let v67 : BitVec 1 := Scalar.cmpi .slt v65 c0_i32_33
  let c0_i32_34 : BitVec 32 := 0#32
  let v68 : BitVec 1 := Scalar.cmpi .slt v64 c0_i32_34
  let v69 : BitVec 1 := Scalar.xori v67 v68
  let c0_i32_32 : BitVec 32 := 0#32
  let v66 : BitVec 1 := Scalar.cmpi .ne v65 c0_i32_32
  let v70 : BitVec 1 := Scalar.andi v69 v66
  let v71 : BitVec 32 := Scalar.addi v65 v64
  let v72 : BitVec 32 := Scalar.select v70 v71 v65
  let c0_i32_86_r1 : BitVec 32 := 0#32
  ![v62.toNat, v72.toNat, 0]
def k0_cond2 (k0_t1 : Fin k0_t1_loop.trips) : BitVec 1 :=
  let c0_i32_0 : BitVec 32 := 0#32
  let c1_i32 : BitVec 32 := 1#32
  let arg10 : BitVec 32 := Scf.iv c0_i32_0 c1_i32 k0_t1
  let c0_i32_38 : BitVec 32 := 0#32
  let v78 : BitVec 1 := Scalar.cmpi .sgt arg10 c0_i32_38
  let v79 : BitVec 32 := Scalar.extui v78
  let c0_i32_39 : BitVec 32 := 0#32
  let v80 : BitVec 1 := Scalar.cmpi .ne v79 c0_i32_39
  v80

def k0_off3 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c0_i32_0 : BitVec 32 := 0#32
  let c1_i32 : BitVec 32 := 1#32
  let arg10 : BitVec 32 := Scf.iv c0_i32_0 c1_i32 k0_t1
  let v45 : BitVec 32 := Scalar.addi v2 arg10
  let c0_i32_23 : BitVec 32 := 0#32
  let v47 : BitVec 1 := Scalar.cmpi .sgt v45 c0_i32_23
  let v48 : BitVec 32 := Scalar.extui v47
  let c0_i32_24 : BitVec 32 := 0#32
  let v49 : BitVec 1 := Scalar.cmpi .slt v45 c0_i32_24
  let v50 : BitVec 32 := Scalar.extui v49
  let v51 : BitVec 32 := Scalar.subi v48 v50
  let c16_i32_22 : BitVec 32 := 16#32
  let c0_i32_25 : BitVec 32 := 0#32
  let v52 : BitVec 1 := Scalar.cmpi .sgt c16_i32_22 c0_i32_25
  let v53 : BitVec 32 := Scalar.extui v52
  let c0_i32_26 : BitVec 32 := 0#32
  let v54 : BitVec 1 := Scalar.cmpi .slt c16_i32_22 c0_i32_26
  let v55 : BitVec 32 := Scalar.extui v54
  let v56 : BitVec 32 := Scalar.subi v53 v55
  let v57 : BitVec 1 := Scalar.cmpi .ne v51 v56
  let v58 : BitVec 32 := Scalar.remsi v45 c16_i32_22
  let c0_i32_27 : BitVec 32 := 0#32
  let v59 : BitVec 1 := Scalar.cmpi .ne v58 c0_i32_27
  let v60 : BitVec 1 := Scalar.andi v57 v59
  let v46 : BitVec 32 := Scalar.divsi v45 c16_i32_22
  let c1_i32_28 : BitVec 32 := 1#32
  let v61 : BitVec 32 := Scalar.subi v46 c1_i32_28
  let v62 : BitVec 32 := Scalar.select v60 v61 v46
  let c16_i32_29 : BitVec 32 := 16#32
  let c0_i32_30 : BitVec 32 := 0#32
  let v63 : BitVec 1 := Scalar.cmpi .eq c16_i32_29 c0_i32_30
  let c1_i32_31 : BitVec 32 := 1#32
  let v64 : BitVec 32 := Scalar.select v63 c1_i32_31 c16_i32_29
  let v65 : BitVec 32 := Scalar.remsi v45 v64
  let c0_i32_33 : BitVec 32 := 0#32
  let v67 : BitVec 1 := Scalar.cmpi .slt v65 c0_i32_33
  let c0_i32_34 : BitVec 32 := 0#32
  let v68 : BitVec 1 := Scalar.cmpi .slt v64 c0_i32_34
  let v69 : BitVec 1 := Scalar.xori v67 v68
  let c0_i32_32 : BitVec 32 := 0#32
  let v66 : BitVec 1 := Scalar.cmpi .ne v65 c0_i32_32
  let v70 : BitVec 1 := Scalar.andi v69 v66
  let v71 : BitVec 32 := Scalar.addi v65 v64
  let v72 : BitVec 32 := Scalar.select v70 v71 v65
  let c0_i32_87 : BitVec 32 := 0#32
  ![v62.toNat, v72.toNat, 0]
@[reducible] def k0_t2_loop : Scf.Loop 32 :=
  let c0_i32_41 : BitVec 32 := 0#32
  let c16_i32_42 : BitVec 32 := 16#32
  let v81 : BitVec 32 := Scalar.addi c0_i32_41 c16_i32_42
  let c1_i32_43 : BitVec 32 := 1#32
  ⟨c0_i32_41, v81, c1_i32_43⟩
def k0_off4 (k0_t2 : Fin k0_t2_loop.trips) : Fin 1 → Nat :=
  let c0_i32_87 : BitVec 32 := 0#32
  let c0_i32_41 : BitVec 32 := 0#32
  let c1_i32_43 : BitVec 32 := 1#32
  let arg11 : BitVec 32 := Scf.iv c0_i32_41 c1_i32_43 k0_t2
  let c256_i32 : BitVec 32 := 256#32
  let v124 : BitVec 32 := Scalar.muli arg11 c256_i32
  let c0_i32_86 : BitVec 32 := 0#32
  let v125 : BitVec 32 := Scalar.addi v124 c0_i32_86
  let v126 : BitVec 32 := Scalar.addi c0_i32_87 v125
  let v127 : Index := Scalar.indexCast v126
  ![v127.toNat]

def k0_chk1 (v128 : IVec S16 32) : Prop :=
  (∀ a x, ((![v128] : Fin 1 → IVec S16 32) a x).toNat < S100000.size a)
theorem k0_idx1_inb : ∀ (v128 : IVec S16 32) (k0_hw1 : k0_chk1 v128), ∀ a x, ((![v128] : Fin 1 → IVec S16 32) a x).toNat < S100000.size a := fun v128 k0_hw1 => k0_hw1
def k0_off5 (k0_t2 : Fin k0_t2_loop.trips) : Fin 1 → Nat :=
  let c0_i32_88 : BitVec 32 := 0#32
  let c0_i32_41 : BitVec 32 := 0#32
  let c1_i32_43 : BitVec 32 := 1#32
  let arg11 : BitVec 32 := Scf.iv c0_i32_41 c1_i32_43 k0_t2
  let c256_i32 : BitVec 32 := 256#32
  let v124 : BitVec 32 := Scalar.muli arg11 c256_i32
  let c0_i32_86 : BitVec 32 := 0#32
  let v125 : BitVec 32 := Scalar.addi v124 c0_i32_86
  let v130 : BitVec 32 := Scalar.addi c0_i32_88 v125
  let v131 : Index := Scalar.indexCast v130
  ![v131.toNat]
def k0_off6 (k0_t2 : Fin k0_t2_loop.trips) : Fin 1 → Nat :=
  let c0_i32_91 : BitVec 32 := 0#32
  let c0_i32_41 : BitVec 32 := 0#32
  let c1_i32_43 : BitVec 32 := 1#32
  let arg11 : BitVec 32 := Scf.iv c0_i32_41 c1_i32_43 k0_t2
  let c256_i32_89 : BitVec 32 := 256#32
  let v133 : BitVec 32 := Scalar.muli arg11 c256_i32_89
  let c16_i32_90 : BitVec 32 := 16#32
  let v134 : BitVec 32 := Scalar.addi v133 c16_i32_90
  let v135 : BitVec 32 := Scalar.addi c0_i32_91 v134
  let v136 : Index := Scalar.indexCast v135
  ![v136.toNat]

def k0_chk2 (v137 : IVec S16 32) : Prop :=
  (∀ a x, ((![v137] : Fin 1 → IVec S16 32) a x).toNat < S100000.size a)
theorem k0_idx2_inb : ∀ (v137 : IVec S16 32) (k0_hw2 : k0_chk2 v137), ∀ a x, ((![v137] : Fin 1 → IVec S16 32) a x).toNat < S100000.size a := fun v137 k0_hw2 => k0_hw2
def k0_off7 (k0_t2 : Fin k0_t2_loop.trips) : Fin 1 → Nat :=
  let c0_i32_92 : BitVec 32 := 0#32
  let c0_i32_41 : BitVec 32 := 0#32
  let c1_i32_43 : BitVec 32 := 1#32
  let arg11 : BitVec 32 := Scf.iv c0_i32_41 c1_i32_43 k0_t2
  let c256_i32_89 : BitVec 32 := 256#32
  let v133 : BitVec 32 := Scalar.muli arg11 c256_i32_89
  let c16_i32_90 : BitVec 32 := 16#32
  let v134 : BitVec 32 := Scalar.addi v133 c16_i32_90
  let v139 : BitVec 32 := Scalar.addi c0_i32_92 v134
  let v140 : Index := Scalar.indexCast v139
  ![v140.toNat]
def k0_off8 (k0_t2 : Fin k0_t2_loop.trips) : Fin 1 → Nat :=
  let c0_i32_94 : BitVec 32 := 0#32
  let c0_i32_41 : BitVec 32 := 0#32
  let c1_i32_43 : BitVec 32 := 1#32
  let arg11 : BitVec 32 := Scf.iv c0_i32_41 c1_i32_43 k0_t2
  let c256_i32_93 : BitVec 32 := 256#32
  let v142 : BitVec 32 := Scalar.muli arg11 c256_i32_93
  let c32_i32 : BitVec 32 := 32#32
  let v143 : BitVec 32 := Scalar.addi v142 c32_i32
  let v144 : BitVec 32 := Scalar.addi c0_i32_94 v143
  let v145 : Index := Scalar.indexCast v144
  ![v145.toNat]

def k0_chk3 (v146 : IVec S16 32) : Prop :=
  (∀ a x, ((![v146] : Fin 1 → IVec S16 32) a x).toNat < S100000.size a)
theorem k0_idx3_inb : ∀ (v146 : IVec S16 32) (k0_hw3 : k0_chk3 v146), ∀ a x, ((![v146] : Fin 1 → IVec S16 32) a x).toNat < S100000.size a := fun v146 k0_hw3 => k0_hw3
def k0_off9 (k0_t2 : Fin k0_t2_loop.trips) : Fin 1 → Nat :=
  let c0_i32_95 : BitVec 32 := 0#32
  let c0_i32_41 : BitVec 32 := 0#32
  let c1_i32_43 : BitVec 32 := 1#32
  let arg11 : BitVec 32 := Scf.iv c0_i32_41 c1_i32_43 k0_t2
  let c256_i32_93 : BitVec 32 := 256#32
  let v142 : BitVec 32 := Scalar.muli arg11 c256_i32_93
  let c32_i32 : BitVec 32 := 32#32
  let v143 : BitVec 32 := Scalar.addi v142 c32_i32
  let v148 : BitVec 32 := Scalar.addi c0_i32_95 v143
  let v149 : Index := Scalar.indexCast v148
  ![v149.toNat]
def k0_off10 (k0_t2 : Fin k0_t2_loop.trips) : Fin 1 → Nat :=
  let c0_i32_97 : BitVec 32 := 0#32
  let c0_i32_41 : BitVec 32 := 0#32
  let c1_i32_43 : BitVec 32 := 1#32
  let arg11 : BitVec 32 := Scf.iv c0_i32_41 c1_i32_43 k0_t2
  let c256_i32_96 : BitVec 32 := 256#32
  let v151 : BitVec 32 := Scalar.muli arg11 c256_i32_96
  let c48_i32 : BitVec 32 := 48#32
  let v152 : BitVec 32 := Scalar.addi v151 c48_i32
  let v153 : BitVec 32 := Scalar.addi c0_i32_97 v152
  let v154 : Index := Scalar.indexCast v153
  ![v154.toNat]

def k0_chk4 (v155 : IVec S16 32) : Prop :=
  (∀ a x, ((![v155] : Fin 1 → IVec S16 32) a x).toNat < S100000.size a)
theorem k0_idx4_inb : ∀ (v155 : IVec S16 32) (k0_hw4 : k0_chk4 v155), ∀ a x, ((![v155] : Fin 1 → IVec S16 32) a x).toNat < S100000.size a := fun v155 k0_hw4 => k0_hw4
def k0_off11 (k0_t2 : Fin k0_t2_loop.trips) : Fin 1 → Nat :=
  let c0_i32_98 : BitVec 32 := 0#32
  let c0_i32_41 : BitVec 32 := 0#32
  let c1_i32_43 : BitVec 32 := 1#32
  let arg11 : BitVec 32 := Scf.iv c0_i32_41 c1_i32_43 k0_t2
  let c256_i32_96 : BitVec 32 := 256#32
  let v151 : BitVec 32 := Scalar.muli arg11 c256_i32_96
  let c48_i32 : BitVec 32 := 48#32
  let v152 : BitVec 32 := Scalar.addi v151 c48_i32
  let v157 : BitVec 32 := Scalar.addi c0_i32_98 v152
  let v158 : Index := Scalar.indexCast v157
  ![v158.toNat]
def k0_off12 (k0_t2 : Fin k0_t2_loop.trips) : Fin 1 → Nat :=
  let c0_i32_100 : BitVec 32 := 0#32
  let c0_i32_41 : BitVec 32 := 0#32
  let c1_i32_43 : BitVec 32 := 1#32
  let arg11 : BitVec 32 := Scf.iv c0_i32_41 c1_i32_43 k0_t2
  let c256_i32_99 : BitVec 32 := 256#32
  let v160 : BitVec 32 := Scalar.muli arg11 c256_i32_99
  let c64_i32 : BitVec 32 := 64#32
  let v161 : BitVec 32 := Scalar.addi v160 c64_i32
  let v162 : BitVec 32 := Scalar.addi c0_i32_100 v161
  let v163 : Index := Scalar.indexCast v162
  ![v163.toNat]

def k0_chk5 (v164 : IVec S16 32) : Prop :=
  (∀ a x, ((![v164] : Fin 1 → IVec S16 32) a x).toNat < S100000.size a)
theorem k0_idx5_inb : ∀ (v164 : IVec S16 32) (k0_hw5 : k0_chk5 v164), ∀ a x, ((![v164] : Fin 1 → IVec S16 32) a x).toNat < S100000.size a := fun v164 k0_hw5 => k0_hw5
def k0_off13 (k0_t2 : Fin k0_t2_loop.trips) : Fin 1 → Nat :=
  let c0_i32_101 : BitVec 32 := 0#32
  let c0_i32_41 : BitVec 32 := 0#32
  let c1_i32_43 : BitVec 32 := 1#32
  let arg11 : BitVec 32 := Scf.iv c0_i32_41 c1_i32_43 k0_t2
  let c256_i32_99 : BitVec 32 := 256#32
  let v160 : BitVec 32 := Scalar.muli arg11 c256_i32_99
  let c64_i32 : BitVec 32 := 64#32
  let v161 : BitVec 32 := Scalar.addi v160 c64_i32
  let v166 : BitVec 32 := Scalar.addi c0_i32_101 v161
  let v167 : Index := Scalar.indexCast v166
  ![v167.toNat]
def k0_off14 (k0_t2 : Fin k0_t2_loop.trips) : Fin 1 → Nat :=
  let c0_i32_103 : BitVec 32 := 0#32
  let c0_i32_41 : BitVec 32 := 0#32
  let c1_i32_43 : BitVec 32 := 1#32
  let arg11 : BitVec 32 := Scf.iv c0_i32_41 c1_i32_43 k0_t2
  let c256_i32_102 : BitVec 32 := 256#32
  let v169 : BitVec 32 := Scalar.muli arg11 c256_i32_102
  let c80_i32 : BitVec 32 := 80#32
  let v170 : BitVec 32 := Scalar.addi v169 c80_i32
  let v171 : BitVec 32 := Scalar.addi c0_i32_103 v170
  let v172 : Index := Scalar.indexCast v171
  ![v172.toNat]

def k0_chk6 (v173 : IVec S16 32) : Prop :=
  (∀ a x, ((![v173] : Fin 1 → IVec S16 32) a x).toNat < S100000.size a)
theorem k0_idx6_inb : ∀ (v173 : IVec S16 32) (k0_hw6 : k0_chk6 v173), ∀ a x, ((![v173] : Fin 1 → IVec S16 32) a x).toNat < S100000.size a := fun v173 k0_hw6 => k0_hw6
def k0_off15 (k0_t2 : Fin k0_t2_loop.trips) : Fin 1 → Nat :=
  let c0_i32_104 : BitVec 32 := 0#32
  let c0_i32_41 : BitVec 32 := 0#32
  let c1_i32_43 : BitVec 32 := 1#32
  let arg11 : BitVec 32 := Scf.iv c0_i32_41 c1_i32_43 k0_t2
  let c256_i32_102 : BitVec 32 := 256#32
  let v169 : BitVec 32 := Scalar.muli arg11 c256_i32_102
  let c80_i32 : BitVec 32 := 80#32
  let v170 : BitVec 32 := Scalar.addi v169 c80_i32
  let v175 : BitVec 32 := Scalar.addi c0_i32_104 v170
  let v176 : Index := Scalar.indexCast v175
  ![v176.toNat]
def k0_off16 (k0_t2 : Fin k0_t2_loop.trips) : Fin 1 → Nat :=
  let c0_i32_106 : BitVec 32 := 0#32
  let c0_i32_41 : BitVec 32 := 0#32
  let c1_i32_43 : BitVec 32 := 1#32
  let arg11 : BitVec 32 := Scf.iv c0_i32_41 c1_i32_43 k0_t2
  let c256_i32_105 : BitVec 32 := 256#32
  let v178 : BitVec 32 := Scalar.muli arg11 c256_i32_105
  let c96_i32 : BitVec 32 := 96#32
  let v179 : BitVec 32 := Scalar.addi v178 c96_i32
  let v180 : BitVec 32 := Scalar.addi c0_i32_106 v179
  let v181 : Index := Scalar.indexCast v180
  ![v181.toNat]

def k0_chk7 (v182 : IVec S16 32) : Prop :=
  (∀ a x, ((![v182] : Fin 1 → IVec S16 32) a x).toNat < S100000.size a)
theorem k0_idx7_inb : ∀ (v182 : IVec S16 32) (k0_hw7 : k0_chk7 v182), ∀ a x, ((![v182] : Fin 1 → IVec S16 32) a x).toNat < S100000.size a := fun v182 k0_hw7 => k0_hw7
def k0_off17 (k0_t2 : Fin k0_t2_loop.trips) : Fin 1 → Nat :=
  let c0_i32_107 : BitVec 32 := 0#32
  let c0_i32_41 : BitVec 32 := 0#32
  let c1_i32_43 : BitVec 32 := 1#32
  let arg11 : BitVec 32 := Scf.iv c0_i32_41 c1_i32_43 k0_t2
  let c256_i32_105 : BitVec 32 := 256#32
  let v178 : BitVec 32 := Scalar.muli arg11 c256_i32_105
  let c96_i32 : BitVec 32 := 96#32
  let v179 : BitVec 32 := Scalar.addi v178 c96_i32
  let v184 : BitVec 32 := Scalar.addi c0_i32_107 v179
  let v185 : Index := Scalar.indexCast v184
  ![v185.toNat]
def k0_off18 (k0_t2 : Fin k0_t2_loop.trips) : Fin 1 → Nat :=
  let c0_i32_109 : BitVec 32 := 0#32
  let c0_i32_41 : BitVec 32 := 0#32
  let c1_i32_43 : BitVec 32 := 1#32
  let arg11 : BitVec 32 := Scf.iv c0_i32_41 c1_i32_43 k0_t2
  let c256_i32_108 : BitVec 32 := 256#32
  let v187 : BitVec 32 := Scalar.muli arg11 c256_i32_108
  let c112_i32 : BitVec 32 := 112#32
  let v188 : BitVec 32 := Scalar.addi v187 c112_i32
  let v189 : BitVec 32 := Scalar.addi c0_i32_109 v188
  let v190 : Index := Scalar.indexCast v189
  ![v190.toNat]

def k0_chk8 (v191 : IVec S16 32) : Prop :=
  (∀ a x, ((![v191] : Fin 1 → IVec S16 32) a x).toNat < S100000.size a)
theorem k0_idx8_inb : ∀ (v191 : IVec S16 32) (k0_hw8 : k0_chk8 v191), ∀ a x, ((![v191] : Fin 1 → IVec S16 32) a x).toNat < S100000.size a := fun v191 k0_hw8 => k0_hw8
def k0_off19 (k0_t2 : Fin k0_t2_loop.trips) : Fin 1 → Nat :=
  let c0_i32_110 : BitVec 32 := 0#32
  let c0_i32_41 : BitVec 32 := 0#32
  let c1_i32_43 : BitVec 32 := 1#32
  let arg11 : BitVec 32 := Scf.iv c0_i32_41 c1_i32_43 k0_t2
  let c256_i32_108 : BitVec 32 := 256#32
  let v187 : BitVec 32 := Scalar.muli arg11 c256_i32_108
  let c112_i32 : BitVec 32 := 112#32
  let v188 : BitVec 32 := Scalar.addi v187 c112_i32
  let v193 : BitVec 32 := Scalar.addi c0_i32_110 v188
  let v194 : Index := Scalar.indexCast v193
  ![v194.toNat]
def k0_off20 (k0_t2 : Fin k0_t2_loop.trips) : Fin 1 → Nat :=
  let c0_i32_112 : BitVec 32 := 0#32
  let c0_i32_41 : BitVec 32 := 0#32
  let c1_i32_43 : BitVec 32 := 1#32
  let arg11 : BitVec 32 := Scf.iv c0_i32_41 c1_i32_43 k0_t2
  let c256_i32_111 : BitVec 32 := 256#32
  let v196 : BitVec 32 := Scalar.muli arg11 c256_i32_111
  let c128_i32 : BitVec 32 := 128#32
  let v197 : BitVec 32 := Scalar.addi v196 c128_i32
  let v198 : BitVec 32 := Scalar.addi c0_i32_112 v197
  let v199 : Index := Scalar.indexCast v198
  ![v199.toNat]

def k0_chk9 (v200 : IVec S16 32) : Prop :=
  (∀ a x, ((![v200] : Fin 1 → IVec S16 32) a x).toNat < S100000.size a)
theorem k0_idx9_inb : ∀ (v200 : IVec S16 32) (k0_hw9 : k0_chk9 v200), ∀ a x, ((![v200] : Fin 1 → IVec S16 32) a x).toNat < S100000.size a := fun v200 k0_hw9 => k0_hw9
def k0_off21 (k0_t2 : Fin k0_t2_loop.trips) : Fin 1 → Nat :=
  let c0_i32_113 : BitVec 32 := 0#32
  let c0_i32_41 : BitVec 32 := 0#32
  let c1_i32_43 : BitVec 32 := 1#32
  let arg11 : BitVec 32 := Scf.iv c0_i32_41 c1_i32_43 k0_t2
  let c256_i32_111 : BitVec 32 := 256#32
  let v196 : BitVec 32 := Scalar.muli arg11 c256_i32_111
  let c128_i32 : BitVec 32 := 128#32
  let v197 : BitVec 32 := Scalar.addi v196 c128_i32
  let v202 : BitVec 32 := Scalar.addi c0_i32_113 v197
  let v203 : Index := Scalar.indexCast v202
  ![v203.toNat]
def k0_off22 (k0_t2 : Fin k0_t2_loop.trips) : Fin 1 → Nat :=
  let c0_i32_115 : BitVec 32 := 0#32
  let c0_i32_41 : BitVec 32 := 0#32
  let c1_i32_43 : BitVec 32 := 1#32
  let arg11 : BitVec 32 := Scf.iv c0_i32_41 c1_i32_43 k0_t2
  let c256_i32_114 : BitVec 32 := 256#32
  let v205 : BitVec 32 := Scalar.muli arg11 c256_i32_114
  let c144_i32 : BitVec 32 := 144#32
  let v206 : BitVec 32 := Scalar.addi v205 c144_i32
  let v207 : BitVec 32 := Scalar.addi c0_i32_115 v206
  let v208 : Index := Scalar.indexCast v207
  ![v208.toNat]

def k0_chk10 (v209 : IVec S16 32) : Prop :=
  (∀ a x, ((![v209] : Fin 1 → IVec S16 32) a x).toNat < S100000.size a)
theorem k0_idx10_inb : ∀ (v209 : IVec S16 32) (k0_hw10 : k0_chk10 v209), ∀ a x, ((![v209] : Fin 1 → IVec S16 32) a x).toNat < S100000.size a := fun v209 k0_hw10 => k0_hw10
def k0_off23 (k0_t2 : Fin k0_t2_loop.trips) : Fin 1 → Nat :=
  let c0_i32_116 : BitVec 32 := 0#32
  let c0_i32_41 : BitVec 32 := 0#32
  let c1_i32_43 : BitVec 32 := 1#32
  let arg11 : BitVec 32 := Scf.iv c0_i32_41 c1_i32_43 k0_t2
  let c256_i32_114 : BitVec 32 := 256#32
  let v205 : BitVec 32 := Scalar.muli arg11 c256_i32_114
  let c144_i32 : BitVec 32 := 144#32
  let v206 : BitVec 32 := Scalar.addi v205 c144_i32
  let v211 : BitVec 32 := Scalar.addi c0_i32_116 v206
  let v212 : Index := Scalar.indexCast v211
  ![v212.toNat]
def k0_off24 (k0_t2 : Fin k0_t2_loop.trips) : Fin 1 → Nat :=
  let c0_i32_118 : BitVec 32 := 0#32
  let c0_i32_41 : BitVec 32 := 0#32
  let c1_i32_43 : BitVec 32 := 1#32
  let arg11 : BitVec 32 := Scf.iv c0_i32_41 c1_i32_43 k0_t2
  let c256_i32_117 : BitVec 32 := 256#32
  let v214 : BitVec 32 := Scalar.muli arg11 c256_i32_117
  let c160_i32 : BitVec 32 := 160#32
  let v215 : BitVec 32 := Scalar.addi v214 c160_i32
  let v216 : BitVec 32 := Scalar.addi c0_i32_118 v215
  let v217 : Index := Scalar.indexCast v216
  ![v217.toNat]

def k0_chk11 (v218 : IVec S16 32) : Prop :=
  (∀ a x, ((![v218] : Fin 1 → IVec S16 32) a x).toNat < S100000.size a)
theorem k0_idx11_inb : ∀ (v218 : IVec S16 32) (k0_hw11 : k0_chk11 v218), ∀ a x, ((![v218] : Fin 1 → IVec S16 32) a x).toNat < S100000.size a := fun v218 k0_hw11 => k0_hw11
def k0_off25 (k0_t2 : Fin k0_t2_loop.trips) : Fin 1 → Nat :=
  let c0_i32_119 : BitVec 32 := 0#32
  let c0_i32_41 : BitVec 32 := 0#32
  let c1_i32_43 : BitVec 32 := 1#32
  let arg11 : BitVec 32 := Scf.iv c0_i32_41 c1_i32_43 k0_t2
  let c256_i32_117 : BitVec 32 := 256#32
  let v214 : BitVec 32 := Scalar.muli arg11 c256_i32_117
  let c160_i32 : BitVec 32 := 160#32
  let v215 : BitVec 32 := Scalar.addi v214 c160_i32
  let v220 : BitVec 32 := Scalar.addi c0_i32_119 v215
  let v221 : Index := Scalar.indexCast v220
  ![v221.toNat]
def k0_off26 (k0_t2 : Fin k0_t2_loop.trips) : Fin 1 → Nat :=
  let c0_i32_121 : BitVec 32 := 0#32
  let c0_i32_41 : BitVec 32 := 0#32
  let c1_i32_43 : BitVec 32 := 1#32
  let arg11 : BitVec 32 := Scf.iv c0_i32_41 c1_i32_43 k0_t2
  let c256_i32_120 : BitVec 32 := 256#32
  let v223 : BitVec 32 := Scalar.muli arg11 c256_i32_120
  let c176_i32 : BitVec 32 := 176#32
  let v224 : BitVec 32 := Scalar.addi v223 c176_i32
  let v225 : BitVec 32 := Scalar.addi c0_i32_121 v224
  let v226 : Index := Scalar.indexCast v225
  ![v226.toNat]

def k0_chk12 (v227 : IVec S16 32) : Prop :=
  (∀ a x, ((![v227] : Fin 1 → IVec S16 32) a x).toNat < S100000.size a)
theorem k0_idx12_inb : ∀ (v227 : IVec S16 32) (k0_hw12 : k0_chk12 v227), ∀ a x, ((![v227] : Fin 1 → IVec S16 32) a x).toNat < S100000.size a := fun v227 k0_hw12 => k0_hw12
def k0_off27 (k0_t2 : Fin k0_t2_loop.trips) : Fin 1 → Nat :=
  let c0_i32_122 : BitVec 32 := 0#32
  let c0_i32_41 : BitVec 32 := 0#32
  let c1_i32_43 : BitVec 32 := 1#32
  let arg11 : BitVec 32 := Scf.iv c0_i32_41 c1_i32_43 k0_t2
  let c256_i32_120 : BitVec 32 := 256#32
  let v223 : BitVec 32 := Scalar.muli arg11 c256_i32_120
  let c176_i32 : BitVec 32 := 176#32
  let v224 : BitVec 32 := Scalar.addi v223 c176_i32
  let v229 : BitVec 32 := Scalar.addi c0_i32_122 v224
  let v230 : Index := Scalar.indexCast v229
  ![v230.toNat]
def k0_off28 (k0_t2 : Fin k0_t2_loop.trips) : Fin 1 → Nat :=
  let c0_i32_124 : BitVec 32 := 0#32
  let c0_i32_41 : BitVec 32 := 0#32
  let c1_i32_43 : BitVec 32 := 1#32
  let arg11 : BitVec 32 := Scf.iv c0_i32_41 c1_i32_43 k0_t2
  let c256_i32_123 : BitVec 32 := 256#32
  let v232 : BitVec 32 := Scalar.muli arg11 c256_i32_123
  let c192_i32 : BitVec 32 := 192#32
  let v233 : BitVec 32 := Scalar.addi v232 c192_i32
  let v234 : BitVec 32 := Scalar.addi c0_i32_124 v233
  let v235 : Index := Scalar.indexCast v234
  ![v235.toNat]

def k0_chk13 (v236 : IVec S16 32) : Prop :=
  (∀ a x, ((![v236] : Fin 1 → IVec S16 32) a x).toNat < S100000.size a)
theorem k0_idx13_inb : ∀ (v236 : IVec S16 32) (k0_hw13 : k0_chk13 v236), ∀ a x, ((![v236] : Fin 1 → IVec S16 32) a x).toNat < S100000.size a := fun v236 k0_hw13 => k0_hw13
def k0_off29 (k0_t2 : Fin k0_t2_loop.trips) : Fin 1 → Nat :=
  let c0_i32_125 : BitVec 32 := 0#32
  let c0_i32_41 : BitVec 32 := 0#32
  let c1_i32_43 : BitVec 32 := 1#32
  let arg11 : BitVec 32 := Scf.iv c0_i32_41 c1_i32_43 k0_t2
  let c256_i32_123 : BitVec 32 := 256#32
  let v232 : BitVec 32 := Scalar.muli arg11 c256_i32_123
  let c192_i32 : BitVec 32 := 192#32
  let v233 : BitVec 32 := Scalar.addi v232 c192_i32
  let v238 : BitVec 32 := Scalar.addi c0_i32_125 v233
  let v239 : Index := Scalar.indexCast v238
  ![v239.toNat]
def k0_off30 (k0_t2 : Fin k0_t2_loop.trips) : Fin 1 → Nat :=
  let c0_i32_127 : BitVec 32 := 0#32
  let c0_i32_41 : BitVec 32 := 0#32
  let c1_i32_43 : BitVec 32 := 1#32
  let arg11 : BitVec 32 := Scf.iv c0_i32_41 c1_i32_43 k0_t2
  let c256_i32_126 : BitVec 32 := 256#32
  let v241 : BitVec 32 := Scalar.muli arg11 c256_i32_126
  let c208_i32 : BitVec 32 := 208#32
  let v242 : BitVec 32 := Scalar.addi v241 c208_i32
  let v243 : BitVec 32 := Scalar.addi c0_i32_127 v242
  let v244 : Index := Scalar.indexCast v243
  ![v244.toNat]

def k0_chk14 (v245 : IVec S16 32) : Prop :=
  (∀ a x, ((![v245] : Fin 1 → IVec S16 32) a x).toNat < S100000.size a)
theorem k0_idx14_inb : ∀ (v245 : IVec S16 32) (k0_hw14 : k0_chk14 v245), ∀ a x, ((![v245] : Fin 1 → IVec S16 32) a x).toNat < S100000.size a := fun v245 k0_hw14 => k0_hw14
def k0_off31 (k0_t2 : Fin k0_t2_loop.trips) : Fin 1 → Nat :=
  let c0_i32_128 : BitVec 32 := 0#32
  let c0_i32_41 : BitVec 32 := 0#32
  let c1_i32_43 : BitVec 32 := 1#32
  let arg11 : BitVec 32 := Scf.iv c0_i32_41 c1_i32_43 k0_t2
  let c256_i32_126 : BitVec 32 := 256#32
  let v241 : BitVec 32 := Scalar.muli arg11 c256_i32_126
  let c208_i32 : BitVec 32 := 208#32
  let v242 : BitVec 32 := Scalar.addi v241 c208_i32
  let v247 : BitVec 32 := Scalar.addi c0_i32_128 v242
  let v248 : Index := Scalar.indexCast v247
  ![v248.toNat]
def k0_off32 (k0_t2 : Fin k0_t2_loop.trips) : Fin 1 → Nat :=
  let c0_i32_130 : BitVec 32 := 0#32
  let c0_i32_41 : BitVec 32 := 0#32
  let c1_i32_43 : BitVec 32 := 1#32
  let arg11 : BitVec 32 := Scf.iv c0_i32_41 c1_i32_43 k0_t2
  let c256_i32_129 : BitVec 32 := 256#32
  let v250 : BitVec 32 := Scalar.muli arg11 c256_i32_129
  let c224_i32 : BitVec 32 := 224#32
  let v251 : BitVec 32 := Scalar.addi v250 c224_i32
  let v252 : BitVec 32 := Scalar.addi c0_i32_130 v251
  let v253 : Index := Scalar.indexCast v252
  ![v253.toNat]

def k0_chk15 (v254 : IVec S16 32) : Prop :=
  (∀ a x, ((![v254] : Fin 1 → IVec S16 32) a x).toNat < S100000.size a)
theorem k0_idx15_inb : ∀ (v254 : IVec S16 32) (k0_hw15 : k0_chk15 v254), ∀ a x, ((![v254] : Fin 1 → IVec S16 32) a x).toNat < S100000.size a := fun v254 k0_hw15 => k0_hw15
def k0_off33 (k0_t2 : Fin k0_t2_loop.trips) : Fin 1 → Nat :=
  let c0_i32_131 : BitVec 32 := 0#32
  let c0_i32_41 : BitVec 32 := 0#32
  let c1_i32_43 : BitVec 32 := 1#32
  let arg11 : BitVec 32 := Scf.iv c0_i32_41 c1_i32_43 k0_t2
  let c256_i32_129 : BitVec 32 := 256#32
  let v250 : BitVec 32 := Scalar.muli arg11 c256_i32_129
  let c224_i32 : BitVec 32 := 224#32
  let v251 : BitVec 32 := Scalar.addi v250 c224_i32
  let v256 : BitVec 32 := Scalar.addi c0_i32_131 v251
  let v257 : Index := Scalar.indexCast v256
  ![v257.toNat]
def k0_off34 (k0_t2 : Fin k0_t2_loop.trips) : Fin 1 → Nat :=
  let c0_i32_133 : BitVec 32 := 0#32
  let c0_i32_41 : BitVec 32 := 0#32
  let c1_i32_43 : BitVec 32 := 1#32
  let arg11 : BitVec 32 := Scf.iv c0_i32_41 c1_i32_43 k0_t2
  let c256_i32_132 : BitVec 32 := 256#32
  let v259 : BitVec 32 := Scalar.muli arg11 c256_i32_132
  let c240_i32 : BitVec 32 := 240#32
  let v260 : BitVec 32 := Scalar.addi v259 c240_i32
  let v261 : BitVec 32 := Scalar.addi c0_i32_133 v260
  let v262 : Index := Scalar.indexCast v261
  ![v262.toNat]

def k0_chk16 (v263 : IVec S16 32) : Prop :=
  (∀ a x, ((![v263] : Fin 1 → IVec S16 32) a x).toNat < S100000.size a)
theorem k0_idx16_inb : ∀ (v263 : IVec S16 32) (k0_hw16 : k0_chk16 v263), ∀ a x, ((![v263] : Fin 1 → IVec S16 32) a x).toNat < S100000.size a := fun v263 k0_hw16 => k0_hw16
def k0_off35 (k0_t2 : Fin k0_t2_loop.trips) : Fin 1 → Nat :=
  let c0_i32_134 : BitVec 32 := 0#32
  let c0_i32_41 : BitVec 32 := 0#32
  let c1_i32_43 : BitVec 32 := 1#32
  let arg11 : BitVec 32 := Scf.iv c0_i32_41 c1_i32_43 k0_t2
  let c256_i32_132 : BitVec 32 := 256#32
  let v259 : BitVec 32 := Scalar.muli arg11 c256_i32_132
  let c240_i32 : BitVec 32 := 240#32
  let v260 : BitVec 32 := Scalar.addi v259 c240_i32
  let v265 : BitVec 32 := Scalar.addi c0_i32_134 v260
  let v266 : Index := Scalar.indexCast v265
  ![v266.toNat]
def k0_off36 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c0_i32_0 : BitVec 32 := 0#32
  let c1_i32 : BitVec 32 := 1#32
  let arg10 : BitVec 32 := Scf.iv c0_i32_0 c1_i32 k0_t1
  let v45 : BitVec 32 := Scalar.addi v2 arg10
  let c0_i32_23 : BitVec 32 := 0#32
  let v47 : BitVec 1 := Scalar.cmpi .sgt v45 c0_i32_23
  let v48 : BitVec 32 := Scalar.extui v47
  let c0_i32_24 : BitVec 32 := 0#32
  let v49 : BitVec 1 := Scalar.cmpi .slt v45 c0_i32_24
  let v50 : BitVec 32 := Scalar.extui v49
  let v51 : BitVec 32 := Scalar.subi v48 v50
  let c16_i32_22 : BitVec 32 := 16#32
  let c0_i32_25 : BitVec 32 := 0#32
  let v52 : BitVec 1 := Scalar.cmpi .sgt c16_i32_22 c0_i32_25
  let v53 : BitVec 32 := Scalar.extui v52
  let c0_i32_26 : BitVec 32 := 0#32
  let v54 : BitVec 1 := Scalar.cmpi .slt c16_i32_22 c0_i32_26
  let v55 : BitVec 32 := Scalar.extui v54
  let v56 : BitVec 32 := Scalar.subi v53 v55
  let v57 : BitVec 1 := Scalar.cmpi .ne v51 v56
  let v58 : BitVec 32 := Scalar.remsi v45 c16_i32_22
  let c0_i32_27 : BitVec 32 := 0#32
  let v59 : BitVec 1 := Scalar.cmpi .ne v58 c0_i32_27
  let v60 : BitVec 1 := Scalar.andi v57 v59
  let v46 : BitVec 32 := Scalar.divsi v45 c16_i32_22
  let c1_i32_28 : BitVec 32 := 1#32
  let v61 : BitVec 32 := Scalar.subi v46 c1_i32_28
  let v62 : BitVec 32 := Scalar.select v60 v61 v46
  let c16_i32_29 : BitVec 32 := 16#32
  let c0_i32_30 : BitVec 32 := 0#32
  let v63 : BitVec 1 := Scalar.cmpi .eq c16_i32_29 c0_i32_30
  let c1_i32_31 : BitVec 32 := 1#32
  let v64 : BitVec 32 := Scalar.select v63 c1_i32_31 c16_i32_29
  let v65 : BitVec 32 := Scalar.remsi v45 v64
  let c0_i32_33 : BitVec 32 := 0#32
  let v67 : BitVec 1 := Scalar.cmpi .slt v65 c0_i32_33
  let c0_i32_34 : BitVec 32 := 0#32
  let v68 : BitVec 1 := Scalar.cmpi .slt v64 c0_i32_34
  let v69 : BitVec 1 := Scalar.xori v67 v68
  let c0_i32_32 : BitVec 32 := 0#32
  let v66 : BitVec 1 := Scalar.cmpi .ne v65 c0_i32_32
  let v70 : BitVec 1 := Scalar.andi v69 v66
  let v71 : BitVec 32 := Scalar.addi v65 v64
  let v72 : BitVec 32 := Scalar.select v70 v71 v65
  let c0_i32_46 : BitVec 32 := 0#32
  ![v62.toNat, v72.toNat, 0]
def k0_cond3 (k0_t1 : Fin k0_t1_loop.trips) : BitVec 1 :=
  let c0_i32_0 : BitVec 32 := 0#32
  let c1_i32 : BitVec 32 := 1#32
  let arg10 : BitVec 32 := Scf.iv c0_i32_0 c1_i32 k0_t1
  let c0_i32_49 : BitVec 32 := 0#32
  let v88 : BitVec 1 := Scalar.cmpi .sgt arg10 c0_i32_49
  let v89 : BitVec 32 := Scalar.extui v88
  let c0_i32_50 : BitVec 32 := 0#32
  let v90 : BitVec 1 := Scalar.cmpi .ne v89 c0_i32_50
  v90

def k0_off37 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c0_i32_0 : BitVec 32 := 0#32
  let c1_i32 : BitVec 32 := 1#32
  let arg10 : BitVec 32 := Scf.iv c0_i32_0 c1_i32 k0_t1
  let v45 : BitVec 32 := Scalar.addi v2 arg10
  let c0_i32_23 : BitVec 32 := 0#32
  let v47 : BitVec 1 := Scalar.cmpi .sgt v45 c0_i32_23
  let v48 : BitVec 32 := Scalar.extui v47
  let c0_i32_24 : BitVec 32 := 0#32
  let v49 : BitVec 1 := Scalar.cmpi .slt v45 c0_i32_24
  let v50 : BitVec 32 := Scalar.extui v49
  let v51 : BitVec 32 := Scalar.subi v48 v50
  let c16_i32_22 : BitVec 32 := 16#32
  let c0_i32_25 : BitVec 32 := 0#32
  let v52 : BitVec 1 := Scalar.cmpi .sgt c16_i32_22 c0_i32_25
  let v53 : BitVec 32 := Scalar.extui v52
  let c0_i32_26 : BitVec 32 := 0#32
  let v54 : BitVec 1 := Scalar.cmpi .slt c16_i32_22 c0_i32_26
  let v55 : BitVec 32 := Scalar.extui v54
  let v56 : BitVec 32 := Scalar.subi v53 v55
  let v57 : BitVec 1 := Scalar.cmpi .ne v51 v56
  let v58 : BitVec 32 := Scalar.remsi v45 c16_i32_22
  let c0_i32_27 : BitVec 32 := 0#32
  let v59 : BitVec 1 := Scalar.cmpi .ne v58 c0_i32_27
  let v60 : BitVec 1 := Scalar.andi v57 v59
  let v46 : BitVec 32 := Scalar.divsi v45 c16_i32_22
  let c1_i32_28 : BitVec 32 := 1#32
  let v61 : BitVec 32 := Scalar.subi v46 c1_i32_28
  let v62 : BitVec 32 := Scalar.select v60 v61 v46
  let c16_i32_29 : BitVec 32 := 16#32
  let c0_i32_30 : BitVec 32 := 0#32
  let v63 : BitVec 1 := Scalar.cmpi .eq c16_i32_29 c0_i32_30
  let c1_i32_31 : BitVec 32 := 1#32
  let v64 : BitVec 32 := Scalar.select v63 c1_i32_31 c16_i32_29
  let v65 : BitVec 32 := Scalar.remsi v45 v64
  let c0_i32_33 : BitVec 32 := 0#32
  let v67 : BitVec 1 := Scalar.cmpi .slt v65 c0_i32_33
  let c0_i32_34 : BitVec 32 := 0#32
  let v68 : BitVec 1 := Scalar.cmpi .slt v64 c0_i32_34
  let v69 : BitVec 1 := Scalar.xori v67 v68
  let c0_i32_32 : BitVec 32 := 0#32
  let v66 : BitVec 1 := Scalar.cmpi .ne v65 c0_i32_32
  let v70 : BitVec 1 := Scalar.andi v69 v66
  let v71 : BitVec 32 := Scalar.addi v65 v64
  let v72 : BitVec 32 := Scalar.select v70 v71 v65
  let c4096_i32_87 : BitVec 32 := 4096#32
  ![v62.toNat, v72.toNat, 4096]
@[reducible] def k0_t3_loop : Scf.Loop 32 :=
  let c0_i32_52 : BitVec 32 := 0#32
  let c16_i32_53 : BitVec 32 := 16#32
  let v91 : BitVec 32 := Scalar.addi c0_i32_52 c16_i32_53
  let c1_i32_54 : BitVec 32 := 1#32
  ⟨c0_i32_52, v91, c1_i32_54⟩
def k0_off38 (k0_t3 : Fin k0_t3_loop.trips) : Fin 1 → Nat :=
  let c4096_i32_87 : BitVec 32 := 4096#32
  let c0_i32_52 : BitVec 32 := 0#32
  let c1_i32_54 : BitVec 32 := 1#32
  let arg11 : BitVec 32 := Scf.iv c0_i32_52 c1_i32_54 k0_t3
  let c256_i32 : BitVec 32 := 256#32
  let v124 : BitVec 32 := Scalar.muli arg11 c256_i32
  let c0_i32_86 : BitVec 32 := 0#32
  let v125 : BitVec 32 := Scalar.addi v124 c0_i32_86
  let v126 : BitVec 32 := Scalar.addi c4096_i32_87 v125
  let v127 : Index := Scalar.indexCast v126
  ![v127.toNat]

def k0_chk17 (v128 : IVec S16 32) : Prop :=
  (∀ a x, ((![v128] : Fin 1 → IVec S16 32) a x).toNat < S100000.size a)
theorem k0_idx17_inb : ∀ (v128 : IVec S16 32) (k0_hw17 : k0_chk17 v128), ∀ a x, ((![v128] : Fin 1 → IVec S16 32) a x).toNat < S100000.size a := fun v128 k0_hw17 => k0_hw17
def k0_off39 (k0_t3 : Fin k0_t3_loop.trips) : Fin 1 → Nat :=
  let c4096_i32_88 : BitVec 32 := 4096#32
  let c0_i32_52 : BitVec 32 := 0#32
  let c1_i32_54 : BitVec 32 := 1#32
  let arg11 : BitVec 32 := Scf.iv c0_i32_52 c1_i32_54 k0_t3
  let c256_i32 : BitVec 32 := 256#32
  let v124 : BitVec 32 := Scalar.muli arg11 c256_i32
  let c0_i32_86 : BitVec 32 := 0#32
  let v125 : BitVec 32 := Scalar.addi v124 c0_i32_86
  let v130 : BitVec 32 := Scalar.addi c4096_i32_88 v125
  let v131 : Index := Scalar.indexCast v130
  ![v131.toNat]
def k0_off40 (k0_t3 : Fin k0_t3_loop.trips) : Fin 1 → Nat :=
  let c4096_i32_91 : BitVec 32 := 4096#32
  let c0_i32_52 : BitVec 32 := 0#32
  let c1_i32_54 : BitVec 32 := 1#32
  let arg11 : BitVec 32 := Scf.iv c0_i32_52 c1_i32_54 k0_t3
  let c256_i32_89 : BitVec 32 := 256#32
  let v133 : BitVec 32 := Scalar.muli arg11 c256_i32_89
  let c16_i32_90 : BitVec 32 := 16#32
  let v134 : BitVec 32 := Scalar.addi v133 c16_i32_90
  let v135 : BitVec 32 := Scalar.addi c4096_i32_91 v134
  let v136 : Index := Scalar.indexCast v135
  ![v136.toNat]

def k0_chk18 (v137 : IVec S16 32) : Prop :=
  (∀ a x, ((![v137] : Fin 1 → IVec S16 32) a x).toNat < S100000.size a)
theorem k0_idx18_inb : ∀ (v137 : IVec S16 32) (k0_hw18 : k0_chk18 v137), ∀ a x, ((![v137] : Fin 1 → IVec S16 32) a x).toNat < S100000.size a := fun v137 k0_hw18 => k0_hw18
def k0_off41 (k0_t3 : Fin k0_t3_loop.trips) : Fin 1 → Nat :=
  let c4096_i32_92 : BitVec 32 := 4096#32
  let c0_i32_52 : BitVec 32 := 0#32
  let c1_i32_54 : BitVec 32 := 1#32
  let arg11 : BitVec 32 := Scf.iv c0_i32_52 c1_i32_54 k0_t3
  let c256_i32_89 : BitVec 32 := 256#32
  let v133 : BitVec 32 := Scalar.muli arg11 c256_i32_89
  let c16_i32_90 : BitVec 32 := 16#32
  let v134 : BitVec 32 := Scalar.addi v133 c16_i32_90
  let v139 : BitVec 32 := Scalar.addi c4096_i32_92 v134
  let v140 : Index := Scalar.indexCast v139
  ![v140.toNat]
def k0_off42 (k0_t3 : Fin k0_t3_loop.trips) : Fin 1 → Nat :=
  let c4096_i32_94 : BitVec 32 := 4096#32
  let c0_i32_52 : BitVec 32 := 0#32
  let c1_i32_54 : BitVec 32 := 1#32
  let arg11 : BitVec 32 := Scf.iv c0_i32_52 c1_i32_54 k0_t3
  let c256_i32_93 : BitVec 32 := 256#32
  let v142 : BitVec 32 := Scalar.muli arg11 c256_i32_93
  let c32_i32 : BitVec 32 := 32#32
  let v143 : BitVec 32 := Scalar.addi v142 c32_i32
  let v144 : BitVec 32 := Scalar.addi c4096_i32_94 v143
  let v145 : Index := Scalar.indexCast v144
  ![v145.toNat]

def k0_chk19 (v146 : IVec S16 32) : Prop :=
  (∀ a x, ((![v146] : Fin 1 → IVec S16 32) a x).toNat < S100000.size a)
theorem k0_idx19_inb : ∀ (v146 : IVec S16 32) (k0_hw19 : k0_chk19 v146), ∀ a x, ((![v146] : Fin 1 → IVec S16 32) a x).toNat < S100000.size a := fun v146 k0_hw19 => k0_hw19
def k0_off43 (k0_t3 : Fin k0_t3_loop.trips) : Fin 1 → Nat :=
  let c4096_i32_95 : BitVec 32 := 4096#32
  let c0_i32_52 : BitVec 32 := 0#32
  let c1_i32_54 : BitVec 32 := 1#32
  let arg11 : BitVec 32 := Scf.iv c0_i32_52 c1_i32_54 k0_t3
  let c256_i32_93 : BitVec 32 := 256#32
  let v142 : BitVec 32 := Scalar.muli arg11 c256_i32_93
  let c32_i32 : BitVec 32 := 32#32
  let v143 : BitVec 32 := Scalar.addi v142 c32_i32
  let v148 : BitVec 32 := Scalar.addi c4096_i32_95 v143
  let v149 : Index := Scalar.indexCast v148
  ![v149.toNat]
def k0_off44 (k0_t3 : Fin k0_t3_loop.trips) : Fin 1 → Nat :=
  let c4096_i32_97 : BitVec 32 := 4096#32
  let c0_i32_52 : BitVec 32 := 0#32
  let c1_i32_54 : BitVec 32 := 1#32
  let arg11 : BitVec 32 := Scf.iv c0_i32_52 c1_i32_54 k0_t3
  let c256_i32_96 : BitVec 32 := 256#32
  let v151 : BitVec 32 := Scalar.muli arg11 c256_i32_96
  let c48_i32 : BitVec 32 := 48#32
  let v152 : BitVec 32 := Scalar.addi v151 c48_i32
  let v153 : BitVec 32 := Scalar.addi c4096_i32_97 v152
  let v154 : Index := Scalar.indexCast v153
  ![v154.toNat]

def k0_chk20 (v155 : IVec S16 32) : Prop :=
  (∀ a x, ((![v155] : Fin 1 → IVec S16 32) a x).toNat < S100000.size a)
theorem k0_idx20_inb : ∀ (v155 : IVec S16 32) (k0_hw20 : k0_chk20 v155), ∀ a x, ((![v155] : Fin 1 → IVec S16 32) a x).toNat < S100000.size a := fun v155 k0_hw20 => k0_hw20
def k0_off45 (k0_t3 : Fin k0_t3_loop.trips) : Fin 1 → Nat :=
  let c4096_i32_98 : BitVec 32 := 4096#32
  let c0_i32_52 : BitVec 32 := 0#32
  let c1_i32_54 : BitVec 32 := 1#32
  let arg11 : BitVec 32 := Scf.iv c0_i32_52 c1_i32_54 k0_t3
  let c256_i32_96 : BitVec 32 := 256#32
  let v151 : BitVec 32 := Scalar.muli arg11 c256_i32_96
  let c48_i32 : BitVec 32 := 48#32
  let v152 : BitVec 32 := Scalar.addi v151 c48_i32
  let v157 : BitVec 32 := Scalar.addi c4096_i32_98 v152
  let v158 : Index := Scalar.indexCast v157
  ![v158.toNat]
def k0_off46 (k0_t3 : Fin k0_t3_loop.trips) : Fin 1 → Nat :=
  let c4096_i32_100 : BitVec 32 := 4096#32
  let c0_i32_52 : BitVec 32 := 0#32
  let c1_i32_54 : BitVec 32 := 1#32
  let arg11 : BitVec 32 := Scf.iv c0_i32_52 c1_i32_54 k0_t3
  let c256_i32_99 : BitVec 32 := 256#32
  let v160 : BitVec 32 := Scalar.muli arg11 c256_i32_99
  let c64_i32 : BitVec 32 := 64#32
  let v161 : BitVec 32 := Scalar.addi v160 c64_i32
  let v162 : BitVec 32 := Scalar.addi c4096_i32_100 v161
  let v163 : Index := Scalar.indexCast v162
  ![v163.toNat]

def k0_chk21 (v164 : IVec S16 32) : Prop :=
  (∀ a x, ((![v164] : Fin 1 → IVec S16 32) a x).toNat < S100000.size a)
theorem k0_idx21_inb : ∀ (v164 : IVec S16 32) (k0_hw21 : k0_chk21 v164), ∀ a x, ((![v164] : Fin 1 → IVec S16 32) a x).toNat < S100000.size a := fun v164 k0_hw21 => k0_hw21
def k0_off47 (k0_t3 : Fin k0_t3_loop.trips) : Fin 1 → Nat :=
  let c4096_i32_101 : BitVec 32 := 4096#32
  let c0_i32_52 : BitVec 32 := 0#32
  let c1_i32_54 : BitVec 32 := 1#32
  let arg11 : BitVec 32 := Scf.iv c0_i32_52 c1_i32_54 k0_t3
  let c256_i32_99 : BitVec 32 := 256#32
  let v160 : BitVec 32 := Scalar.muli arg11 c256_i32_99
  let c64_i32 : BitVec 32 := 64#32
  let v161 : BitVec 32 := Scalar.addi v160 c64_i32
  let v166 : BitVec 32 := Scalar.addi c4096_i32_101 v161
  let v167 : Index := Scalar.indexCast v166
  ![v167.toNat]
def k0_off48 (k0_t3 : Fin k0_t3_loop.trips) : Fin 1 → Nat :=
  let c4096_i32_103 : BitVec 32 := 4096#32
  let c0_i32_52 : BitVec 32 := 0#32
  let c1_i32_54 : BitVec 32 := 1#32
  let arg11 : BitVec 32 := Scf.iv c0_i32_52 c1_i32_54 k0_t3
  let c256_i32_102 : BitVec 32 := 256#32
  let v169 : BitVec 32 := Scalar.muli arg11 c256_i32_102
  let c80_i32 : BitVec 32 := 80#32
  let v170 : BitVec 32 := Scalar.addi v169 c80_i32
  let v171 : BitVec 32 := Scalar.addi c4096_i32_103 v170
  let v172 : Index := Scalar.indexCast v171
  ![v172.toNat]

def k0_chk22 (v173 : IVec S16 32) : Prop :=
  (∀ a x, ((![v173] : Fin 1 → IVec S16 32) a x).toNat < S100000.size a)
theorem k0_idx22_inb : ∀ (v173 : IVec S16 32) (k0_hw22 : k0_chk22 v173), ∀ a x, ((![v173] : Fin 1 → IVec S16 32) a x).toNat < S100000.size a := fun v173 k0_hw22 => k0_hw22
def k0_off49 (k0_t3 : Fin k0_t3_loop.trips) : Fin 1 → Nat :=
  let c4096_i32_104 : BitVec 32 := 4096#32
  let c0_i32_52 : BitVec 32 := 0#32
  let c1_i32_54 : BitVec 32 := 1#32
  let arg11 : BitVec 32 := Scf.iv c0_i32_52 c1_i32_54 k0_t3
  let c256_i32_102 : BitVec 32 := 256#32
  let v169 : BitVec 32 := Scalar.muli arg11 c256_i32_102
  let c80_i32 : BitVec 32 := 80#32
  let v170 : BitVec 32 := Scalar.addi v169 c80_i32
  let v175 : BitVec 32 := Scalar.addi c4096_i32_104 v170
  let v176 : Index := Scalar.indexCast v175
  ![v176.toNat]
def k0_off50 (k0_t3 : Fin k0_t3_loop.trips) : Fin 1 → Nat :=
  let c4096_i32_106 : BitVec 32 := 4096#32
  let c0_i32_52 : BitVec 32 := 0#32
  let c1_i32_54 : BitVec 32 := 1#32
  let arg11 : BitVec 32 := Scf.iv c0_i32_52 c1_i32_54 k0_t3
  let c256_i32_105 : BitVec 32 := 256#32
  let v178 : BitVec 32 := Scalar.muli arg11 c256_i32_105
  let c96_i32 : BitVec 32 := 96#32
  let v179 : BitVec 32 := Scalar.addi v178 c96_i32
  let v180 : BitVec 32 := Scalar.addi c4096_i32_106 v179
  let v181 : Index := Scalar.indexCast v180
  ![v181.toNat]

def k0_chk23 (v182 : IVec S16 32) : Prop :=
  (∀ a x, ((![v182] : Fin 1 → IVec S16 32) a x).toNat < S100000.size a)
theorem k0_idx23_inb : ∀ (v182 : IVec S16 32) (k0_hw23 : k0_chk23 v182), ∀ a x, ((![v182] : Fin 1 → IVec S16 32) a x).toNat < S100000.size a := fun v182 k0_hw23 => k0_hw23
def k0_off51 (k0_t3 : Fin k0_t3_loop.trips) : Fin 1 → Nat :=
  let c4096_i32_107 : BitVec 32 := 4096#32
  let c0_i32_52 : BitVec 32 := 0#32
  let c1_i32_54 : BitVec 32 := 1#32
  let arg11 : BitVec 32 := Scf.iv c0_i32_52 c1_i32_54 k0_t3
  let c256_i32_105 : BitVec 32 := 256#32
  let v178 : BitVec 32 := Scalar.muli arg11 c256_i32_105
  let c96_i32 : BitVec 32 := 96#32
  let v179 : BitVec 32 := Scalar.addi v178 c96_i32
  let v184 : BitVec 32 := Scalar.addi c4096_i32_107 v179
  let v185 : Index := Scalar.indexCast v184
  ![v185.toNat]
def k0_off52 (k0_t3 : Fin k0_t3_loop.trips) : Fin 1 → Nat :=
  let c4096_i32_109 : BitVec 32 := 4096#32
  let c0_i32_52 : BitVec 32 := 0#32
  let c1_i32_54 : BitVec 32 := 1#32
  let arg11 : BitVec 32 := Scf.iv c0_i32_52 c1_i32_54 k0_t3
  let c256_i32_108 : BitVec 32 := 256#32
  let v187 : BitVec 32 := Scalar.muli arg11 c256_i32_108
  let c112_i32 : BitVec 32 := 112#32
  let v188 : BitVec 32 := Scalar.addi v187 c112_i32
  let v189 : BitVec 32 := Scalar.addi c4096_i32_109 v188
  let v190 : Index := Scalar.indexCast v189
  ![v190.toNat]

def k0_chk24 (v191 : IVec S16 32) : Prop :=
  (∀ a x, ((![v191] : Fin 1 → IVec S16 32) a x).toNat < S100000.size a)
theorem k0_idx24_inb : ∀ (v191 : IVec S16 32) (k0_hw24 : k0_chk24 v191), ∀ a x, ((![v191] : Fin 1 → IVec S16 32) a x).toNat < S100000.size a := fun v191 k0_hw24 => k0_hw24
def k0_off53 (k0_t3 : Fin k0_t3_loop.trips) : Fin 1 → Nat :=
  let c4096_i32_110 : BitVec 32 := 4096#32
  let c0_i32_52 : BitVec 32 := 0#32
  let c1_i32_54 : BitVec 32 := 1#32
  let arg11 : BitVec 32 := Scf.iv c0_i32_52 c1_i32_54 k0_t3
  let c256_i32_108 : BitVec 32 := 256#32
  let v187 : BitVec 32 := Scalar.muli arg11 c256_i32_108
  let c112_i32 : BitVec 32 := 112#32
  let v188 : BitVec 32 := Scalar.addi v187 c112_i32
  let v193 : BitVec 32 := Scalar.addi c4096_i32_110 v188
  let v194 : Index := Scalar.indexCast v193
  ![v194.toNat]
def k0_off54 (k0_t3 : Fin k0_t3_loop.trips) : Fin 1 → Nat :=
  let c4096_i32_112 : BitVec 32 := 4096#32
  let c0_i32_52 : BitVec 32 := 0#32
  let c1_i32_54 : BitVec 32 := 1#32
  let arg11 : BitVec 32 := Scf.iv c0_i32_52 c1_i32_54 k0_t3
  let c256_i32_111 : BitVec 32 := 256#32
  let v196 : BitVec 32 := Scalar.muli arg11 c256_i32_111
  let c128_i32 : BitVec 32 := 128#32
  let v197 : BitVec 32 := Scalar.addi v196 c128_i32
  let v198 : BitVec 32 := Scalar.addi c4096_i32_112 v197
  let v199 : Index := Scalar.indexCast v198
  ![v199.toNat]

def k0_chk25 (v200 : IVec S16 32) : Prop :=
  (∀ a x, ((![v200] : Fin 1 → IVec S16 32) a x).toNat < S100000.size a)
theorem k0_idx25_inb : ∀ (v200 : IVec S16 32) (k0_hw25 : k0_chk25 v200), ∀ a x, ((![v200] : Fin 1 → IVec S16 32) a x).toNat < S100000.size a := fun v200 k0_hw25 => k0_hw25
def k0_off55 (k0_t3 : Fin k0_t3_loop.trips) : Fin 1 → Nat :=
  let c4096_i32_113 : BitVec 32 := 4096#32
  let c0_i32_52 : BitVec 32 := 0#32
  let c1_i32_54 : BitVec 32 := 1#32
  let arg11 : BitVec 32 := Scf.iv c0_i32_52 c1_i32_54 k0_t3
  let c256_i32_111 : BitVec 32 := 256#32
  let v196 : BitVec 32 := Scalar.muli arg11 c256_i32_111
  let c128_i32 : BitVec 32 := 128#32
  let v197 : BitVec 32 := Scalar.addi v196 c128_i32
  let v202 : BitVec 32 := Scalar.addi c4096_i32_113 v197
  let v203 : Index := Scalar.indexCast v202
  ![v203.toNat]
def k0_off56 (k0_t3 : Fin k0_t3_loop.trips) : Fin 1 → Nat :=
  let c4096_i32_115 : BitVec 32 := 4096#32
  let c0_i32_52 : BitVec 32 := 0#32
  let c1_i32_54 : BitVec 32 := 1#32
  let arg11 : BitVec 32 := Scf.iv c0_i32_52 c1_i32_54 k0_t3
  let c256_i32_114 : BitVec 32 := 256#32
  let v205 : BitVec 32 := Scalar.muli arg11 c256_i32_114
  let c144_i32 : BitVec 32 := 144#32
  let v206 : BitVec 32 := Scalar.addi v205 c144_i32
  let v207 : BitVec 32 := Scalar.addi c4096_i32_115 v206
  let v208 : Index := Scalar.indexCast v207
  ![v208.toNat]

def k0_chk26 (v209 : IVec S16 32) : Prop :=
  (∀ a x, ((![v209] : Fin 1 → IVec S16 32) a x).toNat < S100000.size a)
theorem k0_idx26_inb : ∀ (v209 : IVec S16 32) (k0_hw26 : k0_chk26 v209), ∀ a x, ((![v209] : Fin 1 → IVec S16 32) a x).toNat < S100000.size a := fun v209 k0_hw26 => k0_hw26
def k0_off57 (k0_t3 : Fin k0_t3_loop.trips) : Fin 1 → Nat :=
  let c4096_i32_116 : BitVec 32 := 4096#32
  let c0_i32_52 : BitVec 32 := 0#32
  let c1_i32_54 : BitVec 32 := 1#32
  let arg11 : BitVec 32 := Scf.iv c0_i32_52 c1_i32_54 k0_t3
  let c256_i32_114 : BitVec 32 := 256#32
  let v205 : BitVec 32 := Scalar.muli arg11 c256_i32_114
  let c144_i32 : BitVec 32 := 144#32
  let v206 : BitVec 32 := Scalar.addi v205 c144_i32
  let v211 : BitVec 32 := Scalar.addi c4096_i32_116 v206
  let v212 : Index := Scalar.indexCast v211
  ![v212.toNat]
def k0_off58 (k0_t3 : Fin k0_t3_loop.trips) : Fin 1 → Nat :=
  let c4096_i32_118 : BitVec 32 := 4096#32
  let c0_i32_52 : BitVec 32 := 0#32
  let c1_i32_54 : BitVec 32 := 1#32
  let arg11 : BitVec 32 := Scf.iv c0_i32_52 c1_i32_54 k0_t3
  let c256_i32_117 : BitVec 32 := 256#32
  let v214 : BitVec 32 := Scalar.muli arg11 c256_i32_117
  let c160_i32 : BitVec 32 := 160#32
  let v215 : BitVec 32 := Scalar.addi v214 c160_i32
  let v216 : BitVec 32 := Scalar.addi c4096_i32_118 v215
  let v217 : Index := Scalar.indexCast v216
  ![v217.toNat]

def k0_chk27 (v218 : IVec S16 32) : Prop :=
  (∀ a x, ((![v218] : Fin 1 → IVec S16 32) a x).toNat < S100000.size a)
theorem k0_idx27_inb : ∀ (v218 : IVec S16 32) (k0_hw27 : k0_chk27 v218), ∀ a x, ((![v218] : Fin 1 → IVec S16 32) a x).toNat < S100000.size a := fun v218 k0_hw27 => k0_hw27
def k0_off59 (k0_t3 : Fin k0_t3_loop.trips) : Fin 1 → Nat :=
  let c4096_i32_119 : BitVec 32 := 4096#32
  let c0_i32_52 : BitVec 32 := 0#32
  let c1_i32_54 : BitVec 32 := 1#32
  let arg11 : BitVec 32 := Scf.iv c0_i32_52 c1_i32_54 k0_t3
  let c256_i32_117 : BitVec 32 := 256#32
  let v214 : BitVec 32 := Scalar.muli arg11 c256_i32_117
  let c160_i32 : BitVec 32 := 160#32
  let v215 : BitVec 32 := Scalar.addi v214 c160_i32
  let v220 : BitVec 32 := Scalar.addi c4096_i32_119 v215
  let v221 : Index := Scalar.indexCast v220
  ![v221.toNat]
def k0_off60 (k0_t3 : Fin k0_t3_loop.trips) : Fin 1 → Nat :=
  let c4096_i32_121 : BitVec 32 := 4096#32
  let c0_i32_52 : BitVec 32 := 0#32
  let c1_i32_54 : BitVec 32 := 1#32
  let arg11 : BitVec 32 := Scf.iv c0_i32_52 c1_i32_54 k0_t3
  let c256_i32_120 : BitVec 32 := 256#32
  let v223 : BitVec 32 := Scalar.muli arg11 c256_i32_120
  let c176_i32 : BitVec 32 := 176#32
  let v224 : BitVec 32 := Scalar.addi v223 c176_i32
  let v225 : BitVec 32 := Scalar.addi c4096_i32_121 v224
  let v226 : Index := Scalar.indexCast v225
  ![v226.toNat]

def k0_chk28 (v227 : IVec S16 32) : Prop :=
  (∀ a x, ((![v227] : Fin 1 → IVec S16 32) a x).toNat < S100000.size a)
theorem k0_idx28_inb : ∀ (v227 : IVec S16 32) (k0_hw28 : k0_chk28 v227), ∀ a x, ((![v227] : Fin 1 → IVec S16 32) a x).toNat < S100000.size a := fun v227 k0_hw28 => k0_hw28
def k0_off61 (k0_t3 : Fin k0_t3_loop.trips) : Fin 1 → Nat :=
  let c4096_i32_122 : BitVec 32 := 4096#32
  let c0_i32_52 : BitVec 32 := 0#32
  let c1_i32_54 : BitVec 32 := 1#32
  let arg11 : BitVec 32 := Scf.iv c0_i32_52 c1_i32_54 k0_t3
  let c256_i32_120 : BitVec 32 := 256#32
  let v223 : BitVec 32 := Scalar.muli arg11 c256_i32_120
  let c176_i32 : BitVec 32 := 176#32
  let v224 : BitVec 32 := Scalar.addi v223 c176_i32
  let v229 : BitVec 32 := Scalar.addi c4096_i32_122 v224
  let v230 : Index := Scalar.indexCast v229
  ![v230.toNat]
def k0_off62 (k0_t3 : Fin k0_t3_loop.trips) : Fin 1 → Nat :=
  let c4096_i32_124 : BitVec 32 := 4096#32
  let c0_i32_52 : BitVec 32 := 0#32
  let c1_i32_54 : BitVec 32 := 1#32
  let arg11 : BitVec 32 := Scf.iv c0_i32_52 c1_i32_54 k0_t3
  let c256_i32_123 : BitVec 32 := 256#32
  let v232 : BitVec 32 := Scalar.muli arg11 c256_i32_123
  let c192_i32 : BitVec 32 := 192#32
  let v233 : BitVec 32 := Scalar.addi v232 c192_i32
  let v234 : BitVec 32 := Scalar.addi c4096_i32_124 v233
  let v235 : Index := Scalar.indexCast v234
  ![v235.toNat]

def k0_chk29 (v236 : IVec S16 32) : Prop :=
  (∀ a x, ((![v236] : Fin 1 → IVec S16 32) a x).toNat < S100000.size a)
theorem k0_idx29_inb : ∀ (v236 : IVec S16 32) (k0_hw29 : k0_chk29 v236), ∀ a x, ((![v236] : Fin 1 → IVec S16 32) a x).toNat < S100000.size a := fun v236 k0_hw29 => k0_hw29
def k0_off63 (k0_t3 : Fin k0_t3_loop.trips) : Fin 1 → Nat :=
  let c4096_i32_125 : BitVec 32 := 4096#32
  let c0_i32_52 : BitVec 32 := 0#32
  let c1_i32_54 : BitVec 32 := 1#32
  let arg11 : BitVec 32 := Scf.iv c0_i32_52 c1_i32_54 k0_t3
  let c256_i32_123 : BitVec 32 := 256#32
  let v232 : BitVec 32 := Scalar.muli arg11 c256_i32_123
  let c192_i32 : BitVec 32 := 192#32
  let v233 : BitVec 32 := Scalar.addi v232 c192_i32
  let v238 : BitVec 32 := Scalar.addi c4096_i32_125 v233
  let v239 : Index := Scalar.indexCast v238
  ![v239.toNat]
def k0_off64 (k0_t3 : Fin k0_t3_loop.trips) : Fin 1 → Nat :=
  let c4096_i32_127 : BitVec 32 := 4096#32
  let c0_i32_52 : BitVec 32 := 0#32
  let c1_i32_54 : BitVec 32 := 1#32
  let arg11 : BitVec 32 := Scf.iv c0_i32_52 c1_i32_54 k0_t3
  let c256_i32_126 : BitVec 32 := 256#32
  let v241 : BitVec 32 := Scalar.muli arg11 c256_i32_126
  let c208_i32 : BitVec 32 := 208#32
  let v242 : BitVec 32 := Scalar.addi v241 c208_i32
  let v243 : BitVec 32 := Scalar.addi c4096_i32_127 v242
  let v244 : Index := Scalar.indexCast v243
  ![v244.toNat]

def k0_chk30 (v245 : IVec S16 32) : Prop :=
  (∀ a x, ((![v245] : Fin 1 → IVec S16 32) a x).toNat < S100000.size a)
theorem k0_idx30_inb : ∀ (v245 : IVec S16 32) (k0_hw30 : k0_chk30 v245), ∀ a x, ((![v245] : Fin 1 → IVec S16 32) a x).toNat < S100000.size a := fun v245 k0_hw30 => k0_hw30
def k0_off65 (k0_t3 : Fin k0_t3_loop.trips) : Fin 1 → Nat :=
  let c4096_i32_128 : BitVec 32 := 4096#32
  let c0_i32_52 : BitVec 32 := 0#32
  let c1_i32_54 : BitVec 32 := 1#32
  let arg11 : BitVec 32 := Scf.iv c0_i32_52 c1_i32_54 k0_t3
  let c256_i32_126 : BitVec 32 := 256#32
  let v241 : BitVec 32 := Scalar.muli arg11 c256_i32_126
  let c208_i32 : BitVec 32 := 208#32
  let v242 : BitVec 32 := Scalar.addi v241 c208_i32
  let v247 : BitVec 32 := Scalar.addi c4096_i32_128 v242
  let v248 : Index := Scalar.indexCast v247
  ![v248.toNat]
def k0_off66 (k0_t3 : Fin k0_t3_loop.trips) : Fin 1 → Nat :=
  let c4096_i32_130 : BitVec 32 := 4096#32
  let c0_i32_52 : BitVec 32 := 0#32
  let c1_i32_54 : BitVec 32 := 1#32
  let arg11 : BitVec 32 := Scf.iv c0_i32_52 c1_i32_54 k0_t3
  let c256_i32_129 : BitVec 32 := 256#32
  let v250 : BitVec 32 := Scalar.muli arg11 c256_i32_129
  let c224_i32 : BitVec 32 := 224#32
  let v251 : BitVec 32 := Scalar.addi v250 c224_i32
  let v252 : BitVec 32 := Scalar.addi c4096_i32_130 v251
  let v253 : Index := Scalar.indexCast v252
  ![v253.toNat]

def k0_chk31 (v254 : IVec S16 32) : Prop :=
  (∀ a x, ((![v254] : Fin 1 → IVec S16 32) a x).toNat < S100000.size a)
theorem k0_idx31_inb : ∀ (v254 : IVec S16 32) (k0_hw31 : k0_chk31 v254), ∀ a x, ((![v254] : Fin 1 → IVec S16 32) a x).toNat < S100000.size a := fun v254 k0_hw31 => k0_hw31
def k0_off67 (k0_t3 : Fin k0_t3_loop.trips) : Fin 1 → Nat :=
  let c4096_i32_131 : BitVec 32 := 4096#32
  let c0_i32_52 : BitVec 32 := 0#32
  let c1_i32_54 : BitVec 32 := 1#32
  let arg11 : BitVec 32 := Scf.iv c0_i32_52 c1_i32_54 k0_t3
  let c256_i32_129 : BitVec 32 := 256#32
  let v250 : BitVec 32 := Scalar.muli arg11 c256_i32_129
  let c224_i32 : BitVec 32 := 224#32
  let v251 : BitVec 32 := Scalar.addi v250 c224_i32
  let v256 : BitVec 32 := Scalar.addi c4096_i32_131 v251
  let v257 : Index := Scalar.indexCast v256
  ![v257.toNat]
def k0_off68 (k0_t3 : Fin k0_t3_loop.trips) : Fin 1 → Nat :=
  let c4096_i32_133 : BitVec 32 := 4096#32
  let c0_i32_52 : BitVec 32 := 0#32
  let c1_i32_54 : BitVec 32 := 1#32
  let arg11 : BitVec 32 := Scf.iv c0_i32_52 c1_i32_54 k0_t3
  let c256_i32_132 : BitVec 32 := 256#32
  let v259 : BitVec 32 := Scalar.muli arg11 c256_i32_132
  let c240_i32 : BitVec 32 := 240#32
  let v260 : BitVec 32 := Scalar.addi v259 c240_i32
  let v261 : BitVec 32 := Scalar.addi c4096_i32_133 v260
  let v262 : Index := Scalar.indexCast v261
  ![v262.toNat]

def k0_chk32 (v263 : IVec S16 32) : Prop :=
  (∀ a x, ((![v263] : Fin 1 → IVec S16 32) a x).toNat < S100000.size a)
theorem k0_idx32_inb : ∀ (v263 : IVec S16 32) (k0_hw32 : k0_chk32 v263), ∀ a x, ((![v263] : Fin 1 → IVec S16 32) a x).toNat < S100000.size a := fun v263 k0_hw32 => k0_hw32
def k0_off69 (k0_t3 : Fin k0_t3_loop.trips) : Fin 1 → Nat :=
  let c4096_i32_134 : BitVec 32 := 4096#32
  let c0_i32_52 : BitVec 32 := 0#32
  let c1_i32_54 : BitVec 32 := 1#32
  let arg11 : BitVec 32 := Scf.iv c0_i32_52 c1_i32_54 k0_t3
  let c256_i32_132 : BitVec 32 := 256#32
  let v259 : BitVec 32 := Scalar.muli arg11 c256_i32_132
  let c240_i32 : BitVec 32 := 240#32
  let v260 : BitVec 32 := Scalar.addi v259 c240_i32
  let v265 : BitVec 32 := Scalar.addi c4096_i32_134 v260
  let v266 : Index := Scalar.indexCast v265
  ![v266.toNat]
def k0_off70 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c0_i32_0 : BitVec 32 := 0#32
  let c1_i32 : BitVec 32 := 1#32
  let arg10 : BitVec 32 := Scf.iv c0_i32_0 c1_i32 k0_t1
  let v45 : BitVec 32 := Scalar.addi v2 arg10
  let c0_i32_23 : BitVec 32 := 0#32
  let v47 : BitVec 1 := Scalar.cmpi .sgt v45 c0_i32_23
  let v48 : BitVec 32 := Scalar.extui v47
  let c0_i32_24 : BitVec 32 := 0#32
  let v49 : BitVec 1 := Scalar.cmpi .slt v45 c0_i32_24
  let v50 : BitVec 32 := Scalar.extui v49
  let v51 : BitVec 32 := Scalar.subi v48 v50
  let c16_i32_22 : BitVec 32 := 16#32
  let c0_i32_25 : BitVec 32 := 0#32
  let v52 : BitVec 1 := Scalar.cmpi .sgt c16_i32_22 c0_i32_25
  let v53 : BitVec 32 := Scalar.extui v52
  let c0_i32_26 : BitVec 32 := 0#32
  let v54 : BitVec 1 := Scalar.cmpi .slt c16_i32_22 c0_i32_26
  let v55 : BitVec 32 := Scalar.extui v54
  let v56 : BitVec 32 := Scalar.subi v53 v55
  let v57 : BitVec 1 := Scalar.cmpi .ne v51 v56
  let v58 : BitVec 32 := Scalar.remsi v45 c16_i32_22
  let c0_i32_27 : BitVec 32 := 0#32
  let v59 : BitVec 1 := Scalar.cmpi .ne v58 c0_i32_27
  let v60 : BitVec 1 := Scalar.andi v57 v59
  let v46 : BitVec 32 := Scalar.divsi v45 c16_i32_22
  let c1_i32_28 : BitVec 32 := 1#32
  let v61 : BitVec 32 := Scalar.subi v46 c1_i32_28
  let v62 : BitVec 32 := Scalar.select v60 v61 v46
  let c16_i32_29 : BitVec 32 := 16#32
  let c0_i32_30 : BitVec 32 := 0#32
  let v63 : BitVec 1 := Scalar.cmpi .eq c16_i32_29 c0_i32_30
  let c1_i32_31 : BitVec 32 := 1#32
  let v64 : BitVec 32 := Scalar.select v63 c1_i32_31 c16_i32_29
  let v65 : BitVec 32 := Scalar.remsi v45 v64
  let c0_i32_33 : BitVec 32 := 0#32
  let v67 : BitVec 1 := Scalar.cmpi .slt v65 c0_i32_33
  let c0_i32_34 : BitVec 32 := 0#32
  let v68 : BitVec 1 := Scalar.cmpi .slt v64 c0_i32_34
  let v69 : BitVec 1 := Scalar.xori v67 v68
  let c0_i32_32 : BitVec 32 := 0#32
  let v66 : BitVec 1 := Scalar.cmpi .ne v65 c0_i32_32
  let v70 : BitVec 1 := Scalar.andi v69 v66
  let v71 : BitVec 32 := Scalar.addi v65 v64
  let v72 : BitVec 32 := Scalar.select v70 v71 v65
  let c4096_i32_57 : BitVec 32 := 4096#32
  ![v62.toNat, v72.toNat, 4096]
def k0_off71 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c0_i32_0 : BitVec 32 := 0#32
  let c1_i32 : BitVec 32 := 1#32
  let arg10 : BitVec 32 := Scf.iv c0_i32_0 c1_i32 k0_t1
  let v45 : BitVec 32 := Scalar.addi v2 arg10
  let c0_i32_23 : BitVec 32 := 0#32
  let v47 : BitVec 1 := Scalar.cmpi .sgt v45 c0_i32_23
  let v48 : BitVec 32 := Scalar.extui v47
  let c0_i32_24 : BitVec 32 := 0#32
  let v49 : BitVec 1 := Scalar.cmpi .slt v45 c0_i32_24
  let v50 : BitVec 32 := Scalar.extui v49
  let v51 : BitVec 32 := Scalar.subi v48 v50
  let c16_i32_22 : BitVec 32 := 16#32
  let c0_i32_25 : BitVec 32 := 0#32
  let v52 : BitVec 1 := Scalar.cmpi .sgt c16_i32_22 c0_i32_25
  let v53 : BitVec 32 := Scalar.extui v52
  let c0_i32_26 : BitVec 32 := 0#32
  let v54 : BitVec 1 := Scalar.cmpi .slt c16_i32_22 c0_i32_26
  let v55 : BitVec 32 := Scalar.extui v54
  let v56 : BitVec 32 := Scalar.subi v53 v55
  let v57 : BitVec 1 := Scalar.cmpi .ne v51 v56
  let v58 : BitVec 32 := Scalar.remsi v45 c16_i32_22
  let c0_i32_27 : BitVec 32 := 0#32
  let v59 : BitVec 1 := Scalar.cmpi .ne v58 c0_i32_27
  let v60 : BitVec 1 := Scalar.andi v57 v59
  let v46 : BitVec 32 := Scalar.divsi v45 c16_i32_22
  let c1_i32_28 : BitVec 32 := 1#32
  let v61 : BitVec 32 := Scalar.subi v46 c1_i32_28
  let v62 : BitVec 32 := Scalar.select v60 v61 v46
  let c16_i32_29 : BitVec 32 := 16#32
  let c0_i32_30 : BitVec 32 := 0#32
  let v63 : BitVec 1 := Scalar.cmpi .eq c16_i32_29 c0_i32_30
  let c1_i32_31 : BitVec 32 := 1#32
  let v64 : BitVec 32 := Scalar.select v63 c1_i32_31 c16_i32_29
  let v65 : BitVec 32 := Scalar.remsi v45 v64
  let c0_i32_33 : BitVec 32 := 0#32
  let v67 : BitVec 1 := Scalar.cmpi .slt v65 c0_i32_33
  let c0_i32_34 : BitVec 32 := 0#32
  let v68 : BitVec 1 := Scalar.cmpi .slt v64 c0_i32_34
  let v69 : BitVec 1 := Scalar.xori v67 v68
  let c0_i32_32 : BitVec 32 := 0#32
  let v66 : BitVec 1 := Scalar.cmpi .ne v65 c0_i32_32
  let v70 : BitVec 1 := Scalar.andi v69 v66
  let v71 : BitVec 32 := Scalar.addi v65 v64
  let v72 : BitVec 32 := Scalar.select v70 v71 v65
  let c8192_i32_61 : BitVec 32 := 8192#32
  ![v62.toNat, v72.toNat, 8192]
@[reducible] def k0_t4_loop : Scf.Loop 32 :=
  let c0_i32_65 : BitVec 32 := 0#32
  let c16_i32_66 : BitVec 32 := 16#32
  let v104 : BitVec 32 := Scalar.addi c0_i32_65 c16_i32_66
  let c1_i32_67 : BitVec 32 := 1#32
  ⟨c0_i32_65, v104, c1_i32_67⟩
def k0_off72 (k0_t4 : Fin k0_t4_loop.trips) : Fin 1 → Nat :=
  let c8192_i32_87 : BitVec 32 := 8192#32
  let c0_i32_65 : BitVec 32 := 0#32
  let c1_i32_67 : BitVec 32 := 1#32
  let arg11 : BitVec 32 := Scf.iv c0_i32_65 c1_i32_67 k0_t4
  let c256_i32 : BitVec 32 := 256#32
  let v124 : BitVec 32 := Scalar.muli arg11 c256_i32
  let c0_i32_86 : BitVec 32 := 0#32
  let v125 : BitVec 32 := Scalar.addi v124 c0_i32_86
  let v126 : BitVec 32 := Scalar.addi c8192_i32_87 v125
  let v127 : Index := Scalar.indexCast v126
  ![v127.toNat]

def k0_chk33 (v128 : IVec S16 32) : Prop :=
  (∀ a x, ((![v128] : Fin 1 → IVec S16 32) a x).toNat < S100000.size a)
theorem k0_idx33_inb : ∀ (v128 : IVec S16 32) (k0_hw33 : k0_chk33 v128), ∀ a x, ((![v128] : Fin 1 → IVec S16 32) a x).toNat < S100000.size a := fun v128 k0_hw33 => k0_hw33
def k0_off73 (k0_t4 : Fin k0_t4_loop.trips) : Fin 1 → Nat :=
  let c0_i32_88 : BitVec 32 := 0#32
  let c0_i32_65 : BitVec 32 := 0#32
  let c1_i32_67 : BitVec 32 := 1#32
  let arg11 : BitVec 32 := Scf.iv c0_i32_65 c1_i32_67 k0_t4
  let c256_i32 : BitVec 32 := 256#32
  let v124 : BitVec 32 := Scalar.muli arg11 c256_i32
  let c0_i32_86 : BitVec 32 := 0#32
  let v125 : BitVec 32 := Scalar.addi v124 c0_i32_86
  let v130 : BitVec 32 := Scalar.addi c0_i32_88 v125
  let v131 : Index := Scalar.indexCast v130
  ![v131.toNat]
def k0_off74 (k0_t4 : Fin k0_t4_loop.trips) : Fin 1 → Nat :=
  let c8192_i32_91 : BitVec 32 := 8192#32
  let c0_i32_65 : BitVec 32 := 0#32
  let c1_i32_67 : BitVec 32 := 1#32
  let arg11 : BitVec 32 := Scf.iv c0_i32_65 c1_i32_67 k0_t4
  let c256_i32_89 : BitVec 32 := 256#32
  let v133 : BitVec 32 := Scalar.muli arg11 c256_i32_89
  let c16_i32_90 : BitVec 32 := 16#32
  let v134 : BitVec 32 := Scalar.addi v133 c16_i32_90
  let v135 : BitVec 32 := Scalar.addi c8192_i32_91 v134
  let v136 : Index := Scalar.indexCast v135
  ![v136.toNat]

def k0_chk34 (v137 : IVec S16 32) : Prop :=
  (∀ a x, ((![v137] : Fin 1 → IVec S16 32) a x).toNat < S100000.size a)
theorem k0_idx34_inb : ∀ (v137 : IVec S16 32) (k0_hw34 : k0_chk34 v137), ∀ a x, ((![v137] : Fin 1 → IVec S16 32) a x).toNat < S100000.size a := fun v137 k0_hw34 => k0_hw34
def k0_off75 (k0_t4 : Fin k0_t4_loop.trips) : Fin 1 → Nat :=
  let c0_i32_92 : BitVec 32 := 0#32
  let c0_i32_65 : BitVec 32 := 0#32
  let c1_i32_67 : BitVec 32 := 1#32
  let arg11 : BitVec 32 := Scf.iv c0_i32_65 c1_i32_67 k0_t4
  let c256_i32_89 : BitVec 32 := 256#32
  let v133 : BitVec 32 := Scalar.muli arg11 c256_i32_89
  let c16_i32_90 : BitVec 32 := 16#32
  let v134 : BitVec 32 := Scalar.addi v133 c16_i32_90
  let v139 : BitVec 32 := Scalar.addi c0_i32_92 v134
  let v140 : Index := Scalar.indexCast v139
  ![v140.toNat]
def k0_off76 (k0_t4 : Fin k0_t4_loop.trips) : Fin 1 → Nat :=
  let c8192_i32_94 : BitVec 32 := 8192#32
  let c0_i32_65 : BitVec 32 := 0#32
  let c1_i32_67 : BitVec 32 := 1#32
  let arg11 : BitVec 32 := Scf.iv c0_i32_65 c1_i32_67 k0_t4
  let c256_i32_93 : BitVec 32 := 256#32
  let v142 : BitVec 32 := Scalar.muli arg11 c256_i32_93
  let c32_i32 : BitVec 32 := 32#32
  let v143 : BitVec 32 := Scalar.addi v142 c32_i32
  let v144 : BitVec 32 := Scalar.addi c8192_i32_94 v143
  let v145 : Index := Scalar.indexCast v144
  ![v145.toNat]

def k0_chk35 (v146 : IVec S16 32) : Prop :=
  (∀ a x, ((![v146] : Fin 1 → IVec S16 32) a x).toNat < S100000.size a)
theorem k0_idx35_inb : ∀ (v146 : IVec S16 32) (k0_hw35 : k0_chk35 v146), ∀ a x, ((![v146] : Fin 1 → IVec S16 32) a x).toNat < S100000.size a := fun v146 k0_hw35 => k0_hw35
def k0_off77 (k0_t4 : Fin k0_t4_loop.trips) : Fin 1 → Nat :=
  let c0_i32_95 : BitVec 32 := 0#32
  let c0_i32_65 : BitVec 32 := 0#32
  let c1_i32_67 : BitVec 32 := 1#32
  let arg11 : BitVec 32 := Scf.iv c0_i32_65 c1_i32_67 k0_t4
  let c256_i32_93 : BitVec 32 := 256#32
  let v142 : BitVec 32 := Scalar.muli arg11 c256_i32_93
  let c32_i32 : BitVec 32 := 32#32
  let v143 : BitVec 32 := Scalar.addi v142 c32_i32
  let v148 : BitVec 32 := Scalar.addi c0_i32_95 v143
  let v149 : Index := Scalar.indexCast v148
  ![v149.toNat]
def k0_off78 (k0_t4 : Fin k0_t4_loop.trips) : Fin 1 → Nat :=
  let c8192_i32_97 : BitVec 32 := 8192#32
  let c0_i32_65 : BitVec 32 := 0#32
  let c1_i32_67 : BitVec 32 := 1#32
  let arg11 : BitVec 32 := Scf.iv c0_i32_65 c1_i32_67 k0_t4
  let c256_i32_96 : BitVec 32 := 256#32
  let v151 : BitVec 32 := Scalar.muli arg11 c256_i32_96
  let c48_i32 : BitVec 32 := 48#32
  let v152 : BitVec 32 := Scalar.addi v151 c48_i32
  let v153 : BitVec 32 := Scalar.addi c8192_i32_97 v152
  let v154 : Index := Scalar.indexCast v153
  ![v154.toNat]

def k0_chk36 (v155 : IVec S16 32) : Prop :=
  (∀ a x, ((![v155] : Fin 1 → IVec S16 32) a x).toNat < S100000.size a)
theorem k0_idx36_inb : ∀ (v155 : IVec S16 32) (k0_hw36 : k0_chk36 v155), ∀ a x, ((![v155] : Fin 1 → IVec S16 32) a x).toNat < S100000.size a := fun v155 k0_hw36 => k0_hw36
def k0_off79 (k0_t4 : Fin k0_t4_loop.trips) : Fin 1 → Nat :=
  let c0_i32_98 : BitVec 32 := 0#32
  let c0_i32_65 : BitVec 32 := 0#32
  let c1_i32_67 : BitVec 32 := 1#32
  let arg11 : BitVec 32 := Scf.iv c0_i32_65 c1_i32_67 k0_t4
  let c256_i32_96 : BitVec 32 := 256#32
  let v151 : BitVec 32 := Scalar.muli arg11 c256_i32_96
  let c48_i32 : BitVec 32 := 48#32
  let v152 : BitVec 32 := Scalar.addi v151 c48_i32
  let v157 : BitVec 32 := Scalar.addi c0_i32_98 v152
  let v158 : Index := Scalar.indexCast v157
  ![v158.toNat]
def k0_off80 (k0_t4 : Fin k0_t4_loop.trips) : Fin 1 → Nat :=
  let c8192_i32_100 : BitVec 32 := 8192#32
  let c0_i32_65 : BitVec 32 := 0#32
  let c1_i32_67 : BitVec 32 := 1#32
  let arg11 : BitVec 32 := Scf.iv c0_i32_65 c1_i32_67 k0_t4
  let c256_i32_99 : BitVec 32 := 256#32
  let v160 : BitVec 32 := Scalar.muli arg11 c256_i32_99
  let c64_i32 : BitVec 32 := 64#32
  let v161 : BitVec 32 := Scalar.addi v160 c64_i32
  let v162 : BitVec 32 := Scalar.addi c8192_i32_100 v161
  let v163 : Index := Scalar.indexCast v162
  ![v163.toNat]

def k0_chk37 (v164 : IVec S16 32) : Prop :=
  (∀ a x, ((![v164] : Fin 1 → IVec S16 32) a x).toNat < S100000.size a)
theorem k0_idx37_inb : ∀ (v164 : IVec S16 32) (k0_hw37 : k0_chk37 v164), ∀ a x, ((![v164] : Fin 1 → IVec S16 32) a x).toNat < S100000.size a := fun v164 k0_hw37 => k0_hw37
def k0_off81 (k0_t4 : Fin k0_t4_loop.trips) : Fin 1 → Nat :=
  let c0_i32_101 : BitVec 32 := 0#32
  let c0_i32_65 : BitVec 32 := 0#32
  let c1_i32_67 : BitVec 32 := 1#32
  let arg11 : BitVec 32 := Scf.iv c0_i32_65 c1_i32_67 k0_t4
  let c256_i32_99 : BitVec 32 := 256#32
  let v160 : BitVec 32 := Scalar.muli arg11 c256_i32_99
  let c64_i32 : BitVec 32 := 64#32
  let v161 : BitVec 32 := Scalar.addi v160 c64_i32
  let v166 : BitVec 32 := Scalar.addi c0_i32_101 v161
  let v167 : Index := Scalar.indexCast v166
  ![v167.toNat]
def k0_off82 (k0_t4 : Fin k0_t4_loop.trips) : Fin 1 → Nat :=
  let c8192_i32_103 : BitVec 32 := 8192#32
  let c0_i32_65 : BitVec 32 := 0#32
  let c1_i32_67 : BitVec 32 := 1#32
  let arg11 : BitVec 32 := Scf.iv c0_i32_65 c1_i32_67 k0_t4
  let c256_i32_102 : BitVec 32 := 256#32
  let v169 : BitVec 32 := Scalar.muli arg11 c256_i32_102
  let c80_i32 : BitVec 32 := 80#32
  let v170 : BitVec 32 := Scalar.addi v169 c80_i32
  let v171 : BitVec 32 := Scalar.addi c8192_i32_103 v170
  let v172 : Index := Scalar.indexCast v171
  ![v172.toNat]

def k0_chk38 (v173 : IVec S16 32) : Prop :=
  (∀ a x, ((![v173] : Fin 1 → IVec S16 32) a x).toNat < S100000.size a)
theorem k0_idx38_inb : ∀ (v173 : IVec S16 32) (k0_hw38 : k0_chk38 v173), ∀ a x, ((![v173] : Fin 1 → IVec S16 32) a x).toNat < S100000.size a := fun v173 k0_hw38 => k0_hw38
def k0_off83 (k0_t4 : Fin k0_t4_loop.trips) : Fin 1 → Nat :=
  let c0_i32_104 : BitVec 32 := 0#32
  let c0_i32_65 : BitVec 32 := 0#32
  let c1_i32_67 : BitVec 32 := 1#32
  let arg11 : BitVec 32 := Scf.iv c0_i32_65 c1_i32_67 k0_t4
  let c256_i32_102 : BitVec 32 := 256#32
  let v169 : BitVec 32 := Scalar.muli arg11 c256_i32_102
  let c80_i32 : BitVec 32 := 80#32
  let v170 : BitVec 32 := Scalar.addi v169 c80_i32
  let v175 : BitVec 32 := Scalar.addi c0_i32_104 v170
  let v176 : Index := Scalar.indexCast v175
  ![v176.toNat]
def k0_off84 (k0_t4 : Fin k0_t4_loop.trips) : Fin 1 → Nat :=
  let c8192_i32_106 : BitVec 32 := 8192#32
  let c0_i32_65 : BitVec 32 := 0#32
  let c1_i32_67 : BitVec 32 := 1#32
  let arg11 : BitVec 32 := Scf.iv c0_i32_65 c1_i32_67 k0_t4
  let c256_i32_105 : BitVec 32 := 256#32
  let v178 : BitVec 32 := Scalar.muli arg11 c256_i32_105
  let c96_i32 : BitVec 32 := 96#32
  let v179 : BitVec 32 := Scalar.addi v178 c96_i32
  let v180 : BitVec 32 := Scalar.addi c8192_i32_106 v179
  let v181 : Index := Scalar.indexCast v180
  ![v181.toNat]

def k0_chk39 (v182 : IVec S16 32) : Prop :=
  (∀ a x, ((![v182] : Fin 1 → IVec S16 32) a x).toNat < S100000.size a)
theorem k0_idx39_inb : ∀ (v182 : IVec S16 32) (k0_hw39 : k0_chk39 v182), ∀ a x, ((![v182] : Fin 1 → IVec S16 32) a x).toNat < S100000.size a := fun v182 k0_hw39 => k0_hw39
def k0_off85 (k0_t4 : Fin k0_t4_loop.trips) : Fin 1 → Nat :=
  let c0_i32_107 : BitVec 32 := 0#32
  let c0_i32_65 : BitVec 32 := 0#32
  let c1_i32_67 : BitVec 32 := 1#32
  let arg11 : BitVec 32 := Scf.iv c0_i32_65 c1_i32_67 k0_t4
  let c256_i32_105 : BitVec 32 := 256#32
  let v178 : BitVec 32 := Scalar.muli arg11 c256_i32_105
  let c96_i32 : BitVec 32 := 96#32
  let v179 : BitVec 32 := Scalar.addi v178 c96_i32
  let v184 : BitVec 32 := Scalar.addi c0_i32_107 v179
  let v185 : Index := Scalar.indexCast v184
  ![v185.toNat]
def k0_off86 (k0_t4 : Fin k0_t4_loop.trips) : Fin 1 → Nat :=
  let c8192_i32_109 : BitVec 32 := 8192#32
  let c0_i32_65 : BitVec 32 := 0#32
  let c1_i32_67 : BitVec 32 := 1#32
  let arg11 : BitVec 32 := Scf.iv c0_i32_65 c1_i32_67 k0_t4
  let c256_i32_108 : BitVec 32 := 256#32
  let v187 : BitVec 32 := Scalar.muli arg11 c256_i32_108
  let c112_i32 : BitVec 32 := 112#32
  let v188 : BitVec 32 := Scalar.addi v187 c112_i32
  let v189 : BitVec 32 := Scalar.addi c8192_i32_109 v188
  let v190 : Index := Scalar.indexCast v189
  ![v190.toNat]

def k0_chk40 (v191 : IVec S16 32) : Prop :=
  (∀ a x, ((![v191] : Fin 1 → IVec S16 32) a x).toNat < S100000.size a)
theorem k0_idx40_inb : ∀ (v191 : IVec S16 32) (k0_hw40 : k0_chk40 v191), ∀ a x, ((![v191] : Fin 1 → IVec S16 32) a x).toNat < S100000.size a := fun v191 k0_hw40 => k0_hw40
def k0_off87 (k0_t4 : Fin k0_t4_loop.trips) : Fin 1 → Nat :=
  let c0_i32_110 : BitVec 32 := 0#32
  let c0_i32_65 : BitVec 32 := 0#32
  let c1_i32_67 : BitVec 32 := 1#32
  let arg11 : BitVec 32 := Scf.iv c0_i32_65 c1_i32_67 k0_t4
  let c256_i32_108 : BitVec 32 := 256#32
  let v187 : BitVec 32 := Scalar.muli arg11 c256_i32_108
  let c112_i32 : BitVec 32 := 112#32
  let v188 : BitVec 32 := Scalar.addi v187 c112_i32
  let v193 : BitVec 32 := Scalar.addi c0_i32_110 v188
  let v194 : Index := Scalar.indexCast v193
  ![v194.toNat]
def k0_off88 (k0_t4 : Fin k0_t4_loop.trips) : Fin 1 → Nat :=
  let c8192_i32_112 : BitVec 32 := 8192#32
  let c0_i32_65 : BitVec 32 := 0#32
  let c1_i32_67 : BitVec 32 := 1#32
  let arg11 : BitVec 32 := Scf.iv c0_i32_65 c1_i32_67 k0_t4
  let c256_i32_111 : BitVec 32 := 256#32
  let v196 : BitVec 32 := Scalar.muli arg11 c256_i32_111
  let c128_i32 : BitVec 32 := 128#32
  let v197 : BitVec 32 := Scalar.addi v196 c128_i32
  let v198 : BitVec 32 := Scalar.addi c8192_i32_112 v197
  let v199 : Index := Scalar.indexCast v198
  ![v199.toNat]

def k0_chk41 (v200 : IVec S16 32) : Prop :=
  (∀ a x, ((![v200] : Fin 1 → IVec S16 32) a x).toNat < S100000.size a)
theorem k0_idx41_inb : ∀ (v200 : IVec S16 32) (k0_hw41 : k0_chk41 v200), ∀ a x, ((![v200] : Fin 1 → IVec S16 32) a x).toNat < S100000.size a := fun v200 k0_hw41 => k0_hw41
def k0_off89 (k0_t4 : Fin k0_t4_loop.trips) : Fin 1 → Nat :=
  let c0_i32_113 : BitVec 32 := 0#32
  let c0_i32_65 : BitVec 32 := 0#32
  let c1_i32_67 : BitVec 32 := 1#32
  let arg11 : BitVec 32 := Scf.iv c0_i32_65 c1_i32_67 k0_t4
  let c256_i32_111 : BitVec 32 := 256#32
  let v196 : BitVec 32 := Scalar.muli arg11 c256_i32_111
  let c128_i32 : BitVec 32 := 128#32
  let v197 : BitVec 32 := Scalar.addi v196 c128_i32
  let v202 : BitVec 32 := Scalar.addi c0_i32_113 v197
  let v203 : Index := Scalar.indexCast v202
  ![v203.toNat]
def k0_off90 (k0_t4 : Fin k0_t4_loop.trips) : Fin 1 → Nat :=
  let c8192_i32_115 : BitVec 32 := 8192#32
  let c0_i32_65 : BitVec 32 := 0#32
  let c1_i32_67 : BitVec 32 := 1#32
  let arg11 : BitVec 32 := Scf.iv c0_i32_65 c1_i32_67 k0_t4
  let c256_i32_114 : BitVec 32 := 256#32
  let v205 : BitVec 32 := Scalar.muli arg11 c256_i32_114
  let c144_i32 : BitVec 32 := 144#32
  let v206 : BitVec 32 := Scalar.addi v205 c144_i32
  let v207 : BitVec 32 := Scalar.addi c8192_i32_115 v206
  let v208 : Index := Scalar.indexCast v207
  ![v208.toNat]

def k0_chk42 (v209 : IVec S16 32) : Prop :=
  (∀ a x, ((![v209] : Fin 1 → IVec S16 32) a x).toNat < S100000.size a)
theorem k0_idx42_inb : ∀ (v209 : IVec S16 32) (k0_hw42 : k0_chk42 v209), ∀ a x, ((![v209] : Fin 1 → IVec S16 32) a x).toNat < S100000.size a := fun v209 k0_hw42 => k0_hw42
def k0_off91 (k0_t4 : Fin k0_t4_loop.trips) : Fin 1 → Nat :=
  let c0_i32_116 : BitVec 32 := 0#32
  let c0_i32_65 : BitVec 32 := 0#32
  let c1_i32_67 : BitVec 32 := 1#32
  let arg11 : BitVec 32 := Scf.iv c0_i32_65 c1_i32_67 k0_t4
  let c256_i32_114 : BitVec 32 := 256#32
  let v205 : BitVec 32 := Scalar.muli arg11 c256_i32_114
  let c144_i32 : BitVec 32 := 144#32
  let v206 : BitVec 32 := Scalar.addi v205 c144_i32
  let v211 : BitVec 32 := Scalar.addi c0_i32_116 v206
  let v212 : Index := Scalar.indexCast v211
  ![v212.toNat]
def k0_off92 (k0_t4 : Fin k0_t4_loop.trips) : Fin 1 → Nat :=
  let c8192_i32_118 : BitVec 32 := 8192#32
  let c0_i32_65 : BitVec 32 := 0#32
  let c1_i32_67 : BitVec 32 := 1#32
  let arg11 : BitVec 32 := Scf.iv c0_i32_65 c1_i32_67 k0_t4
  let c256_i32_117 : BitVec 32 := 256#32
  let v214 : BitVec 32 := Scalar.muli arg11 c256_i32_117
  let c160_i32 : BitVec 32 := 160#32
  let v215 : BitVec 32 := Scalar.addi v214 c160_i32
  let v216 : BitVec 32 := Scalar.addi c8192_i32_118 v215
  let v217 : Index := Scalar.indexCast v216
  ![v217.toNat]

def k0_chk43 (v218 : IVec S16 32) : Prop :=
  (∀ a x, ((![v218] : Fin 1 → IVec S16 32) a x).toNat < S100000.size a)
theorem k0_idx43_inb : ∀ (v218 : IVec S16 32) (k0_hw43 : k0_chk43 v218), ∀ a x, ((![v218] : Fin 1 → IVec S16 32) a x).toNat < S100000.size a := fun v218 k0_hw43 => k0_hw43
def k0_off93 (k0_t4 : Fin k0_t4_loop.trips) : Fin 1 → Nat :=
  let c0_i32_119 : BitVec 32 := 0#32
  let c0_i32_65 : BitVec 32 := 0#32
  let c1_i32_67 : BitVec 32 := 1#32
  let arg11 : BitVec 32 := Scf.iv c0_i32_65 c1_i32_67 k0_t4
  let c256_i32_117 : BitVec 32 := 256#32
  let v214 : BitVec 32 := Scalar.muli arg11 c256_i32_117
  let c160_i32 : BitVec 32 := 160#32
  let v215 : BitVec 32 := Scalar.addi v214 c160_i32
  let v220 : BitVec 32 := Scalar.addi c0_i32_119 v215
  let v221 : Index := Scalar.indexCast v220
  ![v221.toNat]
def k0_off94 (k0_t4 : Fin k0_t4_loop.trips) : Fin 1 → Nat :=
  let c8192_i32_121 : BitVec 32 := 8192#32
  let c0_i32_65 : BitVec 32 := 0#32
  let c1_i32_67 : BitVec 32 := 1#32
  let arg11 : BitVec 32 := Scf.iv c0_i32_65 c1_i32_67 k0_t4
  let c256_i32_120 : BitVec 32 := 256#32
  let v223 : BitVec 32 := Scalar.muli arg11 c256_i32_120
  let c176_i32 : BitVec 32 := 176#32
  let v224 : BitVec 32 := Scalar.addi v223 c176_i32
  let v225 : BitVec 32 := Scalar.addi c8192_i32_121 v224
  let v226 : Index := Scalar.indexCast v225
  ![v226.toNat]

def k0_chk44 (v227 : IVec S16 32) : Prop :=
  (∀ a x, ((![v227] : Fin 1 → IVec S16 32) a x).toNat < S100000.size a)
theorem k0_idx44_inb : ∀ (v227 : IVec S16 32) (k0_hw44 : k0_chk44 v227), ∀ a x, ((![v227] : Fin 1 → IVec S16 32) a x).toNat < S100000.size a := fun v227 k0_hw44 => k0_hw44
def k0_off95 (k0_t4 : Fin k0_t4_loop.trips) : Fin 1 → Nat :=
  let c0_i32_122 : BitVec 32 := 0#32
  let c0_i32_65 : BitVec 32 := 0#32
  let c1_i32_67 : BitVec 32 := 1#32
  let arg11 : BitVec 32 := Scf.iv c0_i32_65 c1_i32_67 k0_t4
  let c256_i32_120 : BitVec 32 := 256#32
  let v223 : BitVec 32 := Scalar.muli arg11 c256_i32_120
  let c176_i32 : BitVec 32 := 176#32
  let v224 : BitVec 32 := Scalar.addi v223 c176_i32
  let v229 : BitVec 32 := Scalar.addi c0_i32_122 v224
  let v230 : Index := Scalar.indexCast v229
  ![v230.toNat]
def k0_off96 (k0_t4 : Fin k0_t4_loop.trips) : Fin 1 → Nat :=
  let c8192_i32_124 : BitVec 32 := 8192#32
  let c0_i32_65 : BitVec 32 := 0#32
  let c1_i32_67 : BitVec 32 := 1#32
  let arg11 : BitVec 32 := Scf.iv c0_i32_65 c1_i32_67 k0_t4
  let c256_i32_123 : BitVec 32 := 256#32
  let v232 : BitVec 32 := Scalar.muli arg11 c256_i32_123
  let c192_i32 : BitVec 32 := 192#32
  let v233 : BitVec 32 := Scalar.addi v232 c192_i32
  let v234 : BitVec 32 := Scalar.addi c8192_i32_124 v233
  let v235 : Index := Scalar.indexCast v234
  ![v235.toNat]

def k0_chk45 (v236 : IVec S16 32) : Prop :=
  (∀ a x, ((![v236] : Fin 1 → IVec S16 32) a x).toNat < S100000.size a)
theorem k0_idx45_inb : ∀ (v236 : IVec S16 32) (k0_hw45 : k0_chk45 v236), ∀ a x, ((![v236] : Fin 1 → IVec S16 32) a x).toNat < S100000.size a := fun v236 k0_hw45 => k0_hw45
def k0_off97 (k0_t4 : Fin k0_t4_loop.trips) : Fin 1 → Nat :=
  let c0_i32_125 : BitVec 32 := 0#32
  let c0_i32_65 : BitVec 32 := 0#32
  let c1_i32_67 : BitVec 32 := 1#32
  let arg11 : BitVec 32 := Scf.iv c0_i32_65 c1_i32_67 k0_t4
  let c256_i32_123 : BitVec 32 := 256#32
  let v232 : BitVec 32 := Scalar.muli arg11 c256_i32_123
  let c192_i32 : BitVec 32 := 192#32
  let v233 : BitVec 32 := Scalar.addi v232 c192_i32
  let v238 : BitVec 32 := Scalar.addi c0_i32_125 v233
  let v239 : Index := Scalar.indexCast v238
  ![v239.toNat]
def k0_off98 (k0_t4 : Fin k0_t4_loop.trips) : Fin 1 → Nat :=
  let c8192_i32_127 : BitVec 32 := 8192#32
  let c0_i32_65 : BitVec 32 := 0#32
  let c1_i32_67 : BitVec 32 := 1#32
  let arg11 : BitVec 32 := Scf.iv c0_i32_65 c1_i32_67 k0_t4
  let c256_i32_126 : BitVec 32 := 256#32
  let v241 : BitVec 32 := Scalar.muli arg11 c256_i32_126
  let c208_i32 : BitVec 32 := 208#32
  let v242 : BitVec 32 := Scalar.addi v241 c208_i32
  let v243 : BitVec 32 := Scalar.addi c8192_i32_127 v242
  let v244 : Index := Scalar.indexCast v243
  ![v244.toNat]

def k0_chk46 (v245 : IVec S16 32) : Prop :=
  (∀ a x, ((![v245] : Fin 1 → IVec S16 32) a x).toNat < S100000.size a)
theorem k0_idx46_inb : ∀ (v245 : IVec S16 32) (k0_hw46 : k0_chk46 v245), ∀ a x, ((![v245] : Fin 1 → IVec S16 32) a x).toNat < S100000.size a := fun v245 k0_hw46 => k0_hw46
def k0_off99 (k0_t4 : Fin k0_t4_loop.trips) : Fin 1 → Nat :=
  let c0_i32_128 : BitVec 32 := 0#32
  let c0_i32_65 : BitVec 32 := 0#32
  let c1_i32_67 : BitVec 32 := 1#32
  let arg11 : BitVec 32 := Scf.iv c0_i32_65 c1_i32_67 k0_t4
  let c256_i32_126 : BitVec 32 := 256#32
  let v241 : BitVec 32 := Scalar.muli arg11 c256_i32_126
  let c208_i32 : BitVec 32 := 208#32
  let v242 : BitVec 32 := Scalar.addi v241 c208_i32
  let v247 : BitVec 32 := Scalar.addi c0_i32_128 v242
  let v248 : Index := Scalar.indexCast v247
  ![v248.toNat]
def k0_off100 (k0_t4 : Fin k0_t4_loop.trips) : Fin 1 → Nat :=
  let c8192_i32_130 : BitVec 32 := 8192#32
  let c0_i32_65 : BitVec 32 := 0#32
  let c1_i32_67 : BitVec 32 := 1#32
  let arg11 : BitVec 32 := Scf.iv c0_i32_65 c1_i32_67 k0_t4
  let c256_i32_129 : BitVec 32 := 256#32
  let v250 : BitVec 32 := Scalar.muli arg11 c256_i32_129
  let c224_i32 : BitVec 32 := 224#32
  let v251 : BitVec 32 := Scalar.addi v250 c224_i32
  let v252 : BitVec 32 := Scalar.addi c8192_i32_130 v251
  let v253 : Index := Scalar.indexCast v252
  ![v253.toNat]

def k0_chk47 (v254 : IVec S16 32) : Prop :=
  (∀ a x, ((![v254] : Fin 1 → IVec S16 32) a x).toNat < S100000.size a)
theorem k0_idx47_inb : ∀ (v254 : IVec S16 32) (k0_hw47 : k0_chk47 v254), ∀ a x, ((![v254] : Fin 1 → IVec S16 32) a x).toNat < S100000.size a := fun v254 k0_hw47 => k0_hw47
def k0_off101 (k0_t4 : Fin k0_t4_loop.trips) : Fin 1 → Nat :=
  let c0_i32_131 : BitVec 32 := 0#32
  let c0_i32_65 : BitVec 32 := 0#32
  let c1_i32_67 : BitVec 32 := 1#32
  let arg11 : BitVec 32 := Scf.iv c0_i32_65 c1_i32_67 k0_t4
  let c256_i32_129 : BitVec 32 := 256#32
  let v250 : BitVec 32 := Scalar.muli arg11 c256_i32_129
  let c224_i32 : BitVec 32 := 224#32
  let v251 : BitVec 32 := Scalar.addi v250 c224_i32
  let v256 : BitVec 32 := Scalar.addi c0_i32_131 v251
  let v257 : Index := Scalar.indexCast v256
  ![v257.toNat]
def k0_off102 (k0_t4 : Fin k0_t4_loop.trips) : Fin 1 → Nat :=
  let c8192_i32_133 : BitVec 32 := 8192#32
  let c0_i32_65 : BitVec 32 := 0#32
  let c1_i32_67 : BitVec 32 := 1#32
  let arg11 : BitVec 32 := Scf.iv c0_i32_65 c1_i32_67 k0_t4
  let c256_i32_132 : BitVec 32 := 256#32
  let v259 : BitVec 32 := Scalar.muli arg11 c256_i32_132
  let c240_i32 : BitVec 32 := 240#32
  let v260 : BitVec 32 := Scalar.addi v259 c240_i32
  let v261 : BitVec 32 := Scalar.addi c8192_i32_133 v260
  let v262 : Index := Scalar.indexCast v261
  ![v262.toNat]

def k0_chk48 (v263 : IVec S16 32) : Prop :=
  (∀ a x, ((![v263] : Fin 1 → IVec S16 32) a x).toNat < S100000.size a)
theorem k0_idx48_inb : ∀ (v263 : IVec S16 32) (k0_hw48 : k0_chk48 v263), ∀ a x, ((![v263] : Fin 1 → IVec S16 32) a x).toNat < S100000.size a := fun v263 k0_hw48 => k0_hw48
def k0_off103 (k0_t4 : Fin k0_t4_loop.trips) : Fin 1 → Nat :=
  let c0_i32_134 : BitVec 32 := 0#32
  let c0_i32_65 : BitVec 32 := 0#32
  let c1_i32_67 : BitVec 32 := 1#32
  let arg11 : BitVec 32 := Scf.iv c0_i32_65 c1_i32_67 k0_t4
  let c256_i32_132 : BitVec 32 := 256#32
  let v259 : BitVec 32 := Scalar.muli arg11 c256_i32_132
  let c240_i32 : BitVec 32 := 240#32
  let v260 : BitVec 32 := Scalar.addi v259 c240_i32
  let v265 : BitVec 32 := Scalar.addi c0_i32_134 v260
  let v266 : Index := Scalar.indexCast v265
  ![v266.toNat]
def k0_off104 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c0_i32_0 : BitVec 32 := 0#32
  let c1_i32 : BitVec 32 := 1#32
  let arg10 : BitVec 32 := Scf.iv c0_i32_0 c1_i32 k0_t1
  let v45 : BitVec 32 := Scalar.addi v2 arg10
  let c0_i32_23 : BitVec 32 := 0#32
  let v47 : BitVec 1 := Scalar.cmpi .sgt v45 c0_i32_23
  let v48 : BitVec 32 := Scalar.extui v47
  let c0_i32_24 : BitVec 32 := 0#32
  let v49 : BitVec 1 := Scalar.cmpi .slt v45 c0_i32_24
  let v50 : BitVec 32 := Scalar.extui v49
  let v51 : BitVec 32 := Scalar.subi v48 v50
  let c16_i32_22 : BitVec 32 := 16#32
  let c0_i32_25 : BitVec 32 := 0#32
  let v52 : BitVec 1 := Scalar.cmpi .sgt c16_i32_22 c0_i32_25
  let v53 : BitVec 32 := Scalar.extui v52
  let c0_i32_26 : BitVec 32 := 0#32
  let v54 : BitVec 1 := Scalar.cmpi .slt c16_i32_22 c0_i32_26
  let v55 : BitVec 32 := Scalar.extui v54
  let v56 : BitVec 32 := Scalar.subi v53 v55
  let v57 : BitVec 1 := Scalar.cmpi .ne v51 v56
  let v58 : BitVec 32 := Scalar.remsi v45 c16_i32_22
  let c0_i32_27 : BitVec 32 := 0#32
  let v59 : BitVec 1 := Scalar.cmpi .ne v58 c0_i32_27
  let v60 : BitVec 1 := Scalar.andi v57 v59
  let v46 : BitVec 32 := Scalar.divsi v45 c16_i32_22
  let c1_i32_28 : BitVec 32 := 1#32
  let v61 : BitVec 32 := Scalar.subi v46 c1_i32_28
  let v62 : BitVec 32 := Scalar.select v60 v61 v46
  let c16_i32_29 : BitVec 32 := 16#32
  let c0_i32_30 : BitVec 32 := 0#32
  let v63 : BitVec 1 := Scalar.cmpi .eq c16_i32_29 c0_i32_30
  let c1_i32_31 : BitVec 32 := 1#32
  let v64 : BitVec 32 := Scalar.select v63 c1_i32_31 c16_i32_29
  let v65 : BitVec 32 := Scalar.remsi v45 v64
  let c0_i32_33 : BitVec 32 := 0#32
  let v67 : BitVec 1 := Scalar.cmpi .slt v65 c0_i32_33
  let c0_i32_34 : BitVec 32 := 0#32
  let v68 : BitVec 1 := Scalar.cmpi .slt v64 c0_i32_34
  let v69 : BitVec 1 := Scalar.xori v67 v68
  let c0_i32_32 : BitVec 32 := 0#32
  let v66 : BitVec 1 := Scalar.cmpi .ne v65 c0_i32_32
  let v70 : BitVec 1 := Scalar.andi v69 v66
  let v71 : BitVec 32 := Scalar.addi v65 v64
  let v72 : BitVec 32 := Scalar.select v70 v71 v65
  let c12288_i32_74 : BitVec 32 := 12288#32
  ![v62.toNat, v72.toNat, 12288]
@[reducible] def k0_t5_loop : Scf.Loop 32 :=
  let c0_i32_78 : BitVec 32 := 0#32
  let c16_i32_79 : BitVec 32 := 16#32
  let v117 : BitVec 32 := Scalar.addi c0_i32_78 c16_i32_79
  let c1_i32_80 : BitVec 32 := 1#32
  ⟨c0_i32_78, v117, c1_i32_80⟩
def k0_off105 (k0_t5 : Fin k0_t5_loop.trips) : Fin 1 → Nat :=
  let c12288_i32_87 : BitVec 32 := 12288#32
  let c0_i32_78 : BitVec 32 := 0#32
  let c1_i32_80 : BitVec 32 := 1#32
  let arg11 : BitVec 32 := Scf.iv c0_i32_78 c1_i32_80 k0_t5
  let c256_i32 : BitVec 32 := 256#32
  let v124 : BitVec 32 := Scalar.muli arg11 c256_i32
  let c0_i32_86 : BitVec 32 := 0#32
  let v125 : BitVec 32 := Scalar.addi v124 c0_i32_86
  let v126 : BitVec 32 := Scalar.addi c12288_i32_87 v125
  let v127 : Index := Scalar.indexCast v126
  ![v127.toNat]

def k0_chk49 (v128 : IVec S16 32) : Prop :=
  (∀ a x, ((![v128] : Fin 1 → IVec S16 32) a x).toNat < S100000.size a)
theorem k0_idx49_inb : ∀ (v128 : IVec S16 32) (k0_hw49 : k0_chk49 v128), ∀ a x, ((![v128] : Fin 1 → IVec S16 32) a x).toNat < S100000.size a := fun v128 k0_hw49 => k0_hw49
def k0_off106 (k0_t5 : Fin k0_t5_loop.trips) : Fin 1 → Nat :=
  let c4096_i32_88 : BitVec 32 := 4096#32
  let c0_i32_78 : BitVec 32 := 0#32
  let c1_i32_80 : BitVec 32 := 1#32
  let arg11 : BitVec 32 := Scf.iv c0_i32_78 c1_i32_80 k0_t5
  let c256_i32 : BitVec 32 := 256#32
  let v124 : BitVec 32 := Scalar.muli arg11 c256_i32
  let c0_i32_86 : BitVec 32 := 0#32
  let v125 : BitVec 32 := Scalar.addi v124 c0_i32_86
  let v130 : BitVec 32 := Scalar.addi c4096_i32_88 v125
  let v131 : Index := Scalar.indexCast v130
  ![v131.toNat]
def k0_off107 (k0_t5 : Fin k0_t5_loop.trips) : Fin 1 → Nat :=
  let c12288_i32_91 : BitVec 32 := 12288#32
  let c0_i32_78 : BitVec 32 := 0#32
  let c1_i32_80 : BitVec 32 := 1#32
  let arg11 : BitVec 32 := Scf.iv c0_i32_78 c1_i32_80 k0_t5
  let c256_i32_89 : BitVec 32 := 256#32
  let v133 : BitVec 32 := Scalar.muli arg11 c256_i32_89
  let c16_i32_90 : BitVec 32 := 16#32
  let v134 : BitVec 32 := Scalar.addi v133 c16_i32_90
  let v135 : BitVec 32 := Scalar.addi c12288_i32_91 v134
  let v136 : Index := Scalar.indexCast v135
  ![v136.toNat]

def k0_chk50 (v137 : IVec S16 32) : Prop :=
  (∀ a x, ((![v137] : Fin 1 → IVec S16 32) a x).toNat < S100000.size a)
theorem k0_idx50_inb : ∀ (v137 : IVec S16 32) (k0_hw50 : k0_chk50 v137), ∀ a x, ((![v137] : Fin 1 → IVec S16 32) a x).toNat < S100000.size a := fun v137 k0_hw50 => k0_hw50
def k0_off108 (k0_t5 : Fin k0_t5_loop.trips) : Fin 1 → Nat :=
  let c4096_i32_92 : BitVec 32 := 4096#32
  let c0_i32_78 : BitVec 32 := 0#32
  let c1_i32_80 : BitVec 32 := 1#32
  let arg11 : BitVec 32 := Scf.iv c0_i32_78 c1_i32_80 k0_t5
  let c256_i32_89 : BitVec 32 := 256#32
  let v133 : BitVec 32 := Scalar.muli arg11 c256_i32_89
  let c16_i32_90 : BitVec 32 := 16#32
  let v134 : BitVec 32 := Scalar.addi v133 c16_i32_90
  let v139 : BitVec 32 := Scalar.addi c4096_i32_92 v134
  let v140 : Index := Scalar.indexCast v139
  ![v140.toNat]
def k0_off109 (k0_t5 : Fin k0_t5_loop.trips) : Fin 1 → Nat :=
  let c12288_i32_94 : BitVec 32 := 12288#32
  let c0_i32_78 : BitVec 32 := 0#32
  let c1_i32_80 : BitVec 32 := 1#32
  let arg11 : BitVec 32 := Scf.iv c0_i32_78 c1_i32_80 k0_t5
  let c256_i32_93 : BitVec 32 := 256#32
  let v142 : BitVec 32 := Scalar.muli arg11 c256_i32_93
  let c32_i32 : BitVec 32 := 32#32
  let v143 : BitVec 32 := Scalar.addi v142 c32_i32
  let v144 : BitVec 32 := Scalar.addi c12288_i32_94 v143
  let v145 : Index := Scalar.indexCast v144
  ![v145.toNat]

def k0_chk51 (v146 : IVec S16 32) : Prop :=
  (∀ a x, ((![v146] : Fin 1 → IVec S16 32) a x).toNat < S100000.size a)
theorem k0_idx51_inb : ∀ (v146 : IVec S16 32) (k0_hw51 : k0_chk51 v146), ∀ a x, ((![v146] : Fin 1 → IVec S16 32) a x).toNat < S100000.size a := fun v146 k0_hw51 => k0_hw51
def k0_off110 (k0_t5 : Fin k0_t5_loop.trips) : Fin 1 → Nat :=
  let c4096_i32_95 : BitVec 32 := 4096#32
  let c0_i32_78 : BitVec 32 := 0#32
  let c1_i32_80 : BitVec 32 := 1#32
  let arg11 : BitVec 32 := Scf.iv c0_i32_78 c1_i32_80 k0_t5
  let c256_i32_93 : BitVec 32 := 256#32
  let v142 : BitVec 32 := Scalar.muli arg11 c256_i32_93
  let c32_i32 : BitVec 32 := 32#32
  let v143 : BitVec 32 := Scalar.addi v142 c32_i32
  let v148 : BitVec 32 := Scalar.addi c4096_i32_95 v143
  let v149 : Index := Scalar.indexCast v148
  ![v149.toNat]
def k0_off111 (k0_t5 : Fin k0_t5_loop.trips) : Fin 1 → Nat :=
  let c12288_i32_97 : BitVec 32 := 12288#32
  let c0_i32_78 : BitVec 32 := 0#32
  let c1_i32_80 : BitVec 32 := 1#32
  let arg11 : BitVec 32 := Scf.iv c0_i32_78 c1_i32_80 k0_t5
  let c256_i32_96 : BitVec 32 := 256#32
  let v151 : BitVec 32 := Scalar.muli arg11 c256_i32_96
  let c48_i32 : BitVec 32 := 48#32
  let v152 : BitVec 32 := Scalar.addi v151 c48_i32
  let v153 : BitVec 32 := Scalar.addi c12288_i32_97 v152
  let v154 : Index := Scalar.indexCast v153
  ![v154.toNat]

def k0_chk52 (v155 : IVec S16 32) : Prop :=
  (∀ a x, ((![v155] : Fin 1 → IVec S16 32) a x).toNat < S100000.size a)
theorem k0_idx52_inb : ∀ (v155 : IVec S16 32) (k0_hw52 : k0_chk52 v155), ∀ a x, ((![v155] : Fin 1 → IVec S16 32) a x).toNat < S100000.size a := fun v155 k0_hw52 => k0_hw52
def k0_off112 (k0_t5 : Fin k0_t5_loop.trips) : Fin 1 → Nat :=
  let c4096_i32_98 : BitVec 32 := 4096#32
  let c0_i32_78 : BitVec 32 := 0#32
  let c1_i32_80 : BitVec 32 := 1#32
  let arg11 : BitVec 32 := Scf.iv c0_i32_78 c1_i32_80 k0_t5
  let c256_i32_96 : BitVec 32 := 256#32
  let v151 : BitVec 32 := Scalar.muli arg11 c256_i32_96
  let c48_i32 : BitVec 32 := 48#32
  let v152 : BitVec 32 := Scalar.addi v151 c48_i32
  let v157 : BitVec 32 := Scalar.addi c4096_i32_98 v152
  let v158 : Index := Scalar.indexCast v157
  ![v158.toNat]
def k0_off113 (k0_t5 : Fin k0_t5_loop.trips) : Fin 1 → Nat :=
  let c12288_i32_100 : BitVec 32 := 12288#32
  let c0_i32_78 : BitVec 32 := 0#32
  let c1_i32_80 : BitVec 32 := 1#32
  let arg11 : BitVec 32 := Scf.iv c0_i32_78 c1_i32_80 k0_t5
  let c256_i32_99 : BitVec 32 := 256#32
  let v160 : BitVec 32 := Scalar.muli arg11 c256_i32_99
  let c64_i32 : BitVec 32 := 64#32
  let v161 : BitVec 32 := Scalar.addi v160 c64_i32
  let v162 : BitVec 32 := Scalar.addi c12288_i32_100 v161
  let v163 : Index := Scalar.indexCast v162
  ![v163.toNat]

def k0_chk53 (v164 : IVec S16 32) : Prop :=
  (∀ a x, ((![v164] : Fin 1 → IVec S16 32) a x).toNat < S100000.size a)
theorem k0_idx53_inb : ∀ (v164 : IVec S16 32) (k0_hw53 : k0_chk53 v164), ∀ a x, ((![v164] : Fin 1 → IVec S16 32) a x).toNat < S100000.size a := fun v164 k0_hw53 => k0_hw53
def k0_off114 (k0_t5 : Fin k0_t5_loop.trips) : Fin 1 → Nat :=
  let c4096_i32_101 : BitVec 32 := 4096#32
  let c0_i32_78 : BitVec 32 := 0#32
  let c1_i32_80 : BitVec 32 := 1#32
  let arg11 : BitVec 32 := Scf.iv c0_i32_78 c1_i32_80 k0_t5
  let c256_i32_99 : BitVec 32 := 256#32
  let v160 : BitVec 32 := Scalar.muli arg11 c256_i32_99
  let c64_i32 : BitVec 32 := 64#32
  let v161 : BitVec 32 := Scalar.addi v160 c64_i32
  let v166 : BitVec 32 := Scalar.addi c4096_i32_101 v161
  let v167 : Index := Scalar.indexCast v166
  ![v167.toNat]
def k0_off115 (k0_t5 : Fin k0_t5_loop.trips) : Fin 1 → Nat :=
  let c12288_i32_103 : BitVec 32 := 12288#32
  let c0_i32_78 : BitVec 32 := 0#32
  let c1_i32_80 : BitVec 32 := 1#32
  let arg11 : BitVec 32 := Scf.iv c0_i32_78 c1_i32_80 k0_t5
  let c256_i32_102 : BitVec 32 := 256#32
  let v169 : BitVec 32 := Scalar.muli arg11 c256_i32_102
  let c80_i32 : BitVec 32 := 80#32
  let v170 : BitVec 32 := Scalar.addi v169 c80_i32
  let v171 : BitVec 32 := Scalar.addi c12288_i32_103 v170
  let v172 : Index := Scalar.indexCast v171
  ![v172.toNat]

def k0_chk54 (v173 : IVec S16 32) : Prop :=
  (∀ a x, ((![v173] : Fin 1 → IVec S16 32) a x).toNat < S100000.size a)
theorem k0_idx54_inb : ∀ (v173 : IVec S16 32) (k0_hw54 : k0_chk54 v173), ∀ a x, ((![v173] : Fin 1 → IVec S16 32) a x).toNat < S100000.size a := fun v173 k0_hw54 => k0_hw54
def k0_off116 (k0_t5 : Fin k0_t5_loop.trips) : Fin 1 → Nat :=
  let c4096_i32_104 : BitVec 32 := 4096#32
  let c0_i32_78 : BitVec 32 := 0#32
  let c1_i32_80 : BitVec 32 := 1#32
  let arg11 : BitVec 32 := Scf.iv c0_i32_78 c1_i32_80 k0_t5
  let c256_i32_102 : BitVec 32 := 256#32
  let v169 : BitVec 32 := Scalar.muli arg11 c256_i32_102
  let c80_i32 : BitVec 32 := 80#32
  let v170 : BitVec 32 := Scalar.addi v169 c80_i32
  let v175 : BitVec 32 := Scalar.addi c4096_i32_104 v170
  let v176 : Index := Scalar.indexCast v175
  ![v176.toNat]
def k0_off117 (k0_t5 : Fin k0_t5_loop.trips) : Fin 1 → Nat :=
  let c12288_i32_106 : BitVec 32 := 12288#32
  let c0_i32_78 : BitVec 32 := 0#32
  let c1_i32_80 : BitVec 32 := 1#32
  let arg11 : BitVec 32 := Scf.iv c0_i32_78 c1_i32_80 k0_t5
  let c256_i32_105 : BitVec 32 := 256#32
  let v178 : BitVec 32 := Scalar.muli arg11 c256_i32_105
  let c96_i32 : BitVec 32 := 96#32
  let v179 : BitVec 32 := Scalar.addi v178 c96_i32
  let v180 : BitVec 32 := Scalar.addi c12288_i32_106 v179
  let v181 : Index := Scalar.indexCast v180
  ![v181.toNat]

def k0_chk55 (v182 : IVec S16 32) : Prop :=
  (∀ a x, ((![v182] : Fin 1 → IVec S16 32) a x).toNat < S100000.size a)
theorem k0_idx55_inb : ∀ (v182 : IVec S16 32) (k0_hw55 : k0_chk55 v182), ∀ a x, ((![v182] : Fin 1 → IVec S16 32) a x).toNat < S100000.size a := fun v182 k0_hw55 => k0_hw55
def k0_off118 (k0_t5 : Fin k0_t5_loop.trips) : Fin 1 → Nat :=
  let c4096_i32_107 : BitVec 32 := 4096#32
  let c0_i32_78 : BitVec 32 := 0#32
  let c1_i32_80 : BitVec 32 := 1#32
  let arg11 : BitVec 32 := Scf.iv c0_i32_78 c1_i32_80 k0_t5
  let c256_i32_105 : BitVec 32 := 256#32
  let v178 : BitVec 32 := Scalar.muli arg11 c256_i32_105
  let c96_i32 : BitVec 32 := 96#32
  let v179 : BitVec 32 := Scalar.addi v178 c96_i32
  let v184 : BitVec 32 := Scalar.addi c4096_i32_107 v179
  let v185 : Index := Scalar.indexCast v184
  ![v185.toNat]
def k0_off119 (k0_t5 : Fin k0_t5_loop.trips) : Fin 1 → Nat :=
  let c12288_i32_109 : BitVec 32 := 12288#32
  let c0_i32_78 : BitVec 32 := 0#32
  let c1_i32_80 : BitVec 32 := 1#32
  let arg11 : BitVec 32 := Scf.iv c0_i32_78 c1_i32_80 k0_t5
  let c256_i32_108 : BitVec 32 := 256#32
  let v187 : BitVec 32 := Scalar.muli arg11 c256_i32_108
  let c112_i32 : BitVec 32 := 112#32
  let v188 : BitVec 32 := Scalar.addi v187 c112_i32
  let v189 : BitVec 32 := Scalar.addi c12288_i32_109 v188
  let v190 : Index := Scalar.indexCast v189
  ![v190.toNat]

def k0_chk56 (v191 : IVec S16 32) : Prop :=
  (∀ a x, ((![v191] : Fin 1 → IVec S16 32) a x).toNat < S100000.size a)
theorem k0_idx56_inb : ∀ (v191 : IVec S16 32) (k0_hw56 : k0_chk56 v191), ∀ a x, ((![v191] : Fin 1 → IVec S16 32) a x).toNat < S100000.size a := fun v191 k0_hw56 => k0_hw56
def k0_off120 (k0_t5 : Fin k0_t5_loop.trips) : Fin 1 → Nat :=
  let c4096_i32_110 : BitVec 32 := 4096#32
  let c0_i32_78 : BitVec 32 := 0#32
  let c1_i32_80 : BitVec 32 := 1#32
  let arg11 : BitVec 32 := Scf.iv c0_i32_78 c1_i32_80 k0_t5
  let c256_i32_108 : BitVec 32 := 256#32
  let v187 : BitVec 32 := Scalar.muli arg11 c256_i32_108
  let c112_i32 : BitVec 32 := 112#32
  let v188 : BitVec 32 := Scalar.addi v187 c112_i32
  let v193 : BitVec 32 := Scalar.addi c4096_i32_110 v188
  let v194 : Index := Scalar.indexCast v193
  ![v194.toNat]
def k0_off121 (k0_t5 : Fin k0_t5_loop.trips) : Fin 1 → Nat :=
  let c12288_i32_112 : BitVec 32 := 12288#32
  let c0_i32_78 : BitVec 32 := 0#32
  let c1_i32_80 : BitVec 32 := 1#32
  let arg11 : BitVec 32 := Scf.iv c0_i32_78 c1_i32_80 k0_t5
  let c256_i32_111 : BitVec 32 := 256#32
  let v196 : BitVec 32 := Scalar.muli arg11 c256_i32_111
  let c128_i32 : BitVec 32 := 128#32
  let v197 : BitVec 32 := Scalar.addi v196 c128_i32
  let v198 : BitVec 32 := Scalar.addi c12288_i32_112 v197
  let v199 : Index := Scalar.indexCast v198
  ![v199.toNat]

def k0_chk57 (v200 : IVec S16 32) : Prop :=
  (∀ a x, ((![v200] : Fin 1 → IVec S16 32) a x).toNat < S100000.size a)
theorem k0_idx57_inb : ∀ (v200 : IVec S16 32) (k0_hw57 : k0_chk57 v200), ∀ a x, ((![v200] : Fin 1 → IVec S16 32) a x).toNat < S100000.size a := fun v200 k0_hw57 => k0_hw57
def k0_off122 (k0_t5 : Fin k0_t5_loop.trips) : Fin 1 → Nat :=
  let c4096_i32_113 : BitVec 32 := 4096#32
  let c0_i32_78 : BitVec 32 := 0#32
  let c1_i32_80 : BitVec 32 := 1#32
  let arg11 : BitVec 32 := Scf.iv c0_i32_78 c1_i32_80 k0_t5
  let c256_i32_111 : BitVec 32 := 256#32
  let v196 : BitVec 32 := Scalar.muli arg11 c256_i32_111
  let c128_i32 : BitVec 32 := 128#32
  let v197 : BitVec 32 := Scalar.addi v196 c128_i32
  let v202 : BitVec 32 := Scalar.addi c4096_i32_113 v197
  let v203 : Index := Scalar.indexCast v202
  ![v203.toNat]
def k0_off123 (k0_t5 : Fin k0_t5_loop.trips) : Fin 1 → Nat :=
  let c12288_i32_115 : BitVec 32 := 12288#32
  let c0_i32_78 : BitVec 32 := 0#32
  let c1_i32_80 : BitVec 32 := 1#32
  let arg11 : BitVec 32 := Scf.iv c0_i32_78 c1_i32_80 k0_t5
  let c256_i32_114 : BitVec 32 := 256#32
  let v205 : BitVec 32 := Scalar.muli arg11 c256_i32_114
  let c144_i32 : BitVec 32 := 144#32
  let v206 : BitVec 32 := Scalar.addi v205 c144_i32
  let v207 : BitVec 32 := Scalar.addi c12288_i32_115 v206
  let v208 : Index := Scalar.indexCast v207
  ![v208.toNat]

def k0_chk58 (v209 : IVec S16 32) : Prop :=
  (∀ a x, ((![v209] : Fin 1 → IVec S16 32) a x).toNat < S100000.size a)
theorem k0_idx58_inb : ∀ (v209 : IVec S16 32) (k0_hw58 : k0_chk58 v209), ∀ a x, ((![v209] : Fin 1 → IVec S16 32) a x).toNat < S100000.size a := fun v209 k0_hw58 => k0_hw58
def k0_off124 (k0_t5 : Fin k0_t5_loop.trips) : Fin 1 → Nat :=
  let c4096_i32_116 : BitVec 32 := 4096#32
  let c0_i32_78 : BitVec 32 := 0#32
  let c1_i32_80 : BitVec 32 := 1#32
  let arg11 : BitVec 32 := Scf.iv c0_i32_78 c1_i32_80 k0_t5
  let c256_i32_114 : BitVec 32 := 256#32
  let v205 : BitVec 32 := Scalar.muli arg11 c256_i32_114
  let c144_i32 : BitVec 32 := 144#32
  let v206 : BitVec 32 := Scalar.addi v205 c144_i32
  let v211 : BitVec 32 := Scalar.addi c4096_i32_116 v206
  let v212 : Index := Scalar.indexCast v211
  ![v212.toNat]
def k0_off125 (k0_t5 : Fin k0_t5_loop.trips) : Fin 1 → Nat :=
  let c12288_i32_118 : BitVec 32 := 12288#32
  let c0_i32_78 : BitVec 32 := 0#32
  let c1_i32_80 : BitVec 32 := 1#32
  let arg11 : BitVec 32 := Scf.iv c0_i32_78 c1_i32_80 k0_t5
  let c256_i32_117 : BitVec 32 := 256#32
  let v214 : BitVec 32 := Scalar.muli arg11 c256_i32_117
  let c160_i32 : BitVec 32 := 160#32
  let v215 : BitVec 32 := Scalar.addi v214 c160_i32
  let v216 : BitVec 32 := Scalar.addi c12288_i32_118 v215
  let v217 : Index := Scalar.indexCast v216
  ![v217.toNat]

def k0_chk59 (v218 : IVec S16 32) : Prop :=
  (∀ a x, ((![v218] : Fin 1 → IVec S16 32) a x).toNat < S100000.size a)
theorem k0_idx59_inb : ∀ (v218 : IVec S16 32) (k0_hw59 : k0_chk59 v218), ∀ a x, ((![v218] : Fin 1 → IVec S16 32) a x).toNat < S100000.size a := fun v218 k0_hw59 => k0_hw59
def k0_off126 (k0_t5 : Fin k0_t5_loop.trips) : Fin 1 → Nat :=
  let c4096_i32_119 : BitVec 32 := 4096#32
  let c0_i32_78 : BitVec 32 := 0#32
  let c1_i32_80 : BitVec 32 := 1#32
  let arg11 : BitVec 32 := Scf.iv c0_i32_78 c1_i32_80 k0_t5
  let c256_i32_117 : BitVec 32 := 256#32
  let v214 : BitVec 32 := Scalar.muli arg11 c256_i32_117
  let c160_i32 : BitVec 32 := 160#32
  let v215 : BitVec 32 := Scalar.addi v214 c160_i32
  let v220 : BitVec 32 := Scalar.addi c4096_i32_119 v215
  let v221 : Index := Scalar.indexCast v220
  ![v221.toNat]
def k0_off127 (k0_t5 : Fin k0_t5_loop.trips) : Fin 1 → Nat :=
  let c12288_i32_121 : BitVec 32 := 12288#32
  let c0_i32_78 : BitVec 32 := 0#32
  let c1_i32_80 : BitVec 32 := 1#32
  let arg11 : BitVec 32 := Scf.iv c0_i32_78 c1_i32_80 k0_t5
  let c256_i32_120 : BitVec 32 := 256#32
  let v223 : BitVec 32 := Scalar.muli arg11 c256_i32_120
  let c176_i32 : BitVec 32 := 176#32
  let v224 : BitVec 32 := Scalar.addi v223 c176_i32
  let v225 : BitVec 32 := Scalar.addi c12288_i32_121 v224
  let v226 : Index := Scalar.indexCast v225
  ![v226.toNat]

def k0_chk60 (v227 : IVec S16 32) : Prop :=
  (∀ a x, ((![v227] : Fin 1 → IVec S16 32) a x).toNat < S100000.size a)
theorem k0_idx60_inb : ∀ (v227 : IVec S16 32) (k0_hw60 : k0_chk60 v227), ∀ a x, ((![v227] : Fin 1 → IVec S16 32) a x).toNat < S100000.size a := fun v227 k0_hw60 => k0_hw60
def k0_off128 (k0_t5 : Fin k0_t5_loop.trips) : Fin 1 → Nat :=
  let c4096_i32_122 : BitVec 32 := 4096#32
  let c0_i32_78 : BitVec 32 := 0#32
  let c1_i32_80 : BitVec 32 := 1#32
  let arg11 : BitVec 32 := Scf.iv c0_i32_78 c1_i32_80 k0_t5
  let c256_i32_120 : BitVec 32 := 256#32
  let v223 : BitVec 32 := Scalar.muli arg11 c256_i32_120
  let c176_i32 : BitVec 32 := 176#32
  let v224 : BitVec 32 := Scalar.addi v223 c176_i32
  let v229 : BitVec 32 := Scalar.addi c4096_i32_122 v224
  let v230 : Index := Scalar.indexCast v229
  ![v230.toNat]
def k0_off129 (k0_t5 : Fin k0_t5_loop.trips) : Fin 1 → Nat :=
  let c12288_i32_124 : BitVec 32 := 12288#32
  let c0_i32_78 : BitVec 32 := 0#32
  let c1_i32_80 : BitVec 32 := 1#32
  let arg11 : BitVec 32 := Scf.iv c0_i32_78 c1_i32_80 k0_t5
  let c256_i32_123 : BitVec 32 := 256#32
  let v232 : BitVec 32 := Scalar.muli arg11 c256_i32_123
  let c192_i32 : BitVec 32 := 192#32
  let v233 : BitVec 32 := Scalar.addi v232 c192_i32
  let v234 : BitVec 32 := Scalar.addi c12288_i32_124 v233
  let v235 : Index := Scalar.indexCast v234
  ![v235.toNat]

def k0_chk61 (v236 : IVec S16 32) : Prop :=
  (∀ a x, ((![v236] : Fin 1 → IVec S16 32) a x).toNat < S100000.size a)
theorem k0_idx61_inb : ∀ (v236 : IVec S16 32) (k0_hw61 : k0_chk61 v236), ∀ a x, ((![v236] : Fin 1 → IVec S16 32) a x).toNat < S100000.size a := fun v236 k0_hw61 => k0_hw61
def k0_off130 (k0_t5 : Fin k0_t5_loop.trips) : Fin 1 → Nat :=
  let c4096_i32_125 : BitVec 32 := 4096#32
  let c0_i32_78 : BitVec 32 := 0#32
  let c1_i32_80 : BitVec 32 := 1#32
  let arg11 : BitVec 32 := Scf.iv c0_i32_78 c1_i32_80 k0_t5
  let c256_i32_123 : BitVec 32 := 256#32
  let v232 : BitVec 32 := Scalar.muli arg11 c256_i32_123
  let c192_i32 : BitVec 32 := 192#32
  let v233 : BitVec 32 := Scalar.addi v232 c192_i32
  let v238 : BitVec 32 := Scalar.addi c4096_i32_125 v233
  let v239 : Index := Scalar.indexCast v238
  ![v239.toNat]
def k0_off131 (k0_t5 : Fin k0_t5_loop.trips) : Fin 1 → Nat :=
  let c12288_i32_127 : BitVec 32 := 12288#32
  let c0_i32_78 : BitVec 32 := 0#32
  let c1_i32_80 : BitVec 32 := 1#32
  let arg11 : BitVec 32 := Scf.iv c0_i32_78 c1_i32_80 k0_t5
  let c256_i32_126 : BitVec 32 := 256#32
  let v241 : BitVec 32 := Scalar.muli arg11 c256_i32_126
  let c208_i32 : BitVec 32 := 208#32
  let v242 : BitVec 32 := Scalar.addi v241 c208_i32
  let v243 : BitVec 32 := Scalar.addi c12288_i32_127 v242
  let v244 : Index := Scalar.indexCast v243
  ![v244.toNat]

def k0_chk62 (v245 : IVec S16 32) : Prop :=
  (∀ a x, ((![v245] : Fin 1 → IVec S16 32) a x).toNat < S100000.size a)
theorem k0_idx62_inb : ∀ (v245 : IVec S16 32) (k0_hw62 : k0_chk62 v245), ∀ a x, ((![v245] : Fin 1 → IVec S16 32) a x).toNat < S100000.size a := fun v245 k0_hw62 => k0_hw62
def k0_off132 (k0_t5 : Fin k0_t5_loop.trips) : Fin 1 → Nat :=
  let c4096_i32_128 : BitVec 32 := 4096#32
  let c0_i32_78 : BitVec 32 := 0#32
  let c1_i32_80 : BitVec 32 := 1#32
  let arg11 : BitVec 32 := Scf.iv c0_i32_78 c1_i32_80 k0_t5
  let c256_i32_126 : BitVec 32 := 256#32
  let v241 : BitVec 32 := Scalar.muli arg11 c256_i32_126
  let c208_i32 : BitVec 32 := 208#32
  let v242 : BitVec 32 := Scalar.addi v241 c208_i32
  let v247 : BitVec 32 := Scalar.addi c4096_i32_128 v242
  let v248 : Index := Scalar.indexCast v247
  ![v248.toNat]
def k0_off133 (k0_t5 : Fin k0_t5_loop.trips) : Fin 1 → Nat :=
  let c12288_i32_130 : BitVec 32 := 12288#32
  let c0_i32_78 : BitVec 32 := 0#32
  let c1_i32_80 : BitVec 32 := 1#32
  let arg11 : BitVec 32 := Scf.iv c0_i32_78 c1_i32_80 k0_t5
  let c256_i32_129 : BitVec 32 := 256#32
  let v250 : BitVec 32 := Scalar.muli arg11 c256_i32_129
  let c224_i32 : BitVec 32 := 224#32
  let v251 : BitVec 32 := Scalar.addi v250 c224_i32
  let v252 : BitVec 32 := Scalar.addi c12288_i32_130 v251
  let v253 : Index := Scalar.indexCast v252
  ![v253.toNat]

def k0_chk63 (v254 : IVec S16 32) : Prop :=
  (∀ a x, ((![v254] : Fin 1 → IVec S16 32) a x).toNat < S100000.size a)
theorem k0_idx63_inb : ∀ (v254 : IVec S16 32) (k0_hw63 : k0_chk63 v254), ∀ a x, ((![v254] : Fin 1 → IVec S16 32) a x).toNat < S100000.size a := fun v254 k0_hw63 => k0_hw63
def k0_off134 (k0_t5 : Fin k0_t5_loop.trips) : Fin 1 → Nat :=
  let c4096_i32_131 : BitVec 32 := 4096#32
  let c0_i32_78 : BitVec 32 := 0#32
  let c1_i32_80 : BitVec 32 := 1#32
  let arg11 : BitVec 32 := Scf.iv c0_i32_78 c1_i32_80 k0_t5
  let c256_i32_129 : BitVec 32 := 256#32
  let v250 : BitVec 32 := Scalar.muli arg11 c256_i32_129
  let c224_i32 : BitVec 32 := 224#32
  let v251 : BitVec 32 := Scalar.addi v250 c224_i32
  let v256 : BitVec 32 := Scalar.addi c4096_i32_131 v251
  let v257 : Index := Scalar.indexCast v256
  ![v257.toNat]
def k0_off135 (k0_t5 : Fin k0_t5_loop.trips) : Fin 1 → Nat :=
  let c12288_i32_133 : BitVec 32 := 12288#32
  let c0_i32_78 : BitVec 32 := 0#32
  let c1_i32_80 : BitVec 32 := 1#32
  let arg11 : BitVec 32 := Scf.iv c0_i32_78 c1_i32_80 k0_t5
  let c256_i32_132 : BitVec 32 := 256#32
  let v259 : BitVec 32 := Scalar.muli arg11 c256_i32_132
  let c240_i32 : BitVec 32 := 240#32
  let v260 : BitVec 32 := Scalar.addi v259 c240_i32
  let v261 : BitVec 32 := Scalar.addi c12288_i32_133 v260
  let v262 : Index := Scalar.indexCast v261
  ![v262.toNat]

def k0_chk64 (v263 : IVec S16 32) : Prop :=
  (∀ a x, ((![v263] : Fin 1 → IVec S16 32) a x).toNat < S100000.size a)
theorem k0_idx64_inb : ∀ (v263 : IVec S16 32) (k0_hw64 : k0_chk64 v263), ∀ a x, ((![v263] : Fin 1 → IVec S16 32) a x).toNat < S100000.size a := fun v263 k0_hw64 => k0_hw64
def k0_off136 (k0_t5 : Fin k0_t5_loop.trips) : Fin 1 → Nat :=
  let c4096_i32_134 : BitVec 32 := 4096#32
  let c0_i32_78 : BitVec 32 := 0#32
  let c1_i32_80 : BitVec 32 := 1#32
  let arg11 : BitVec 32 := Scf.iv c0_i32_78 c1_i32_80 k0_t5
  let c256_i32_132 : BitVec 32 := 256#32
  let v259 : BitVec 32 := Scalar.muli arg11 c256_i32_132
  let c240_i32 : BitVec 32 := 240#32
  let v260 : BitVec 32 := Scalar.addi v259 c240_i32
  let v265 : BitVec 32 := Scalar.addi c4096_i32_134 v260
  let v266 : Index := Scalar.indexCast v265
  ![v266.toNat]
def k0_off137 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c13_i32_3 : BitVec 32 := 13#32
  let v4 : BitVec 32 := Scalar.addi v2 c13_i32_3
  let c1_i32_4 : BitVec 32 := 1#32
  let v5 : BitVec 32 := Scalar.subi v4 c1_i32_4
  let c0_i32_5 : BitVec 32 := 0#32
  let v7 : BitVec 1 := Scalar.cmpi .sgt v5 c0_i32_5
  let v8 : BitVec 32 := Scalar.extui v7
  let c0_i32_6 : BitVec 32 := 0#32
  let v9 : BitVec 1 := Scalar.cmpi .slt v5 c0_i32_6
  let v10 : BitVec 32 := Scalar.extui v9
  let v11 : BitVec 32 := Scalar.subi v8 v10
  let c16_i32 : BitVec 32 := 16#32
  let c0_i32_7 : BitVec 32 := 0#32
  let v12 : BitVec 1 := Scalar.cmpi .sgt c16_i32 c0_i32_7
  let v13 : BitVec 32 := Scalar.extui v12
  let c0_i32_8 : BitVec 32 := 0#32
  let v14 : BitVec 1 := Scalar.cmpi .slt c16_i32 c0_i32_8
  let v15 : BitVec 32 := Scalar.extui v14
  let v16 : BitVec 32 := Scalar.subi v13 v15
  let v17 : BitVec 1 := Scalar.cmpi .ne v11 v16
  let v18 : BitVec 32 := Scalar.remsi v5 c16_i32
  let c0_i32_9 : BitVec 32 := 0#32
  let v19 : BitVec 1 := Scalar.cmpi .ne v18 c0_i32_9
  let v20 : BitVec 1 := Scalar.andi v17 v19
  let v6 : BitVec 32 := Scalar.divsi v5 c16_i32
  let c1_i32_10 : BitVec 32 := 1#32
  let v21 : BitVec 32 := Scalar.subi v6 c1_i32_10
  let v22 : BitVec 32 := Scalar.select v20 v21 v6
  let c16_i32_11 : BitVec 32 := 16#32
  let c0_i32_12 : BitVec 32 := 0#32
  let v23 : BitVec 1 := Scalar.cmpi .eq c16_i32_11 c0_i32_12
  let c1_i32_13 : BitVec 32 := 1#32
  let v24 : BitVec 32 := Scalar.select v23 c1_i32_13 c16_i32_11
  let v25 : BitVec 32 := Scalar.remsi v5 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c8192_i32 : BitVec 32 := 8192#32
  ![v22.toNat, v32.toNat, 8192]
def k0_off138 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c13_i32_3 : BitVec 32 := 13#32
  let v4 : BitVec 32 := Scalar.addi v2 c13_i32_3
  let c1_i32_4 : BitVec 32 := 1#32
  let v5 : BitVec 32 := Scalar.subi v4 c1_i32_4
  let c0_i32_5 : BitVec 32 := 0#32
  let v7 : BitVec 1 := Scalar.cmpi .sgt v5 c0_i32_5
  let v8 : BitVec 32 := Scalar.extui v7
  let c0_i32_6 : BitVec 32 := 0#32
  let v9 : BitVec 1 := Scalar.cmpi .slt v5 c0_i32_6
  let v10 : BitVec 32 := Scalar.extui v9
  let v11 : BitVec 32 := Scalar.subi v8 v10
  let c16_i32 : BitVec 32 := 16#32
  let c0_i32_7 : BitVec 32 := 0#32
  let v12 : BitVec 1 := Scalar.cmpi .sgt c16_i32 c0_i32_7
  let v13 : BitVec 32 := Scalar.extui v12
  let c0_i32_8 : BitVec 32 := 0#32
  let v14 : BitVec 1 := Scalar.cmpi .slt c16_i32 c0_i32_8
  let v15 : BitVec 32 := Scalar.extui v14
  let v16 : BitVec 32 := Scalar.subi v13 v15
  let v17 : BitVec 1 := Scalar.cmpi .ne v11 v16
  let v18 : BitVec 32 := Scalar.remsi v5 c16_i32
  let c0_i32_9 : BitVec 32 := 0#32
  let v19 : BitVec 1 := Scalar.cmpi .ne v18 c0_i32_9
  let v20 : BitVec 1 := Scalar.andi v17 v19
  let v6 : BitVec 32 := Scalar.divsi v5 c16_i32
  let c1_i32_10 : BitVec 32 := 1#32
  let v21 : BitVec 32 := Scalar.subi v6 c1_i32_10
  let v22 : BitVec 32 := Scalar.select v20 v21 v6
  let c16_i32_11 : BitVec 32 := 16#32
  let c0_i32_12 : BitVec 32 := 0#32
  let v23 : BitVec 1 := Scalar.cmpi .eq c16_i32_11 c0_i32_12
  let c1_i32_13 : BitVec 32 := 1#32
  let v24 : BitVec 32 := Scalar.select v23 c1_i32_13 c16_i32_11
  let v25 : BitVec 32 := Scalar.remsi v5 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c12288_i32 : BitVec 32 := 12288#32
  ![v22.toNat, v32.toNat, 12288]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x26 : Shape := ⟨2, ![16384, 26]⟩
abbrev S26x100000x16 : Shape := ⟨3, ![26, 100000, 16]⟩
abbrev S_ : Shape := ⟨0, ![]⟩
abbrev S26x16384 : Shape := ⟨2, ![26, 16384]⟩
abbrev S26x16384x1 : Shape := ⟨3, ![26, 16384, 1]⟩
abbrev S1 : Shape := ⟨1, ![1]⟩
abbrev S1x1x1 : Shape := ⟨3, ![1, 1, 1]⟩
abbrev S26x16384x16 : Shape := ⟨3, ![26, 16384, 16]⟩

abbrev nBuf : Space → Nat
  | .hbm => 26
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S26x100000x16, .f32⟩
  | .hbm, ⟨2, _⟩ => ⟨S_, .i32⟩
  | .hbm, ⟨3, _⟩ => ⟨S16384x26, .i32⟩
  | .hbm, ⟨4, _⟩ => ⟨S16384x26, .i1⟩
  | .hbm, ⟨5, _⟩ => ⟨S_, .i32⟩
  | .hbm, ⟨6, _⟩ => ⟨S16384x26, .i32⟩
  | .hbm, ⟨7, _⟩ => ⟨S16384x26, .i32⟩
  | .hbm, ⟨8, _⟩ => ⟨S16384x26, .i32⟩
  | .hbm, ⟨9, _⟩ => ⟨S26x16384, .i32⟩
  | .hbm, ⟨10, _⟩ => ⟨S26x16384x1, .i32⟩
  | .hbm, ⟨11, _⟩ => ⟨S1, .i32⟩
  | .hbm, ⟨12, _⟩ => ⟨S_, .i32⟩
  | .hbm, ⟨13, _⟩ => ⟨S26x16384x1, .i32⟩
  | .hbm, ⟨14, _⟩ => ⟨S26x16384x1, .i1⟩
  | .hbm, ⟨15, _⟩ => ⟨S1x1x1, .i32⟩
  | .hbm, ⟨16, _⟩ => ⟨S26x16384x1, .i32⟩
  | .hbm, ⟨17, _⟩ => ⟨S26x16384x1, .i1⟩
  | .hbm, ⟨18, _⟩ => ⟨S26x16384x1, .i1⟩
  | .hbm, ⟨19, _⟩ => ⟨S_, .i1⟩
  | .hbm, ⟨20, _⟩ => ⟨S26x16384, .i1⟩
  | .hbm, ⟨21, _⟩ => ⟨S26x16384x16, .f32⟩
  | .hbm, ⟨22, _⟩ => ⟨S26x16384x16, .i1⟩
  | .hbm, ⟨23, _⟩ => ⟨S_, .f32⟩
  | .hbm, ⟨24, _⟩ => ⟨S26x16384x16, .f32⟩
  | .hbm, ⟨25, _⟩ => ⟨S26x16384x16, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_c_1 : Ref sig .tc := ⟨.hbm, 11, rfl⟩
abbrev main_call0_c_2 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_c_3 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_cst : Ref sig .tc := ⟨.hbm, 23, rfl⟩
abbrev main_call0_v16 : Ref sig .tc := ⟨.hbm, 24, rfl⟩
abbrev main_v0 : Ref sig .tc := ⟨.hbm, 25, rfl⟩

abbrev nD : Nat := 1
abbrev τ : Topo := Topo.v7x

variable {F : FTy → Type} [FloatOps F]
-- ==== Proof.Offsets.lean ====
/-
  Closed forms of the kernel's index arithmetic. Row number `rowNo i t` is the flattened number
  (feature times sixteen plus embedding coordinate) of the row that tile `i` works on at trip `t` of its
  outer loop: tile `(core, subcore)` takes thirteen consecutive rows, starting at
  `13 * (2 * subcore + core)`. Every offset below is stated from that number or from the trip number of
  an inner loop.
-/
module

public import proofs.«01_k».proof.Proof.Gen.KernelIdeal

@[expose] public section

namespace Cert.Proof.Gather

open Cert.KernelIdeal Cert.KernelIdeal.Gen
open Idealize.ShloMosaic

/-- The flattened row that tile `i` works on at trip `t`. -/
abbrev rowNo (i : grid0.Coords) (t : ℕ) : ℕ := 13 * (2 * (i 1).val + (i 0).val) + t

/-- The outer loop makes thirteen trips. -/
theorem trips_outer : k0_t1_loop.trips = 13 := by decide
/-- The inner loop of quarter 0 makes sixteen trips; so do the other three. -/
theorem trips_q0 : k0_t2_loop.trips = 16 := by decide
/-- The inner loop of quarter 1 makes sixteen trips. -/
theorem trips_q1 : k0_t3_loop.trips = 16 := by decide
/-- The inner loop of quarter 2 makes sixteen trips. -/
theorem trips_q2 : k0_t4_loop.trips = 16 := by decide
/-- The inner loop of quarter 3 makes sixteen trips. -/
theorem trips_q3 : k0_t5_loop.trips = 16 := by decide

/-- Every tile has a core number below 2 and a subcore number below 16. -/
theorem coords_lt (i : grid0.Coords) : (i 0).val < 2 ∧ (i 1).val < 16 := ⟨(i 0).isLt, (i 1).isLt⟩

/-- Where the index row is fetched from. -/
theorem off1_eq : ∀ (i : grid0.Coords) (t : Fin k0_t1_loop.trips),
    k0_off1 i t = ![rowNo i t.val / 16, 0] := by decide +kernel
/-- Where the table row is fetched from. -/
theorem off2_eq : ∀ (i : grid0.Coords) (t : Fin k0_t1_loop.trips),
    k0_off2 i t = ![rowNo i t.val / 16, rowNo i t.val % 16, 0] := by decide +kernel

/-- Where quarter 0 of the row is written. -/
theorem off36_eq : ∀ (i : grid0.Coords) (t : Fin k0_t1_loop.trips),
    k0_off36 i t = ![rowNo i t.val / 16, rowNo i t.val % 16, 0] := by decide +kernel

/-- Where quarter 1 of the row is written. -/
theorem off70_eq : ∀ (i : grid0.Coords) (t : Fin k0_t1_loop.trips),
    k0_off70 i t = ![rowNo i t.val / 16, rowNo i t.val % 16, 4096] := by decide +kernel

/-- Where quarter 2 of the row is written. -/
theorem off71_eq : ∀ (i : grid0.Coords) (t : Fin k0_t1_loop.trips),
    k0_off71 i t = ![rowNo i t.val / 16, rowNo i t.val % 16, 8192] := by decide +kernel

/-- Where quarter 3 of the row is written. -/
theorem off104_eq : ∀ (i : grid0.Coords) (t : Fin k0_t1_loop.trips),
    k0_off104 i t = ![rowNo i t.val / 16, rowNo i t.val % 16, 12288] := by decide +kernel

/-- The index row is fetched again at the first trip and whenever a new feature begins. -/
theorem cond1_of_ne : ∀ (i : grid0.Coords) (t : Fin k0_t1_loop.trips),
    k0_cond1 i t ≠ 1#1 → t.val ≠ 0 ∧ rowNo i t.val % 16 ≠ 0 := by decide +kernel
/-- The first drain runs at every trip but the first. -/
theorem cond2_iff : ∀ t : Fin k0_t1_loop.trips, k0_cond2 t = 1#1 ↔ t.val ≠ 0 := by decide +kernel
/-- The second drain runs at every trip but the first. -/
theorem cond3_iff : ∀ t : Fin k0_t1_loop.trips, k0_cond3 t = 1#1 ↔ t.val ≠ 0 := by decide +kernel

/-- Quarter 0, group 0: where the indices are read. -/
theorem off4_eq : ∀ t : Fin k0_t2_loop.trips, k0_off4 t = ![0 + (256 * t.val + 0)] := by decide +kernel
/-- Quarter 0, group 0: where the values are stored. -/
theorem off5_eq : ∀ t : Fin k0_t2_loop.trips, k0_off5 t = ![0 + (256 * t.val + 0)] := by decide +kernel

/-- Quarter 0, group 1: where the indices are read. -/
theorem off6_eq : ∀ t : Fin k0_t2_loop.trips, k0_off6 t = ![0 + (256 * t.val + 16)] := by decide +kernel
/-- Quarter 0, group 1: where the values are stored. -/
theorem off7_eq : ∀ t : Fin k0_t2_loop.trips, k0_off7 t = ![0 + (256 * t.val + 16)] := by decide +kernel

/-- Quarter 0, group 2: where the indices are read. -/
theorem off8_eq : ∀ t : Fin k0_t2_loop.trips, k0_off8 t = ![0 + (256 * t.val + 32)] := by decide +kernel
/-- Quarter 0, group 2: where the values are stored. -/
theorem off9_eq : ∀ t : Fin k0_t2_loop.trips, k0_off9 t = ![0 + (256 * t.val + 32)] := by decide +kernel

/-- Quarter 0, group 3: where the indices are read. -/
theorem off10_eq : ∀ t : Fin k0_t2_loop.trips, k0_off10 t = ![0 + (256 * t.val + 48)] := by decide +kernel
/-- Quarter 0, group 3: where the values are stored. -/
theorem off11_eq : ∀ t : Fin k0_t2_loop.trips, k0_off11 t = ![0 + (256 * t.val + 48)] := by decide +kernel

/-- Quarter 0, group 4: where the indices are read. -/
theorem off12_eq : ∀ t : Fin k0_t2_loop.trips, k0_off12 t = ![0 + (256 * t.val + 64)] := by decide +kernel
/-- Quarter 0, group 4: where the values are stored. -/
theorem off13_eq : ∀ t : Fin k0_t2_loop.trips, k0_off13 t = ![0 + (256 * t.val + 64)] := by decide +kernel

/-- Quarter 0, group 5: where the indices are read. -/
theorem off14_eq : ∀ t : Fin k0_t2_loop.trips, k0_off14 t = ![0 + (256 * t.val + 80)] := by decide +kernel
/-- Quarter 0, group 5: where the values are stored. -/
theorem off15_eq : ∀ t : Fin k0_t2_loop.trips, k0_off15 t = ![0 + (256 * t.val + 80)] := by decide +kernel

/-- Quarter 0, group 6: where the indices are read. -/
theorem off16_eq : ∀ t : Fin k0_t2_loop.trips, k0_off16 t = ![0 + (256 * t.val + 96)] := by decide +kernel
/-- Quarter 0, group 6: where the values are stored. -/
theorem off17_eq : ∀ t : Fin k0_t2_loop.trips, k0_off17 t = ![0 + (256 * t.val + 96)] := by decide +kernel

/-- Quarter 0, group 7: where the indices are read. -/
theorem off18_eq : ∀ t : Fin k0_t2_loop.trips, k0_off18 t = ![0 + (256 * t.val + 112)] := by decide +kernel
/-- Quarter 0, group 7: where the values are stored. -/
theorem off19_eq : ∀ t : Fin k0_t2_loop.trips, k0_off19 t = ![0 + (256 * t.val + 112)] := by decide +kernel

/-- Quarter 0, group 8: where the indices are read. -/
theorem off20_eq : ∀ t : Fin k0_t2_loop.trips, k0_off20 t = ![0 + (256 * t.val + 128)] := by decide +kernel
/-- Quarter 0, group 8: where the values are stored. -/
theorem off21_eq : ∀ t : Fin k0_t2_loop.trips, k0_off21 t = ![0 + (256 * t.val + 128)] := by decide +kernel

/-- Quarter 0, group 9: where the indices are read. -/
theorem off22_eq : ∀ t : Fin k0_t2_loop.trips, k0_off22 t = ![0 + (256 * t.val + 144)] := by decide +kernel
/-- Quarter 0, group 9: where the values are stored. -/
theorem off23_eq : ∀ t : Fin k0_t2_loop.trips, k0_off23 t = ![0 + (256 * t.val + 144)] := by decide +kernel

/-- Quarter 0, group 10: where the indices are read. -/
theorem off24_eq : ∀ t : Fin k0_t2_loop.trips, k0_off24 t = ![0 + (256 * t.val + 160)] := by decide +kernel
/-- Quarter 0, group 10: where the values are stored. -/
theorem off25_eq : ∀ t : Fin k0_t2_loop.trips, k0_off25 t = ![0 + (256 * t.val + 160)] := by decide +kernel

/-- Quarter 0, group 11: where the indices are read. -/
theorem off26_eq : ∀ t : Fin k0_t2_loop.trips, k0_off26 t = ![0 + (256 * t.val + 176)] := by decide +kernel
/-- Quarter 0, group 11: where the values are stored. -/
theorem off27_eq : ∀ t : Fin k0_t2_loop.trips, k0_off27 t = ![0 + (256 * t.val + 176)] := by decide +kernel

/-- Quarter 0, group 12: where the indices are read. -/
theorem off28_eq : ∀ t : Fin k0_t2_loop.trips, k0_off28 t = ![0 + (256 * t.val + 192)] := by decide +kernel
/-- Quarter 0, group 12: where the values are stored. -/
theorem off29_eq : ∀ t : Fin k0_t2_loop.trips, k0_off29 t = ![0 + (256 * t.val + 192)] := by decide +kernel

/-- Quarter 0, group 13: where the indices are read. -/
theorem off30_eq : ∀ t : Fin k0_t2_loop.trips, k0_off30 t = ![0 + (256 * t.val + 208)] := by decide +kernel
/-- Quarter 0, group 13: where the values are stored. -/
theorem off31_eq : ∀ t : Fin k0_t2_loop.trips, k0_off31 t = ![0 + (256 * t.val + 208)] := by decide +kernel

/-- Quarter 0, group 14: where the indices are read. -/
theorem off32_eq : ∀ t : Fin k0_t2_loop.trips, k0_off32 t = ![0 + (256 * t.val + 224)] := by decide +kernel
/-- Quarter 0, group 14: where the values are stored. -/
theorem off33_eq : ∀ t : Fin k0_t2_loop.trips, k0_off33 t = ![0 + (256 * t.val + 224)] := by decide +kernel

/-- Quarter 0, group 15: where the indices are read. -/
theorem off34_eq : ∀ t : Fin k0_t2_loop.trips, k0_off34 t = ![0 + (256 * t.val + 240)] := by decide +kernel
/-- Quarter 0, group 15: where the values are stored. -/
theorem off35_eq : ∀ t : Fin k0_t2_loop.trips, k0_off35 t = ![0 + (256 * t.val + 240)] := by decide +kernel

/-- Quarter 1, group 0: where the indices are read. -/
theorem off38_eq : ∀ t : Fin k0_t3_loop.trips, k0_off38 t = ![4096 + (256 * t.val + 0)] := by decide +kernel
/-- Quarter 1, group 0: where the values are stored. -/
theorem off39_eq : ∀ t : Fin k0_t3_loop.trips, k0_off39 t = ![4096 + (256 * t.val + 0)] := by decide +kernel

/-- Quarter 1, group 1: where the indices are read. -/
theorem off40_eq : ∀ t : Fin k0_t3_loop.trips, k0_off40 t = ![4096 + (256 * t.val + 16)] := by decide +kernel
/-- Quarter 1, group 1: where the values are stored. -/
theorem off41_eq : ∀ t : Fin k0_t3_loop.trips, k0_off41 t = ![4096 + (256 * t.val + 16)] := by decide +kernel

/-- Quarter 1, group 2: where the indices are read. -/
theorem off42_eq : ∀ t : Fin k0_t3_loop.trips, k0_off42 t = ![4096 + (256 * t.val + 32)] := by decide +kernel
/-- Quarter 1, group 2: where the values are stored. -/
theorem off43_eq : ∀ t : Fin k0_t3_loop.trips, k0_off43 t = ![4096 + (256 * t.val + 32)] := by decide +kernel

/-- Quarter 1, group 3: where the indices are read. -/
theorem off44_eq : ∀ t : Fin k0_t3_loop.trips, k0_off44 t = ![4096 + (256 * t.val + 48)] := by decide +kernel
/-- Quarter 1, group 3: where the values are stored. -/
theorem off45_eq : ∀ t : Fin k0_t3_loop.trips, k0_off45 t = ![4096 + (256 * t.val + 48)] := by decide +kernel

/-- Quarter 1, group 4: where the indices are read. -/
theorem off46_eq : ∀ t : Fin k0_t3_loop.trips, k0_off46 t = ![4096 + (256 * t.val + 64)] := by decide +kernel
/-- Quarter 1, group 4: where the values are stored. -/
theorem off47_eq : ∀ t : Fin k0_t3_loop.trips, k0_off47 t = ![4096 + (256 * t.val + 64)] := by decide +kernel

/-- Quarter 1, group 5: where the indices are read. -/
theorem off48_eq : ∀ t : Fin k0_t3_loop.trips, k0_off48 t = ![4096 + (256 * t.val + 80)] := by decide +kernel
/-- Quarter 1, group 5: where the values are stored. -/
theorem off49_eq : ∀ t : Fin k0_t3_loop.trips, k0_off49 t = ![4096 + (256 * t.val + 80)] := by decide +kernel

/-- Quarter 1, group 6: where the indices are read. -/
theorem off50_eq : ∀ t : Fin k0_t3_loop.trips, k0_off50 t = ![4096 + (256 * t.val + 96)] := by decide +kernel
/-- Quarter 1, group 6: where the values are stored. -/
theorem off51_eq : ∀ t : Fin k0_t3_loop.trips, k0_off51 t = ![4096 + (256 * t.val + 96)] := by decide +kernel

/-- Quarter 1, group 7: where the indices are read. -/
theorem off52_eq : ∀ t : Fin k0_t3_loop.trips, k0_off52 t = ![4096 + (256 * t.val + 112)] := by decide +kernel
/-- Quarter 1, group 7: where the values are stored. -/
theorem off53_eq : ∀ t : Fin k0_t3_loop.trips, k0_off53 t = ![4096 + (256 * t.val + 112)] := by decide +kernel

/-- Quarter 1, group 8: where the indices are read. -/
theorem off54_eq : ∀ t : Fin k0_t3_loop.trips, k0_off54 t = ![4096 + (256 * t.val + 128)] := by decide +kernel
/-- Quarter 1, group 8: where the values are stored. -/
theorem off55_eq : ∀ t : Fin k0_t3_loop.trips, k0_off55 t = ![4096 + (256 * t.val + 128)] := by decide +kernel

/-- Quarter 1, group 9: where the indices are read. -/
theorem off56_eq : ∀ t : Fin k0_t3_loop.trips, k0_off56 t = ![4096 + (256 * t.val + 144)] := by decide +kernel
/-- Quarter 1, group 9: where the values are stored. -/
theorem off57_eq : ∀ t : Fin k0_t3_loop.trips, k0_off57 t = ![4096 + (256 * t.val + 144)] := by decide +kernel

/-- Quarter 1, group 10: where the indices are read. -/
theorem off58_eq : ∀ t : Fin k0_t3_loop.trips, k0_off58 t = ![4096 + (256 * t.val + 160)] := by decide +kernel
/-- Quarter 1, group 10: where the values are stored. -/
theorem off59_eq : ∀ t : Fin k0_t3_loop.trips, k0_off59 t = ![4096 + (256 * t.val + 160)] := by decide +kernel

/-- Quarter 1, group 11: where the indices are read. -/
theorem off60_eq : ∀ t : Fin k0_t3_loop.trips, k0_off60 t = ![4096 + (256 * t.val + 176)] := by decide +kernel
/-- Quarter 1, group 11: where the values are stored. -/
theorem off61_eq : ∀ t : Fin k0_t3_loop.trips, k0_off61 t = ![4096 + (256 * t.val + 176)] := by decide +kernel

/-- Quarter 1, group 12: where the indices are read. -/
theorem off62_eq : ∀ t : Fin k0_t3_loop.trips, k0_off62 t = ![4096 + (256 * t.val + 192)] := by decide +kernel
/-- Quarter 1, group 12: where the values are stored. -/
theorem off63_eq : ∀ t : Fin k0_t3_loop.trips, k0_off63 t = ![4096 + (256 * t.val + 192)] := by decide +kernel

/-- Quarter 1, group 13: where the indices are read. -/
theorem off64_eq : ∀ t : Fin k0_t3_loop.trips, k0_off64 t = ![4096 + (256 * t.val + 208)] := by decide +kernel
/-- Quarter 1, group 13: where the values are stored. -/
theorem off65_eq : ∀ t : Fin k0_t3_loop.trips, k0_off65 t = ![4096 + (256 * t.val + 208)] := by decide +kernel

/-- Quarter 1, group 14: where the indices are read. -/
theorem off66_eq : ∀ t : Fin k0_t3_loop.trips, k0_off66 t = ![4096 + (256 * t.val + 224)] := by decide +kernel
/-- Quarter 1, group 14: where the values are stored. -/
theorem off67_eq : ∀ t : Fin k0_t3_loop.trips, k0_off67 t = ![4096 + (256 * t.val + 224)] := by decide +kernel

/-- Quarter 1, group 15: where the indices are read. -/
theorem off68_eq : ∀ t : Fin k0_t3_loop.trips, k0_off68 t = ![4096 + (256 * t.val + 240)] := by decide +kernel
/-- Quarter 1, group 15: where the values are stored. -/
theorem off69_eq : ∀ t : Fin k0_t3_loop.trips, k0_off69 t = ![4096 + (256 * t.val + 240)] := by decide +kernel

/-- Quarter 2, group 0: where the indices are read. -/
theorem off72_eq : ∀ t : Fin k0_t4_loop.trips, k0_off72 t = ![8192 + (256 * t.val + 0)] := by decide +kernel
/-- Quarter 2, group 0: where the values are stored. -/
theorem off73_eq : ∀ t : Fin k0_t4_loop.trips, k0_off73 t = ![0 + (256 * t.val + 0)] := by decide +kernel

/-- Quarter 2, group 1: where the indices are read. -/
theorem off74_eq : ∀ t : Fin k0_t4_loop.trips, k0_off74 t = ![8192 + (256 * t.val + 16)] := by decide +kernel
/-- Quarter 2, group 1: where the values are stored. -/
theorem off75_eq : ∀ t : Fin k0_t4_loop.trips, k0_off75 t = ![0 + (256 * t.val + 16)] := by decide +kernel

/-- Quarter 2, group 2: where the indices are read. -/
theorem off76_eq : ∀ t : Fin k0_t4_loop.trips, k0_off76 t = ![8192 + (256 * t.val + 32)] := by decide +kernel
/-- Quarter 2, group 2: where the values are stored. -/
theorem off77_eq : ∀ t : Fin k0_t4_loop.trips, k0_off77 t = ![0 + (256 * t.val + 32)] := by decide +kernel

/-- Quarter 2, group 3: where the indices are read. -/
theorem off78_eq : ∀ t : Fin k0_t4_loop.trips, k0_off78 t = ![8192 + (256 * t.val + 48)] := by decide +kernel
/-- Quarter 2, group 3: where the values are stored. -/
theorem off79_eq : ∀ t : Fin k0_t4_loop.trips, k0_off79 t = ![0 + (256 * t.val + 48)] := by decide +kernel

/-- Quarter 2, group 4: where the indices are read. -/
theorem off80_eq : ∀ t : Fin k0_t4_loop.trips, k0_off80 t = ![8192 + (256 * t.val + 64)] := by decide +kernel
/-- Quarter 2, group 4: where the values are stored. -/
theorem off81_eq : ∀ t : Fin k0_t4_loop.trips, k0_off81 t = ![0 + (256 * t.val + 64)] := by decide +kernel

/-- Quarter 2, group 5: where the indices are read. -/
theorem off82_eq : ∀ t : Fin k0_t4_loop.trips, k0_off82 t = ![8192 + (256 * t.val + 80)] := by decide +kernel
/-- Quarter 2, group 5: where the values are stored. -/
theorem off83_eq : ∀ t : Fin k0_t4_loop.trips, k0_off83 t = ![0 + (256 * t.val + 80)] := by decide +kernel

/-- Quarter 2, group 6: where the indices are read. -/
theorem off84_eq : ∀ t : Fin k0_t4_loop.trips, k0_off84 t = ![8192 + (256 * t.val + 96)] := by decide +kernel
/-- Quarter 2, group 6: where the values are stored. -/
theorem off85_eq : ∀ t : Fin k0_t4_loop.trips, k0_off85 t = ![0 + (256 * t.val + 96)] := by decide +kernel

/-- Quarter 2, group 7: where the indices are read. -/
theorem off86_eq : ∀ t : Fin k0_t4_loop.trips, k0_off86 t = ![8192 + (256 * t.val + 112)] := by decide +kernel
/-- Quarter 2, group 7: where the values are stored. -/
theorem off87_eq : ∀ t : Fin k0_t4_loop.trips, k0_off87 t = ![0 + (256 * t.val + 112)] := by decide +kernel

/-- Quarter 2, group 8: where the indices are read. -/
theorem off88_eq : ∀ t : Fin k0_t4_loop.trips, k0_off88 t = ![8192 + (256 * t.val + 128)] := by decide +kernel
/-- Quarter 2, group 8: where the values are stored. -/
theorem off89_eq : ∀ t : Fin k0_t4_loop.trips, k0_off89 t = ![0 + (256 * t.val + 128)] := by decide +kernel

/-- Quarter 2, group 9: where the indices are read. -/
theorem off90_eq : ∀ t : Fin k0_t4_loop.trips, k0_off90 t = ![8192 + (256 * t.val + 144)] := by decide +kernel
/-- Quarter 2, group 9: where the values are stored. -/
theorem off91_eq : ∀ t : Fin k0_t4_loop.trips, k0_off91 t = ![0 + (256 * t.val + 144)] := by decide +kernel

/-- Quarter 2, group 10: where the indices are read. -/
theorem off92_eq : ∀ t : Fin k0_t4_loop.trips, k0_off92 t = ![8192 + (256 * t.val + 160)] := by decide +kernel
/-- Quarter 2, group 10: where the values are stored. -/
theorem off93_eq : ∀ t : Fin k0_t4_loop.trips, k0_off93 t = ![0 + (256 * t.val + 160)] := by decide +kernel

/-- Quarter 2, group 11: where the indices are read. -/
theorem off94_eq : ∀ t : Fin k0_t4_loop.trips, k0_off94 t = ![8192 + (256 * t.val + 176)] := by decide +kernel
/-- Quarter 2, group 11: where the values are stored. -/
theorem off95_eq : ∀ t : Fin k0_t4_loop.trips, k0_off95 t = ![0 + (256 * t.val + 176)] := by decide +kernel

/-- Quarter 2, group 12: where the indices are read. -/
theorem off96_eq : ∀ t : Fin k0_t4_loop.trips, k0_off96 t = ![8192 + (256 * t.val + 192)] := by decide +kernel
/-- Quarter 2, group 12: where the values are stored. -/
theorem off97_eq : ∀ t : Fin k0_t4_loop.trips, k0_off97 t = ![0 + (256 * t.val + 192)] := by decide +kernel

/-- Quarter 2, group 13: where the indices are read. -/
theorem off98_eq : ∀ t : Fin k0_t4_loop.trips, k0_off98 t = ![8192 + (256 * t.val + 208)] := by decide +kernel
/-- Quarter 2, group 13: where the values are stored. -/
theorem off99_eq : ∀ t : Fin k0_t4_loop.trips, k0_off99 t = ![0 + (256 * t.val + 208)] := by decide +kernel

/-- Quarter 2, group 14: where the indices are read. -/
theorem off100_eq : ∀ t : Fin k0_t4_loop.trips, k0_off100 t = ![8192 + (256 * t.val + 224)] := by decide +kernel
/-- Quarter 2, group 14: where the values are stored. -/
theorem off101_eq : ∀ t : Fin k0_t4_loop.trips, k0_off101 t = ![0 + (256 * t.val + 224)] := by decide +kernel

/-- Quarter 2, group 15: where the indices are read. -/
theorem off102_eq : ∀ t : Fin k0_t4_loop.trips, k0_off102 t = ![8192 + (256 * t.val + 240)] := by decide +kernel
/-- Quarter 2, group 15: where the values are stored. -/
theorem off103_eq : ∀ t : Fin k0_t4_loop.trips, k0_off103 t = ![0 + (256 * t.val + 240)] := by decide +kernel

/-- Quarter 3, group 0: where the indices are read. -/
theorem off105_eq : ∀ t : Fin k0_t5_loop.trips, k0_off105 t = ![12288 + (256 * t.val + 0)] := by decide +kernel
/-- Quarter 3, group 0: where the values are stored. -/
theorem off106_eq : ∀ t : Fin k0_t5_loop.trips, k0_off106 t = ![4096 + (256 * t.val + 0)] := by decide +kernel

/-- Quarter 3, group 1: where the indices are read. -/
theorem off107_eq : ∀ t : Fin k0_t5_loop.trips, k0_off107 t = ![12288 + (256 * t.val + 16)] := by decide +kernel
/-- Quarter 3, group 1: where the values are stored. -/
theorem off108_eq : ∀ t : Fin k0_t5_loop.trips, k0_off108 t = ![4096 + (256 * t.val + 16)] := by decide +kernel

/-- Quarter 3, group 2: where the indices are read. -/
theorem off109_eq : ∀ t : Fin k0_t5_loop.trips, k0_off109 t = ![12288 + (256 * t.val + 32)] := by decide +kernel
/-- Quarter 3, group 2: where the values are stored. -/
theorem off110_eq : ∀ t : Fin k0_t5_loop.trips, k0_off110 t = ![4096 + (256 * t.val + 32)] := by decide +kernel

/-- Quarter 3, group 3: where the indices are read. -/
theorem off111_eq : ∀ t : Fin k0_t5_loop.trips, k0_off111 t = ![12288 + (256 * t.val + 48)] := by decide +kernel
/-- Quarter 3, group 3: where the values are stored. -/
theorem off112_eq : ∀ t : Fin k0_t5_loop.trips, k0_off112 t = ![4096 + (256 * t.val + 48)] := by decide +kernel

/-- Quarter 3, group 4: where the indices are read. -/
theorem off113_eq : ∀ t : Fin k0_t5_loop.trips, k0_off113 t = ![12288 + (256 * t.val + 64)] := by decide +kernel
/-- Quarter 3, group 4: where the values are stored. -/
theorem off114_eq : ∀ t : Fin k0_t5_loop.trips, k0_off114 t = ![4096 + (256 * t.val + 64)] := by decide +kernel

/-- Quarter 3, group 5: where the indices are read. -/
theorem off115_eq : ∀ t : Fin k0_t5_loop.trips, k0_off115 t = ![12288 + (256 * t.val + 80)] := by decide +kernel
/-- Quarter 3, group 5: where the values are stored. -/
theorem off116_eq : ∀ t : Fin k0_t5_loop.trips, k0_off116 t = ![4096 + (256 * t.val + 80)] := by decide +kernel

/-- Quarter 3, group 6: where the indices are read. -/
theorem off117_eq : ∀ t : Fin k0_t5_loop.trips, k0_off117 t = ![12288 + (256 * t.val + 96)] := by decide +kernel
/-- Quarter 3, group 6: where the values are stored. -/
theorem off118_eq : ∀ t : Fin k0_t5_loop.trips, k0_off118 t = ![4096 + (256 * t.val + 96)] := by decide +kernel

/-- Quarter 3, group 7: where the indices are read. -/
theorem off119_eq : ∀ t : Fin k0_t5_loop.trips, k0_off119 t = ![12288 + (256 * t.val + 112)] := by decide +kernel
/-- Quarter 3, group 7: where the values are stored. -/
theorem off120_eq : ∀ t : Fin k0_t5_loop.trips, k0_off120 t = ![4096 + (256 * t.val + 112)] := by decide +kernel

/-- Quarter 3, group 8: where the indices are read. -/
theorem off121_eq : ∀ t : Fin k0_t5_loop.trips, k0_off121 t = ![12288 + (256 * t.val + 128)] := by decide +kernel
/-- Quarter 3, group 8: where the values are stored. -/
theorem off122_eq : ∀ t : Fin k0_t5_loop.trips, k0_off122 t = ![4096 + (256 * t.val + 128)] := by decide +kernel

/-- Quarter 3, group 9: where the indices are read. -/
theorem off123_eq : ∀ t : Fin k0_t5_loop.trips, k0_off123 t = ![12288 + (256 * t.val + 144)] := by decide +kernel
/-- Quarter 3, group 9: where the values are stored. -/
theorem off124_eq : ∀ t : Fin k0_t5_loop.trips, k0_off124 t = ![4096 + (256 * t.val + 144)] := by decide +kernel

/-- Quarter 3, group 10: where the indices are read. -/
theorem off125_eq : ∀ t : Fin k0_t5_loop.trips, k0_off125 t = ![12288 + (256 * t.val + 160)] := by decide +kernel
/-- Quarter 3, group 10: where the values are stored. -/
theorem off126_eq : ∀ t : Fin k0_t5_loop.trips, k0_off126 t = ![4096 + (256 * t.val + 160)] := by decide +kernel

/-- Quarter 3, group 11: where the indices are read. -/
theorem off127_eq : ∀ t : Fin k0_t5_loop.trips, k0_off127 t = ![12288 + (256 * t.val + 176)] := by decide +kernel
/-- Quarter 3, group 11: where the values are stored. -/
theorem off128_eq : ∀ t : Fin k0_t5_loop.trips, k0_off128 t = ![4096 + (256 * t.val + 176)] := by decide +kernel

/-- Quarter 3, group 12: where the indices are read. -/
theorem off129_eq : ∀ t : Fin k0_t5_loop.trips, k0_off129 t = ![12288 + (256 * t.val + 192)] := by decide +kernel
/-- Quarter 3, group 12: where the values are stored. -/
theorem off130_eq : ∀ t : Fin k0_t5_loop.trips, k0_off130 t = ![4096 + (256 * t.val + 192)] := by decide +kernel

/-- Quarter 3, group 13: where the indices are read. -/
theorem off131_eq : ∀ t : Fin k0_t5_loop.trips, k0_off131 t = ![12288 + (256 * t.val + 208)] := by decide +kernel
/-- Quarter 3, group 13: where the values are stored. -/
theorem off132_eq : ∀ t : Fin k0_t5_loop.trips, k0_off132 t = ![4096 + (256 * t.val + 208)] := by decide +kernel

/-- Quarter 3, group 14: where the indices are read. -/
theorem off133_eq : ∀ t : Fin k0_t5_loop.trips, k0_off133 t = ![12288 + (256 * t.val + 224)] := by decide +kernel
/-- Quarter 3, group 14: where the values are stored. -/
theorem off134_eq : ∀ t : Fin k0_t5_loop.trips, k0_off134 t = ![4096 + (256 * t.val + 224)] := by decide +kernel

/-- Quarter 3, group 15: where the indices are read. -/
theorem off135_eq : ∀ t : Fin k0_t5_loop.trips, k0_off135 t = ![12288 + (256 * t.val + 240)] := by decide +kernel
/-- Quarter 3, group 15: where the values are stored. -/
theorem off136_eq : ∀ t : Fin k0_t5_loop.trips, k0_off136 t = ![4096 + (256 * t.val + 240)] := by decide +kernel

end Cert.Proof.Gather
-- ==== Proof.Setup.lean ====
/-
  The program as the SparseCore launch theorem sees it, the algebra the separation logic runs over, the
  arrays the kernel works on under short names, and what the kernel is to leave in its result.

  The kernel has one call on two SparseCores of sixteen vector subcores each. Its operands are the
  transposed indices (26 x 16384), the transposed tables (26 x 16 x 100000) and the transposed result
  (26 x 16 x 16384); each vector subcore owns a scratch for one table row (100000), one for one index
  row (16384) and one for two quarters of a result row (8192).
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Offsets

@[expose] public section

noncomputable section

namespace Cert.Proof.Gather

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch -/

/-- The labels of the pipelined program. -/
abbrev ΛP : Labels := Pipeline.Sig Λ₀ (Fin 0) fun p => (pcfgs (F := F) p).Adm
/-- The SparseCore launches of the program: one. -/
abbrev K : SparseCore.Cfg τ sig (ΛP (F := F)) 1 := sc (F := F)
/-- The one call runs on sixteen subcores of each core. -/
theorem nSub_eq : (K (F := F)).nSub 0 = 16 := rfl
/-- The one call runs on two cores. -/
theorem nCore_eq : (K (F := F)).nCore 0 = 2 := rfl
/-- The body table of the pipelined program. -/
abbrev D [FloatOps F] : Defs nD τ sig (Elt F) (ΛP (F := F)) := Pipeline.defs pcfgs defs₀
/-- No loop of the kernels needs a variant. -/
abbrev 𝒱₀ : Variants := Variants.none
/-- The same for the pipelined program. -/
abbrev 𝒱 : Variants := 𝒱₀.lift
/-- The variant a body starts at. -/
abbrev v₀ : 𝒱.V := Sum.inl none

/-- The launch semaphores are distinct and none is a kernel's own; no buffer is shared between tasks. -/
theorem launch_facts : (K (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The algebra -/

/-- The launch handshakes' rounds. -/
abbrev UH : Type := URounds (GSem nD τ sig) ℕ
/-- The handshakes' rounds beside the local copies' counters. -/
abbrev UU : Type := UH × Counters

local notation "𝕄" => MT nD τ sig (HIx 1) (Elt F) ℕ UU ℕ

/-- Where the handshakes' rounds sit in the algebra. -/
abbrev EH : Emb UH (MT nD τ sig (HIx 1) (Elt F) ℕ UU ℕ) := embL

/-! ## The arrays -/

/-- The indices as the program is called with them (16384 x 26), on device `d`. -/
abbrev aLoc (d : Dev nD) : Loc nD τ sig := (SparseCore.T d).loc main_arg0
/-- The tables as the program is called with them (26 x 100000 x 16). -/
abbrev bLoc (d : Dev nD) : Loc nD τ sig := (SparseCore.T d).loc main_arg1
/-- The transposed tables (26 x 16 x 100000). -/
abbrev tLoc (d : Dev nD) : Loc nD τ sig := (SparseCore.T d).loc main_v0
/-- The transposed indices (26 x 16384). -/
abbrev xLoc (d : Dev nD) : Loc nD τ sig := (SparseCore.T d).loc main_v1
/-- The kernel's result (26 x 16 x 16384). -/
abbrev oLoc (d : Dev nD) : Loc nD τ sig := (SparseCore.T d).loc main_v2
/-- The program's result (26 x 16384 x 16). -/
abbrev rLoc (d : Dev nD) : Loc nD τ sig := (SparseCore.T d).loc main_v3

/-- The transposed indices as the kernel's operand. -/
abbrev xV : Memref sig .scVector .hbm S26x16384 .i32 := Memref.whole main_v1_scv
/-- The transposed tables as the kernel's operand. -/
abbrev tV : Memref sig .scVector .hbm S26x16x100000 .f32 := Memref.whole main_v0_scv
/-- The result as the kernel's operand. -/
abbrev oV : Memref sig .scVector .hbm S26x16x16384 .f32 := Memref.whole main_v2_scv
/-- The scratch that holds one table row. -/
abbrev sT : Memref sig .scVector .vmem S100000 .f32 := Memref.whole cc0_scratch0
/-- The scratch that holds one index row. -/
abbrev sX : Memref sig .scVector .vmem S16384 .i32 := Memref.whole cc0_scratch1
/-- The scratch that holds two quarters of a result row. -/
abbrev sO : Memref sig .scVector .vmem S8192 .f32 := Memref.whole cc0_scratch2

/-- The SparseCore of the tile at grid position `i`. -/
abbrev cV (i : grid0.Coords) : Fin τ.nSC := (i 0).castLE hcore0
/-- The vector subcore of the tile at grid position `i`. -/
abbrev jV (i : grid0.Coords) : Fin τ.nSub := (i 1).castLE hsub0
/-- The thread of the tile at grid position `i` of device `d`. -/
abbrev thr (d : Dev nD) (i : grid0.Coords) : Thread nD τ := V d (cV i) (jV i)

/-! ## Contents -/

/-- Contents of the transposed indices. -/
abbrev XBuf : Type := S26x16384.Idx → BitVec 32
/-- Contents of the transposed tables. -/
abbrev TBuf (F : FTy → Type) : Type := S26x16x100000.Idx → F .f32
/-- Contents of the kernel's result. -/
abbrev OBuf (F : FTy → Type) : Type := S26x16x16384.Idx → F .f32
/-- Contents of the table-row scratch. -/
abbrev RowT (F : FTy → Type) : Type := S100000.Idx → F .f32
/-- Contents of the index-row scratch. -/
abbrev RowX : Type := S16384.Idx → BitVec 32
/-- Contents of the result scratch. -/
abbrev RowO (F : FTy → Type) : Type := S8192.Idx → F .f32

/-- What the kernel is to compute from indices `X` inside the vocabulary and tables `Tt`: entry
    `(f, d, b)` is the table value at feature `f`, coordinate `d` and vocabulary entry `X (f, b)`. -/
def gathered (X : XBuf) (Tt : TBuf F) (hX : ∀ z, (X z).toNat < 100000) : OBuf F := fun y =>
  Tt (Fin.cons (y 0) (Fin.cons (y 1) (Fin.cons
    (⟨(X (Fin.cons (y 0) (Fin.cons (y 2) finZeroElim))).toNat, hX _⟩ : Fin 100000) finZeroElim)))

/-- The same read off: the value at `y` is the table's at `w` whenever `w` has the coordinates of `y`
    and the vocabulary entry that the index array holds at the place `z` of `y`. -/
theorem gathered_eq (X : XBuf) (Tt : TBuf F) (hX : ∀ z, (X z).toNat < 100000) (y : S26x16x16384.Idx)
    (z : S26x16384.Idx) (w : S26x16x100000.Idx) (hz0 : (z 0).val = (y 0).val) (hz1 : (z 1).val = (y 2).val)
    (hw0 : (w 0).val = (y 0).val) (hw1 : (w 1).val = (y 1).val) (hw2 : (w 2).val = (X z).toNat) :
    gathered X Tt hX y = Tt w := by
  have hz : (Fin.cons (y 0) (Fin.cons (y 2) finZeroElim) : S26x16384.Idx) = z := by
    funext a
    match a with
    | 0 => exact Fin.ext hz0.symm
    | 1 => exact Fin.ext hz1.symm
  unfold gathered
  congr 1
  funext a
  match a with
  | 0 => exact Fin.ext hw0.symm
  | 1 => exact Fin.ext hw1.symm
  | 2 => exact Fin.ext (by rw [hw2, ← hz]; rfl)

end Cert.Proof.Gather

end
-- ==== Proof.Step.lean ====
/-
  One group of sixteen elements of the kernel's inner loop: sixteen indices are loaded from the index
  row, the table row's values at those indices are gathered, and the sixteen values are stored into the
  result scratch. The scratch is filled from the left, so the fact carried from group to group is how
  many of its entries already hold what they are to hold.
-/
module

public import proofs.«01_k».proof.Proof.Setup

@[expose] public section

set_option maxRecDepth 16384

noncomputable section

namespace Cert.Proof.Gather

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The first `n` entries of the scratch half that starts at `sb` are the table row's values at the
    vocabulary entries that the index row holds from place `hb` on. -/
def Filled (sb hb n : ℕ) (ft : RowT F) (fx : RowX) (fo : RowO F) : Prop :=
  ∀ (y : S8192.Idx) (z : S16384.Idx) (w : S100000.Idx), sb ≤ (y 0).val → (y 0).val < sb + n →
    (z 0).val + sb = hb + (y 0).val → (w 0).val = (fx z).toNat → fo y = ft w

/-- Nothing is asked of a scratch of which nothing is filled. -/
theorem filled_zero (sb hb : ℕ) (ft : RowT F) (fx : RowX) (fo : RowO F) : Filled sb hb 0 ft fx fo := by
  intro y z w h1 h2; omega

/-- Every index of the index row names an entry of the table row. -/
def InVocab (fx : RowX) : Prop := ∀ z, (fx z).toNat < 100000

/-- The group of sixteen at places `nl` of the index row and `ns` of the scratch, as the kernel runs it. -/
def group [FloatOps F] (i : grid0.Coords) (nl ns : Fin 1 → ℕ) (hl : ∀ a, nl a + S16.size a ≤ S16384.size a)
    (hs : ∀ a, ns a + S16.size a ≤ S8192.size a) :
    Prog (TpuEff nD τ sig (Elt F) Λ₀ (.scVector (cV i) (jV i))) PUnit := do
  let v : Vec F S16 .i32 ← Prog.lift (.load sX (Rect.unit (s := S16384) nl S16.size hl).toLoadRect (View.loadsAt_vmem h_S16))
  have hw : k0_chk1 v := (← Prog.lift (TpuEff.assume (k0_chk1 v) (k0_chk1.dec v))).down
  let g : Vec F S16 .f32 ← SparseCore.vectorLoadIdx sT ![v] (k0_idx1_inb v hw) (View.loads_vmem h_S100000)
  let _ ← Prog.lift (.load sO (Rect.unit (s := S8192) ns S16.size hs).toLoadRect (View.loadsAt_vmem h_S16))
  Prog.lift (.store sO (Rect.unit (s := S8192) ns S16.size hs) g Finset.univ (View.stores_vmem_bits_univ h_S16 rfl) (.inl rfl))

/-- The places of the result scratch that a rectangle of it names. -/
theorem sO_set (r : Rect S8192) : (sO.access r).set = r.set := View.set_slice_whole cc0_scratch2 r

/-- Reading the whole table-row scratch gives its contents. -/
theorem sT_read (ft : RowT F) : (sT.access (Rect.whole S100000)).read (Elt F) ft = ft := by
  funext x
  show ft _ = ft x
  congr 1
  funext a
  match a with
  | 0 =>
    apply Fin.ext
    show 0 + 1 * (x 0).val = (x 0).val
    omega

/-- Storing the sixteen gathered values extends the filled part by sixteen. -/
theorem filled_store {sb hb n : ℕ} {ft : RowT F} {fx : RowX} {fo : RowO F} (nl ns : Fin 1 → ℕ)
    (hl : ∀ a, nl a + S16.size a ≤ S16384.size a) (hs : ∀ a, ns a + S16.size a ≤ S8192.size a)
    (hnl : nl = ![hb + n]) (hns : ns = ![sb + n])
    (hx : ∀ a x, ((![fun x => fx ((Rect.unit (s := S16384) nl S16.size hl).emb x)] : Fin 1 → IVec S16 32) a x).toNat < S100000.size a)
    (hf : Filled sb hb n ft fx fo) :
    Filled sb hb (n + 16) ft fx
      ((sO.access (Rect.unit (s := S8192) ns S16.size hs)).write (Elt F) fo
        (loadIdx (ft : Vec F S100000 .f32)
          (![fun x => fx ((Rect.unit (s := S16384) nl S16.size hl).emb x)] : Fin 1 → IVec S16 32) hx) Finset.univ) := by
  subst hnl hns
  intro y z w h1 h2 hz hw
  by_cases hy : (y 0).val < sb + n
  · rw [View.write_of_not_mem]
    · exact hf y z w h1 hy hz hw
    · rw [View.setOn_univ]
      rw [sO_set]
      intro h
      have h1 : sb + n ≤ (y 0).val := (Rect.mem_set_unit.1 h 0).1
      omega
  · have hk : (y 0).val - (sb + n) < 16 := by omega
    have hyx : y = (sO.access (Rect.unit (s := S8192) ![sb + n] S16.size hs)).emb (fun | 0 => ⟨(y 0).val - (sb + n), hk⟩) := by
      funext a
      match a with
      | 0 =>
        apply Fin.ext
        show (y 0).val = (sb + n) + 1 * ((y 0).val - (sb + n))
        omega
    rw [hyx, View.write_emb_of_mem _ _ (Finset.mem_univ _)]
    show ft _ = ft w
    congr 1
    funext a
    match a with
    | 0 =>
      apply Fin.ext
      rw [hw]
      show (fx _).toNat = (fx z).toNat
      congr 2
      funext a
      match a with
      | 0 =>
        apply Fin.ext
        show (hb + n) + 1 * ((y 0).val - (sb + n)) = (z 0).val
        omega

variable [FloatOps F]

/-- One group: from a scratch whose first `n` entries are filled to one whose first `n + 16` are. -/
theorem wp_group (d : Dev nD) (i : grid0.Coords) {sb hb n : ℕ} {ft : RowT F} {fx : RowX} {nl ns : Fin 1 → ℕ}
    {hl : ∀ a, nl a + S16.size a ≤ S16384.size a} {hs : ∀ a, ns a + S16.size a ≤ S8192.size a}
    (hnl : nl = ![hb + n]) (hns : ns = ![sb + n]) (hX : InVocab fx) (Sx : Finset S8192.Idx)
    (hS : ∀ y : S8192.Idx, sb ≤ (y 0).val → (y 0).val < sb + 4096 → y ∈ Sx) (hn : n + 16 ≤ 4096) :
    (iprop((sX.view.loc (thr d i) ↦{fullShare} fx) ∗ (sT.view.loc (thr d i) ↦{fullShare} ft)
        ∗ ∃ fo, (sO.view.loc (thr d i) ↦[Sx]{fullShare} fo) ∗ ⌜Filled sb hb n ft fx fo⌝) : sProp 𝕄)
      ⊢ wp frame (wpE (defs₀ (F := F)) 𝒱₀ (thr d i) none) Set.univ (group i nl ns hl hs) fun _ =>
        iprop((sX.view.loc (thr d i) ↦{fullShare} fx) ∗ (sT.view.loc (thr d i) ↦{fullShare} ft)
        ∗ ∃ fo, (sO.view.loc (thr d i) ↦[Sx]{fullShare} fo) ∗ ⌜Filled sb hb (n + 16) ft fx fo⌝) := by
  have hset : (sO.access (Rect.unit (s := S8192) ns S16.size hs)).set ⊆ Sx := by
    rw [sO_set]
    intro y hy
    have h := Rect.mem_set_unit.1 hy 0
    subst hns
    have h1 : sb + n ≤ (y 0).val := h.1
    have h2 : (y 0).val < sb + n + 16 := h.2
    exact hS y (by omega) (by omega)
  iintro ⟨Hx, Ht, %fo, Ho, %hf⟩
  unfold group
  simp only [Prog.bind_lift]
  iapply (wp_load_rect 𝒱₀ (thr d i) none Set.univ (m := sX) (r := Rect.unit (s := S16384) nl S16.size hl) (Finset.subset_univ _)) $$ Hx
  iintro Hx
  have hc : k0_chk1 ((sX.access (Rect.unit (s := S16384) nl S16.size hl)).read (Elt F) fx) := by
    intro a x
    match a with
    | 0 => exact hX _
  rw [wp_assume_of _ _ _ _ hc]
  iapply (SparseCore.wp_vectorLoadIdx 𝒱₀ (thr d i) none Set.univ (base := sT) (S := Finset.univ) (q := fullShare) (Finset.subset_univ _)) $$ Ht
  iintro Ht
  iapply (wp_load_rect 𝒱₀ (thr d i) none Set.univ (m := sO) (r := Rect.unit (s := S8192) ns S16.size hs) hset) $$ Ho
  iintro Ho
  unfold Prog.lift
  iapply (wp_store 𝒱₀ (thr d i) none Set.univ (m := sO) (r := Rect.unit (s := S8192) ns S16.size hs) hset) $$ Ho
  iintro Ho
  sl_step
  isplitl [Hx]; · iexact Hx
  isplitl [Ht]; · iexact Ht
  iexists _
  isplitl [Ho]; · iexact Ho
  ipureintro
  rw [sT_read]
  exact filled_store nl ns hl hs hnl hns hc hf

end Cert.Proof.Gather

end
-- ==== Proof.Copies.lean ====
/-
  What the kernel's copies move. A row of the result is named by the number `s = 16 f + d` of its
  feature `f` and its coordinate `d`. A tile fetches the index row of feature `f` and the table row of
  `(f, d)`, and brings each finished half of the result scratch to one quarter of the result's row.
-/
module

public import proofs.«01_k».proof.Proof.Step

@[expose] public section

set_option maxRecDepth 16384

noncomputable section

namespace Cert.Proof.Gather

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The pieces -/

/-- One index row of the transposed indices. -/
abbrev xRow (off : Fin 2 → ℕ) (inb : ∀ a, off a + S1x16384.size a ≤ S26x16384.size a) : Memref sig .scVector .hbm S16384 .i32 :=
  (xV.slice (Rect.unit (s := S26x16384) off S1x16384.size inb) (fun _ => rfl)).squeeze S16384 squeezes_S1x16384_S16384

/-- One table row of the transposed tables. -/
abbrev tRow (off : Fin 3 → ℕ) (inb : ∀ a, off a + S1x1x100000.size a ≤ S26x16x100000.size a) : Memref sig .scVector .hbm S100000 .f32 :=
  (tV.slice (Rect.unit (s := S26x16x100000) off S1x1x100000.size inb) (fun _ => rfl)).squeeze S100000 squeezes_S1x1x100000_S100000

/-- One quarter of a row of the result. -/
abbrev oPiece (off : Fin 3 → ℕ) (inb : ∀ a, off a + S1x1x4096.size a ≤ S26x16x16384.size a) : Memref sig .scVector .hbm S4096 .f32 :=
  (oV.slice (Rect.unit (s := S26x16x16384) off S1x1x4096.size inb) (fun _ => rfl)).squeeze S4096 squeezes_S1x1x4096_S4096

/-- One half of the result scratch. -/
abbrev half (off : Fin 1 → ℕ) (inb : ∀ a, off a + S4096.size a ≤ S8192.size a) : Memref sig .scVector .vmem S4096 .f32 :=
  sO.slice (Rect.unit (s := S8192) off S4096.size inb) (fun _ => rfl)

/-- The places of quarter `h` of row `s` of the result. -/
def quarter (s h : ℕ) : Finset S26x16x16384.Idx :=
  Finset.univ.filter fun y => (y 0).val * 16 + (y 1).val = s ∧ (y 2).val / 4096 = h

/-- The places of the half of the result scratch that starts at `sb`. -/
def halfSet (sb : ℕ) : Finset S8192.Idx :=
  Finset.univ.filter fun y => sb ≤ (y 0).val ∧ (y 0).val < sb + 4096

/-- A place is in a half exactly if its number is. -/
theorem mem_halfSet {sb : ℕ} {y : S8192.Idx} : y ∈ halfSet sb ↔ sb ≤ (y 0).val ∧ (y 0).val < sb + 4096 := by
  unfold halfSet
  rw [Finset.mem_filter]
  exact ⟨fun h => h.2, fun h => ⟨Finset.mem_univ _, h⟩⟩

/-- A place is in a quarter of a row exactly if its coordinates say so. -/
theorem mem_quarter {s h : ℕ} {y : S26x16x16384.Idx} :
    y ∈ quarter s h ↔ (y 0).val * 16 + (y 1).val = s ∧ (y 2).val / 4096 = h := by
  unfold quarter
  rw [Finset.mem_filter]
  exact ⟨fun h => h.2, fun h => ⟨Finset.mem_univ _, h⟩⟩

/-! ## Where the pieces lie -/

/-- The places of a half of the scratch. -/
theorem half_set (sb : ℕ) (off : Fin 1 → ℕ) (inb) (ho : off = ![sb]) : (half off inb).view.set = halfSet sb := by
  subst ho
  refine (View.set_slice_whole cc0_scratch2 _).trans ?_
  ext y
  rw [mem_halfSet, Rect.mem_set_unit]
  exact ⟨fun h => h 0, fun h a => match a with | 0 => h⟩

/-- The places of a piece of the result: one quarter of one row. -/
theorem oPiece_set (s h : ℕ) (off : Fin 3 → ℕ) (inb) (ho : off = ![s / 16, s % 16, 4096 * h]) :
    (oPiece off inb).view.set = quarter s h := by
  subst ho
  refine (View.set_reshape _ _).trans ((View.set_slice_whole main_v2_scv _).trans ?_)
  ext y
  have hy1 : (y 1).val < 16 := (y 1).isLt
  rw [mem_quarter, Rect.mem_set_unit]
  constructor
  · intro hy
    have h0 : s / 16 ≤ (y 0).val ∧ (y 0).val < s / 16 + 1 := hy 0
    have h1 : s % 16 ≤ (y 1).val ∧ (y 1).val < s % 16 + 1 := hy 1
    have h2 : 4096 * h ≤ (y 2).val ∧ (y 2).val < 4096 * h + 4096 := hy 2
    omega
  · intro hy a
    match a with
    | 0 =>
      show s / 16 ≤ (y 0).val ∧ (y 0).val < s / 16 + 1
      omega
    | 1 =>
      show s % 16 ≤ (y 1).val ∧ (y 1).val < s % 16 + 1
      omega
    | 2 =>
      show 4096 * h ≤ (y 2).val ∧ (y 2).val < 4096 * h + 4096
      omega

/-- A place of a row, seen as a place of the one-row rectangle. -/
theorem squeeze_two {n : ℕ} (h : (⟨1, ![n]⟩ : Shape).numel = (⟨2, ![1, n]⟩ : Shape).numel)
    (x : (⟨1, ![n]⟩ : Shape).Idx) (y : (⟨2, ![1, n]⟩ : Shape).Idx) (hy : (y 1).val = (x 0).val) :
    Shape.reshapeEquiv h x = y := by
  apply Shape.reshapeEquiv_eq_of_rowMajor
  rw [Shape.rowMajor_val_one, Shape.rowMajor_val_two]
  have h0 : (y 0).val = 0 := Nat.lt_one_iff.mp (y 0).isLt
  rw [h0, hy, Nat.zero_mul, Nat.zero_add]

/-- A place of a row, seen as a place of the rectangle of one row of one feature. -/
theorem squeeze_three {n : ℕ} (h : (⟨1, ![n]⟩ : Shape).numel = (⟨3, ![1, 1, n]⟩ : Shape).numel)
    (x : (⟨1, ![n]⟩ : Shape).Idx) (y : (⟨3, ![1, 1, n]⟩ : Shape).Idx) (hy : (y 2).val = (x 0).val) :
    Shape.reshapeEquiv h x = y := by
  apply Shape.reshapeEquiv_eq_of_rowMajor
  rw [Shape.rowMajor_val_one, Shape.rowMajor_val_three]
  have h0 : (y 0).val = 0 := Nat.lt_one_iff.mp (y 0).isLt
  have h1 : (y 1).val = 0 := Nat.lt_one_iff.mp (y 1).isLt
  rw [h0, h1, hy, Nat.zero_mul, Nat.zero_add, Nat.zero_mul, Nat.zero_add]

/-- Place `x` of an index row is place `x` of that row of the indices. -/
theorem xRow_emb (f : ℕ) (off : Fin 2 → ℕ) (inb) (ho : off = ![f, 0]) (x : S16384.Idx) (z : S26x16384.Idx)
    (hz0 : (z 0).val = f) (hz1 : (z 1).val = (x 0).val) : (xRow off inb).view.emb x = z := by
  subst ho
  have he : Shape.reshapeEquiv squeezes_S1x16384_S16384.numel_eq x
      = (Fin.cons (0 : Fin 1) (Fin.cons (x 0) finZeroElim) : S1x16384.Idx) := squeeze_two _ _ _ rfl
  show (Rect.unit (s := S26x16384) ![f, 0] S1x16384.size inb).emb (Shape.reshapeEquiv squeezes_S1x16384_S16384.numel_eq x) = z
  rw [he]
  funext a
  match a with
  | 0 =>
    apply Fin.ext
    show f + 1 * 0 = (z 0).val
    omega
  | 1 =>
    apply Fin.ext
    show 0 + 1 * (x 0).val = (z 1).val
    omega

/-- Place `x` of a table row is place `x` of that row of the tables. -/
theorem tRow_emb (f k : ℕ) (off : Fin 3 → ℕ) (inb) (ho : off = ![f, k, 0]) (x : S100000.Idx) (w : S26x16x100000.Idx)
    (hw0 : (w 0).val = f) (hw1 : (w 1).val = k) (hw2 : (w 2).val = (x 0).val) : (tRow off inb).view.emb x = w := by
  subst ho
  have he : Shape.reshapeEquiv squeezes_S1x1x100000_S100000.numel_eq x
      = (Fin.cons (0 : Fin 1) (Fin.cons (0 : Fin 1) (Fin.cons (x 0) finZeroElim)) : S1x1x100000.Idx) := squeeze_three _ _ _ rfl
  show (Rect.unit (s := S26x16x100000) ![f, k, 0] S1x1x100000.size inb).emb (Shape.reshapeEquiv squeezes_S1x1x100000_S100000.numel_eq x) = w
  rw [he]
  funext a
  match a with
  | 0 =>
    apply Fin.ext
    show f + 1 * 0 = (w 0).val
    omega
  | 1 =>
    apply Fin.ext
    show k + 1 * 0 = (w 1).val
    omega
  | 2 =>
    apply Fin.ext
    show 0 + 1 * (x 0).val = (w 2).val
    omega

/-- Place `x` of a piece of the result is place `x` of that quarter. -/
theorem oPiece_emb (f k b : ℕ) (off : Fin 3 → ℕ) (inb) (ho : off = ![f, k, b]) (x : S4096.Idx) (y : S26x16x16384.Idx)
    (hy0 : (y 0).val = f) (hy1 : (y 1).val = k) (hy2 : (y 2).val = b + (x 0).val) : (oPiece off inb).view.emb x = y := by
  subst ho
  have he : Shape.reshapeEquiv squeezes_S1x1x4096_S4096.numel_eq x
      = (Fin.cons (0 : Fin 1) (Fin.cons (0 : Fin 1) (Fin.cons (x 0) finZeroElim)) : S1x1x4096.Idx) := squeeze_three _ _ _ rfl
  show (Rect.unit (s := S26x16x16384) ![f, k, b] S1x1x4096.size inb).emb (Shape.reshapeEquiv squeezes_S1x1x4096_S4096.numel_eq x) = y
  rw [he]
  funext a
  match a with
  | 0 =>
    apply Fin.ext
    show f + 1 * 0 = (y 0).val
    omega
  | 1 =>
    apply Fin.ext
    show k + 1 * 0 = (y 1).val
    omega
  | 2 =>
    apply Fin.ext
    show b + 1 * (x 0).val = (y 2).val
    omega

/-! ## What the pieces hold -/

/-- The index scratch holds the index row of row `s` of the result. -/
def RowOfX (X : XBuf) (s : ℕ) (fx : RowX) : Prop :=
  ∀ (x : S16384.Idx) (z : S26x16384.Idx), (z 0).val = s / 16 → (z 1).val = (x 0).val → fx x = X z

/-- The table scratch holds the table row of row `s` of the result. -/
def RowOfT (Tt : TBuf F) (s : ℕ) (ft : RowT F) : Prop :=
  ∀ (x : S100000.Idx) (w : S26x16x100000.Idx), (w 0).val = s / 16 → (w 1).val = s % 16 → (w 2).val = (x 0).val → ft x = Tt w

/-- Two rows of the same feature have the same index row. -/
theorem RowOfX.same {X : XBuf} {s s' : ℕ} {fx : RowX} (h : RowOfX X s fx) (hs : s' / 16 = s / 16) : RowOfX X s' fx :=
  fun x z h0 h1 => h x z (h0.trans hs) h1

/-- A fetched index row holds only vocabulary entries. -/
theorem RowOfX.inVocab {X : XBuf} {s : ℕ} {fx : RowX} (h : RowOfX X s fx) (hX : ∀ z, (X z).toNat < 100000)
    (hs : s < 416) : InVocab fx := by
  intro x
  have hs' : s / 16 < 26 := by omega
  rw [h x (Fin.cons (⟨s / 16, hs'⟩ : Fin 26) (Fin.cons (x 0) finZeroElim)) rfl rfl]
  exact hX _

/-- What the copy of an index row leaves in the index scratch. -/
theorem rowOfX_fetch (X : XBuf) (s : ℕ) (fx : RowX) (off : Fin 2 → ℕ) (inb) (ho : off = ![s / 16, 0]) :
    RowOfX X s (sX.view.write (Elt F) fx ((xRow off inb).view.read (Elt F) X) Finset.univ) := by
  intro x z h0 h1
  have hw : sX.view.write (Elt F) fx ((xRow off inb).view.read (Elt F) X) Finset.univ = (xRow off inb).view.read (Elt F) X :=
    View.write_whole_univ cc0_scratch1 _ _
  rw [hw]
  show X ((xRow off inb).view.emb x) = X z
  rw [xRow_emb (s / 16) off inb ho x z h0 h1]

/-- What the copy of a table row leaves in the table scratch. -/
theorem rowOfT_fetch (Tt : TBuf F) (s : ℕ) (ft : RowT F) (off : Fin 3 → ℕ) (inb) (ho : off = ![s / 16, s % 16, 0]) :
    RowOfT Tt s (sT.view.write (Elt F) ft ((tRow off inb).view.read (Elt F) Tt) Finset.univ) := by
  intro x w h0 h1 h2
  have hw : sT.view.write (Elt F) ft ((tRow off inb).view.read (Elt F) Tt) Finset.univ = (tRow off inb).view.read (Elt F) Tt :=
    View.write_whole_univ cc0_scratch0 _ _
  rw [hw]
  show Tt ((tRow off inb).view.emb x) = Tt w
  rw [tRow_emb (s / 16) (s % 16) off inb ho x w h0 h1 h2]

/-- What the copy of a filled half leaves in its quarter of the result: the gathered values. -/
theorem quarter_written (X : XBuf) (Tt : TBuf F) (hX : ∀ z, (X z).toNat < 100000) (s h sb : ℕ) (hsb : sb + 4096 ≤ 8192) (hh : h < 4)
    (ft : RowT F) (fx : RowX) (fo : RowO F) (f0 : OBuf F) (hT : RowOfT Tt s ft) (hXr : RowOfX X s fx)
    (hf : Filled sb (4096 * h) 4096 ft fx fo)
    (off : Fin 3 → ℕ) (inb) (ho : off = ![s / 16, s % 16, 4096 * h]) (offh : Fin 1 → ℕ) (inbh) (hoh : offh = ![sb])
    (y : S26x16x16384.Idx) (hy : y ∈ quarter s h) :
    (oPiece off inb).view.write (Elt F) f0 ((half offh inbh).view.read (Elt F) fo) Finset.univ y = gathered X Tt hX y := by
  rw [mem_quarter] at hy
  have hy1 : (y 1).val < 16 := (y 1).isLt
  have hy2 : (y 2).val < 16384 := (y 2).isLt
  have hk : (y 2).val - 4096 * h < 4096 := by omega
  have hyx : (oPiece off inb).view.emb (fun | 0 => ⟨(y 2).val - 4096 * h, hk⟩) = y :=
    oPiece_emb _ _ _ off inb ho _ y (by omega) (by omega) (by show (y 2).val = 4096 * h + ((y 2).val - 4096 * h); omega)
  have hw := View.write_emb_of_mem (v := (oPiece off inb).view) (Val := Elt F) f0 ((half offh inbh).view.read (Elt F) fo)
    (Finset.mem_univ (fun | 0 => ⟨(y 2).val - 4096 * h, hk⟩ : S4096.Idx))
  rw [hyx] at hw
  rw [hw]
  subst hoh
  show fo ((half ![sb] inbh).view.emb (fun | 0 => ⟨(y 2).val - 4096 * h, hk⟩)) = _
  have he : (half ![sb] inbh).view.emb (fun | 0 => ⟨(y 2).val - 4096 * h, hk⟩)
      = (fun | 0 => ⟨sb + ((y 2).val - 4096 * h), by show sb + ((y 2).val - 4096 * h) < 8192; omega⟩ : S8192.Idx) := by
    funext a
    match a with
    | 0 =>
      apply Fin.ext
      show sb + 1 * ((y 2).val - 4096 * h) = sb + ((y 2).val - 4096 * h)
      omega
  rw [he]
  have hx : fx (fun | 0 => y 2 : S16384.Idx) = X (Fin.cons (y 0) (Fin.cons (y 2) finZeroElim)) :=
    hXr _ _ (by show (y 0).val = s / 16; omega) rfl
  have hlt : (fx (fun | 0 => y 2 : S16384.Idx)).toNat < 100000 := by rw [hx]; exact hX _
  rw [hf _ (fun | 0 => y 2) (fun | 0 => ⟨(fx (fun | 0 => y 2 : S16384.Idx)).toNat, hlt⟩)
    (by show sb ≤ sb + ((y 2).val - 4096 * h); omega) (by show sb + ((y 2).val - 4096 * h) < sb + 4096; omega)
    (by show (y 2).val + sb = 4096 * h + (sb + ((y 2).val - 4096 * h)); omega) rfl]
  rw [gathered_eq X Tt hX y (Fin.cons (y 0) (Fin.cons (y 2) finZeroElim))
    (Fin.cons (y 0) (Fin.cons (y 1) (Fin.cons (⟨(fx (fun | 0 => y 2 : S16384.Idx)).toNat, hlt⟩ : Fin 100000) finZeroElim)))
    rfl rfl rfl rfl (show (fx (fun | 0 => y 2 : S16384.Idx)).toNat = _ from congrArg BitVec.toNat hx)]
  exact hT _ _ (by show (y 0).val = s / 16; omega) (by show (y 1).val = s % 16; omega) rfl

end Cert.Proof.Gather

end
-- ==== Proof.Quarter.lean ====
/-
  The inner loops. Each quarter of a result row is filled by a loop of sixteen trips of sixteen groups; after
  trip `t` the first `256 * (t + 1)` entries of the quarter's half of the scratch are filled.
-/
module

public import proofs.«01_k».proof.Proof.Step

@[expose] public section

set_option maxRecDepth 16384

noncomputable section

namespace Cert.Proof.Gather

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Run one program after another. -/
theorem wp_seq (d : Dev nD) (i : grid0.Coords) {P R : sProp 𝕄} {α : Type} {Q : α → sProp 𝕄}
    {p : Prog (TpuEff nD τ sig (Elt F) Λ₀ (.scVector (cV i) (jV i))) PUnit}
    {q : Prog (TpuEff nD τ sig (Elt F) Λ₀ (.scVector (cV i) (jV i))) α}
    (hp : P ⊢ wp frame (wpE (defs₀ (F := F)) 𝒱₀ (thr d i) none) Set.univ p fun _ => R)
    (hq : R ⊢ wp frame (wpE (defs₀ (F := F)) 𝒱₀ (thr d i) none) Set.univ q Q) :
    P ⊢ wp frame (wpE (defs₀ (F := F)) 𝒱₀ (thr d i) none) Set.univ (p >>= fun _ => q) Q := by
  rw [wp_bind]
  exact hp.trans (wp_mono _ _ _ fun _ => hq)

/-- What the loops hold: the index row, the table row, and a scratch half filled up to `n`. -/
abbrev loopAt (d : Dev nD) (i : grid0.Coords) (Sx : Finset S8192.Idx) (sb hb : ℕ) (ft : RowT F) (fx : RowX) (n : ℕ) : sProp 𝕄 :=
  iprop((sX.view.loc (thr d i) ↦{fullShare} fx) ∗ (sT.view.loc (thr d i) ↦{fullShare} ft)
    ∗ ∃ fo, (sO.view.loc (thr d i) ↦[Sx]{fullShare} fo) ∗ ⌜Filled sb hb n ft fx fo⌝)

/-- Quarter 0: the body of the inner loop at the kernel's own arrays. -/
abbrev body0 (i : grid0.Coords) (t : Fin k0_t1_loop.trips) (a : BitVec 32) :
    Fin k0_t2_loop.trips → Unit → Prog (TpuEff nD τ sig (Elt F) Λ₀ (.scVector (cV i) (jV i))) Unit :=
  k0_t2_body i xV (Memref.isWhole_whole _) tV (Memref.isWhole_whole _) oV (Memref.isWhole_whole _)
      sT (Memref.isWhole_whole _) sX (Memref.isWhole_whole _) sO (Memref.isWhole_whole _)
      cc0_scratch3 cc0_scratch4 cc0_scoped0 cc0_scoped1 t a

/-- Quarter 0: a trip is sixteen groups in order. -/
theorem body0_eq (i : grid0.Coords) (t : Fin k0_t1_loop.trips) (a : BitVec 32) (k : Fin k0_t2_loop.trips) (u : Unit) :
    body0 (F := F) i t a k u = (do
      group i (k0_off4 k) (k0_off5 k) (k0_off4_inb k) (k0_off5_inb k)
      group i (k0_off6 k) (k0_off7 k) (k0_off6_inb k) (k0_off7_inb k)
      group i (k0_off8 k) (k0_off9 k) (k0_off8_inb k) (k0_off9_inb k)
      group i (k0_off10 k) (k0_off11 k) (k0_off10_inb k) (k0_off11_inb k)
      group i (k0_off12 k) (k0_off13 k) (k0_off12_inb k) (k0_off13_inb k)
      group i (k0_off14 k) (k0_off15 k) (k0_off14_inb k) (k0_off15_inb k)
      group i (k0_off16 k) (k0_off17 k) (k0_off16_inb k) (k0_off17_inb k)
      group i (k0_off18 k) (k0_off19 k) (k0_off18_inb k) (k0_off19_inb k)
      group i (k0_off20 k) (k0_off21 k) (k0_off20_inb k) (k0_off21_inb k)
      group i (k0_off22 k) (k0_off23 k) (k0_off22_inb k) (k0_off23_inb k)
      group i (k0_off24 k) (k0_off25 k) (k0_off24_inb k) (k0_off25_inb k)
      group i (k0_off26 k) (k0_off27 k) (k0_off26_inb k) (k0_off27_inb k)
      group i (k0_off28 k) (k0_off29 k) (k0_off28_inb k) (k0_off29_inb k)
      group i (k0_off30 k) (k0_off31 k) (k0_off30_inb k) (k0_off31_inb k)
      group i (k0_off32 k) (k0_off33 k) (k0_off32_inb k) (k0_off33_inb k)
      group i (k0_off34 k) (k0_off35 k) (k0_off34_inb k) (k0_off35_inb k)
      pure ⟨⟩) := rfl

/-- Quarter 0: a trip fills 256 more entries. -/
theorem wp_body0 (d : Dev nD) (i : grid0.Coords) (t : Fin k0_t1_loop.trips) (a : BitVec 32) {ft : RowT F} {fx : RowX} (hX : InVocab fx)
    (Sx : Finset S8192.Idx) (hS : ∀ y : S8192.Idx, 0 ≤ (y 0).val → (y 0).val < 0 + 4096 → y ∈ Sx)
    (k : Fin k0_t2_loop.trips) (u : Unit) :
    loopAt d i Sx 0 0 ft fx (256 * k.val)
      ⊢ wp frame (wpE (defs₀ (F := F)) 𝒱₀ (thr d i) none) Set.univ (body0 (F := F) i t a k u)
          fun _ => loopAt d i Sx 0 0 ft fx (256 * (k.val + 1)) := by
  rw [body0_eq]
  exact
    wp_seq d i (wp_group d i (n := 256 * k.val + 0) (off4_eq k) (off5_eq k) hX Sx hS (by have := k.isLt; have := trips_q0; omega)) <|
    wp_seq d i (wp_group d i (n := 256 * k.val + 16) (off6_eq k) (off7_eq k) hX Sx hS (by have := k.isLt; have := trips_q0; omega)) <|
    wp_seq d i (wp_group d i (n := 256 * k.val + 32) (off8_eq k) (off9_eq k) hX Sx hS (by have := k.isLt; have := trips_q0; omega)) <|
    wp_seq d i (wp_group d i (n := 256 * k.val + 48) (off10_eq k) (off11_eq k) hX Sx hS (by have := k.isLt; have := trips_q0; omega)) <|
    wp_seq d i (wp_group d i (n := 256 * k.val + 64) (off12_eq k) (off13_eq k) hX Sx hS (by have := k.isLt; have := trips_q0; omega)) <|
    wp_seq d i (wp_group d i (n := 256 * k.val + 80) (off14_eq k) (off15_eq k) hX Sx hS (by have := k.isLt; have := trips_q0; omega)) <|
    wp_seq d i (wp_group d i (n := 256 * k.val + 96) (off16_eq k) (off17_eq k) hX Sx hS (by have := k.isLt; have := trips_q0; omega)) <|
    wp_seq d i (wp_group d i (n := 256 * k.val + 112) (off18_eq k) (off19_eq k) hX Sx hS (by have := k.isLt; have := trips_q0; omega)) <|
    wp_seq d i (wp_group d i (n := 256 * k.val + 128) (off20_eq k) (off21_eq k) hX Sx hS (by have := k.isLt; have := trips_q0; omega)) <|
    wp_seq d i (wp_group d i (n := 256 * k.val + 144) (off22_eq k) (off23_eq k) hX Sx hS (by have := k.isLt; have := trips_q0; omega)) <|
    wp_seq d i (wp_group d i (n := 256 * k.val + 160) (off24_eq k) (off25_eq k) hX Sx hS (by have := k.isLt; have := trips_q0; omega)) <|
    wp_seq d i (wp_group d i (n := 256 * k.val + 176) (off26_eq k) (off27_eq k) hX Sx hS (by have := k.isLt; have := trips_q0; omega)) <|
    wp_seq d i (wp_group d i (n := 256 * k.val + 192) (off28_eq k) (off29_eq k) hX Sx hS (by have := k.isLt; have := trips_q0; omega)) <|
    wp_seq d i (wp_group d i (n := 256 * k.val + 208) (off30_eq k) (off31_eq k) hX Sx hS (by have := k.isLt; have := trips_q0; omega)) <|
    wp_seq d i (wp_group d i (n := 256 * k.val + 224) (off32_eq k) (off33_eq k) hX Sx hS (by have := k.isLt; have := trips_q0; omega)) <|
    wp_seq d i (wp_group d i (n := 256 * k.val + 240) (off34_eq k) (off35_eq k) hX Sx hS (by have := k.isLt; have := trips_q0; omega)) <|
    (by rw [wp_pure]; exact fupd_intro)

/-- Quarter 0: the loop fills its half of the scratch. -/
theorem wp_loop0 (d : Dev nD) (i : grid0.Coords) (t : Fin k0_t1_loop.trips) (a : BitVec 32) {ft : RowT F} {fx : RowX} (hX : InVocab fx)
    (Sx : Finset S8192.Idx) (hS : ∀ y : S8192.Idx, 0 ≤ (y 0).val → (y 0).val < 0 + 4096 → y ∈ Sx) :
    loopAt d i Sx 0 0 ft fx 0
      ⊢ wp frame (wpE (defs₀ (F := F)) 𝒱₀ (thr d i) none) Set.univ (Scf.Loop.for k0_t2_loop k0_t2_ok ⟨⟩ (body0 (F := F) i t a))
          fun _ => loopAt d i Sx 0 0 ft fx 4096 := by
  iintro H
  iapply (Scf.wp_for _ _ _ _ _ _ _ _ _ (fun n _ => loopAt d i Sx 0 0 ft fx (256 * n))
    (fun k u => wp_body0 d i t a hX Sx hS k u))
  isplitl [H]; · iexact H
  iintro %u H
  iexact H

/-- Quarter 1: the body of the inner loop at the kernel's own arrays. -/
abbrev body1 (i : grid0.Coords) (t : Fin k0_t1_loop.trips) (a : BitVec 32) :
    Fin k0_t3_loop.trips → Unit → Prog (TpuEff nD τ sig (Elt F) Λ₀ (.scVector (cV i) (jV i))) Unit :=
  k0_t3_body i xV (Memref.isWhole_whole _) tV (Memref.isWhole_whole _) oV (Memref.isWhole_whole _)
      sT (Memref.isWhole_whole _) sX (Memref.isWhole_whole _) sO (Memref.isWhole_whole _)
      cc0_scratch3 cc0_scratch4 cc0_scoped0 cc0_scoped1 t a

/-- Quarter 1: a trip is sixteen groups in order. -/
theorem body1_eq (i : grid0.Coords) (t : Fin k0_t1_loop.trips) (a : BitVec 32) (k : Fin k0_t3_loop.trips) (u : Unit) :
    body1 (F := F) i t a k u = (do
      group i (k0_off38 k) (k0_off39 k) (k0_off38_inb k) (k0_off39_inb k)
      group i (k0_off40 k) (k0_off41 k) (k0_off40_inb k) (k0_off41_inb k)
      group i (k0_off42 k) (k0_off43 k) (k0_off42_inb k) (k0_off43_inb k)
      group i (k0_off44 k) (k0_off45 k) (k0_off44_inb k) (k0_off45_inb k)
      group i (k0_off46 k) (k0_off47 k) (k0_off46_inb k) (k0_off47_inb k)
      group i (k0_off48 k) (k0_off49 k) (k0_off48_inb k) (k0_off49_inb k)
      group i (k0_off50 k) (k0_off51 k) (k0_off50_inb k) (k0_off51_inb k)
      group i (k0_off52 k) (k0_off53 k) (k0_off52_inb k) (k0_off53_inb k)
      group i (k0_off54 k) (k0_off55 k) (k0_off54_inb k) (k0_off55_inb k)
      group i (k0_off56 k) (k0_off57 k) (k0_off56_inb k) (k0_off57_inb k)
      group i (k0_off58 k) (k0_off59 k) (k0_off58_inb k) (k0_off59_inb k)
      group i (k0_off60 k) (k0_off61 k) (k0_off60_inb k) (k0_off61_inb k)
      group i (k0_off62 k) (k0_off63 k) (k0_off62_inb k) (k0_off63_inb k)
      group i (k0_off64 k) (k0_off65 k) (k0_off64_inb k) (k0_off65_inb k)
      group i (k0_off66 k) (k0_off67 k) (k0_off66_inb k) (k0_off67_inb k)
      group i (k0_off68 k) (k0_off69 k) (k0_off68_inb k) (k0_off69_inb k)
      pure ⟨⟩) := rfl

/-- Quarter 1: a trip fills 256 more entries. -/
theorem wp_body1 (d : Dev nD) (i : grid0.Coords) (t : Fin k0_t1_loop.trips) (a : BitVec 32) {ft : RowT F} {fx : RowX} (hX : InVocab fx)
    (Sx : Finset S8192.Idx) (hS : ∀ y : S8192.Idx, 4096 ≤ (y 0).val → (y 0).val < 4096 + 4096 → y ∈ Sx)
    (k : Fin k0_t3_loop.trips) (u : Unit) :
    loopAt d i Sx 4096 4096 ft fx (256 * k.val)
      ⊢ wp frame (wpE (defs₀ (F := F)) 𝒱₀ (thr d i) none) Set.univ (body1 (F := F) i t a k u)
          fun _ => loopAt d i Sx 4096 4096 ft fx (256 * (k.val + 1)) := by
  rw [body1_eq]
  exact
    wp_seq d i (wp_group d i (n := 256 * k.val + 0) (off38_eq k) (off39_eq k) hX Sx hS (by have := k.isLt; have := trips_q1; omega)) <|
    wp_seq d i (wp_group d i (n := 256 * k.val + 16) (off40_eq k) (off41_eq k) hX Sx hS (by have := k.isLt; have := trips_q1; omega)) <|
    wp_seq d i (wp_group d i (n := 256 * k.val + 32) (off42_eq k) (off43_eq k) hX Sx hS (by have := k.isLt; have := trips_q1; omega)) <|
    wp_seq d i (wp_group d i (n := 256 * k.val + 48) (off44_eq k) (off45_eq k) hX Sx hS (by have := k.isLt; have := trips_q1; omega)) <|
    wp_seq d i (wp_group d i (n := 256 * k.val + 64) (off46_eq k) (off47_eq k) hX Sx hS (by have := k.isLt; have := trips_q1; omega)) <|
    wp_seq d i (wp_group d i (n := 256 * k.val + 80) (off48_eq k) (off49_eq k) hX Sx hS (by have := k.isLt; have := trips_q1; omega)) <|
    wp_seq d i (wp_group d i (n := 256 * k.val + 96) (off50_eq k) (off51_eq k) hX Sx hS (by have := k.isLt; have := trips_q1; omega)) <|
    wp_seq d i (wp_group d i (n := 256 * k.val + 112) (off52_eq k) (off53_eq k) hX Sx hS (by have := k.isLt; have := trips_q1; omega)) <|
    wp_seq d i (wp_group d i (n := 256 * k.val + 128) (off54_eq k) (off55_eq k) hX Sx hS (by have := k.isLt; have := trips_q1; omega)) <|
    wp_seq d i (wp_group d i (n := 256 * k.val + 144) (off56_eq k) (off57_eq k) hX Sx hS (by have := k.isLt; have := trips_q1; omega)) <|
    wp_seq d i (wp_group d i (n := 256 * k.val + 160) (off58_eq k) (off59_eq k) hX Sx hS (by have := k.isLt; have := trips_q1; omega)) <|
    wp_seq d i (wp_group d i (n := 256 * k.val + 176) (off60_eq k) (off61_eq k) hX Sx hS (by have := k.isLt; have := trips_q1; omega)) <|
    wp_seq d i (wp_group d i (n := 256 * k.val + 192) (off62_eq k) (off63_eq k) hX Sx hS (by have := k.isLt; have := trips_q1; omega)) <|
    wp_seq d i (wp_group d i (n := 256 * k.val + 208) (off64_eq k) (off65_eq k) hX Sx hS (by have := k.isLt; have := trips_q1; omega)) <|
    wp_seq d i (wp_group d i (n := 256 * k.val + 224) (off66_eq k) (off67_eq k) hX Sx hS (by have := k.isLt; have := trips_q1; omega)) <|
    wp_seq d i (wp_group d i (n := 256 * k.val + 240) (off68_eq k) (off69_eq k) hX Sx hS (by have := k.isLt; have := trips_q1; omega)) <|
    (by rw [wp_pure]; exact fupd_intro)

/-- Quarter 1: the loop fills its half of the scratch. -/
theorem wp_loop1 (d : Dev nD) (i : grid0.Coords) (t : Fin k0_t1_loop.trips) (a : BitVec 32) {ft : RowT F} {fx : RowX} (hX : InVocab fx)
    (Sx : Finset S8192.Idx) (hS : ∀ y : S8192.Idx, 4096 ≤ (y 0).val → (y 0).val < 4096 + 4096 → y ∈ Sx) :
    loopAt d i Sx 4096 4096 ft fx 0
      ⊢ wp frame (wpE (defs₀ (F := F)) 𝒱₀ (thr d i) none) Set.univ (Scf.Loop.for k0_t3_loop k0_t3_ok ⟨⟩ (body1 (F := F) i t a))
          fun _ => loopAt d i Sx 4096 4096 ft fx 4096 := by
  iintro H
  iapply (Scf.wp_for _ _ _ _ _ _ _ _ _ (fun n _ => loopAt d i Sx 4096 4096 ft fx (256 * n))
    (fun k u => wp_body1 d i t a hX Sx hS k u))
  isplitl [H]; · iexact H
  iintro %u H
  iexact H

/-- Quarter 2: the body of the inner loop at the kernel's own arrays. -/
abbrev body2 (i : grid0.Coords) :
    Fin k0_t4_loop.trips → Unit → Prog (TpuEff nD τ sig (Elt F) Λ₀ (.scVector (cV i) (jV i))) Unit :=
  k0_t4_body i xV (Memref.isWhole_whole _) tV (Memref.isWhole_whole _) oV (Memref.isWhole_whole _)
      sT (Memref.isWhole_whole _) sX (Memref.isWhole_whole _) sO (Memref.isWhole_whole _)
      cc0_scratch3 cc0_scratch4 cc0_scoped0 cc0_scoped1

/-- Quarter 2: a trip is sixteen groups in order. -/
theorem body2_eq (i : grid0.Coords) (k : Fin k0_t4_loop.trips) (u : Unit) :
    body2 (F := F) i k u = (do
      group i (k0_off72 k) (k0_off73 k) (k0_off72_inb k) (k0_off73_inb k)
      group i (k0_off74 k) (k0_off75 k) (k0_off74_inb k) (k0_off75_inb k)
      group i (k0_off76 k) (k0_off77 k) (k0_off76_inb k) (k0_off77_inb k)
      group i (k0_off78 k) (k0_off79 k) (k0_off78_inb k) (k0_off79_inb k)
      group i (k0_off80 k) (k0_off81 k) (k0_off80_inb k) (k0_off81_inb k)
      group i (k0_off82 k) (k0_off83 k) (k0_off82_inb k) (k0_off83_inb k)
      group i (k0_off84 k) (k0_off85 k) (k0_off84_inb k) (k0_off85_inb k)
      group i (k0_off86 k) (k0_off87 k) (k0_off86_inb k) (k0_off87_inb k)
      group i (k0_off88 k) (k0_off89 k) (k0_off88_inb k) (k0_off89_inb k)
      group i (k0_off90 k) (k0_off91 k) (k0_off90_inb k) (k0_off91_inb k)
      group i (k0_off92 k) (k0_off93 k) (k0_off92_inb k) (k0_off93_inb k)
      group i (k0_off94 k) (k0_off95 k) (k0_off94_inb k) (k0_off95_inb k)
      group i (k0_off96 k) (k0_off97 k) (k0_off96_inb k) (k0_off97_inb k)
      group i (k0_off98 k) (k0_off99 k) (k0_off98_inb k) (k0_off99_inb k)
      group i (k0_off100 k) (k0_off101 k) (k0_off100_inb k) (k0_off101_inb k)
      group i (k0_off102 k) (k0_off103 k) (k0_off102_inb k) (k0_off103_inb k)
      pure ⟨⟩) := rfl

/-- Quarter 2: a trip fills 256 more entries. -/
theorem wp_body2 (d : Dev nD) (i : grid0.Coords) {ft : RowT F} {fx : RowX} (hX : InVocab fx)
    (Sx : Finset S8192.Idx) (hS : ∀ y : S8192.Idx, 0 ≤ (y 0).val → (y 0).val < 0 + 4096 → y ∈ Sx)
    (k : Fin k0_t4_loop.trips) (u : Unit) :
    loopAt d i Sx 0 8192 ft fx (256 * k.val)
      ⊢ wp frame (wpE (defs₀ (F := F)) 𝒱₀ (thr d i) none) Set.univ (body2 (F := F) i k u)
          fun _ => loopAt d i Sx 0 8192 ft fx (256 * (k.val + 1)) := by
  rw [body2_eq]
  exact
    wp_seq d i (wp_group d i (n := 256 * k.val + 0) (off72_eq k) (off73_eq k) hX Sx hS (by have := k.isLt; have := trips_q2; omega)) <|
    wp_seq d i (wp_group d i (n := 256 * k.val + 16) (off74_eq k) (off75_eq k) hX Sx hS (by have := k.isLt; have := trips_q2; omega)) <|
    wp_seq d i (wp_group d i (n := 256 * k.val + 32) (off76_eq k) (off77_eq k) hX Sx hS (by have := k.isLt; have := trips_q2; omega)) <|
    wp_seq d i (wp_group d i (n := 256 * k.val + 48) (off78_eq k) (off79_eq k) hX Sx hS (by have := k.isLt; have := trips_q2; omega)) <|
    wp_seq d i (wp_group d i (n := 256 * k.val + 64) (off80_eq k) (off81_eq k) hX Sx hS (by have := k.isLt; have := trips_q2; omega)) <|
    wp_seq d i (wp_group d i (n := 256 * k.val + 80) (off82_eq k) (off83_eq k) hX Sx hS (by have := k.isLt; have := trips_q2; omega)) <|
    wp_seq d i (wp_group d i (n := 256 * k.val + 96) (off84_eq k) (off85_eq k) hX Sx hS (by have := k.isLt; have := trips_q2; omega)) <|
    wp_seq d i (wp_group d i (n := 256 * k.val + 112) (off86_eq k) (off87_eq k) hX Sx hS (by have := k.isLt; have := trips_q2; omega)) <|
    wp_seq d i (wp_group d i (n := 256 * k.val + 128) (off88_eq k) (off89_eq k) hX Sx hS (by have := k.isLt; have := trips_q2; omega)) <|
    wp_seq d i (wp_group d i (n := 256 * k.val + 144) (off90_eq k) (off91_eq k) hX Sx hS (by have := k.isLt; have := trips_q2; omega)) <|
    wp_seq d i (wp_group d i (n := 256 * k.val + 160) (off92_eq k) (off93_eq k) hX Sx hS (by have := k.isLt; have := trips_q2; omega)) <|
    wp_seq d i (wp_group d i (n := 256 * k.val + 176) (off94_eq k) (off95_eq k) hX Sx hS (by have := k.isLt; have := trips_q2; omega)) <|
    wp_seq d i (wp_group d i (n := 256 * k.val + 192) (off96_eq k) (off97_eq k) hX Sx hS (by have := k.isLt; have := trips_q2; omega)) <|
    wp_seq d i (wp_group d i (n := 256 * k.val + 208) (off98_eq k) (off99_eq k) hX Sx hS (by have := k.isLt; have := trips_q2; omega)) <|
    wp_seq d i (wp_group d i (n := 256 * k.val + 224) (off100_eq k) (off101_eq k) hX Sx hS (by have := k.isLt; have := trips_q2; omega)) <|
    wp_seq d i (wp_group d i (n := 256 * k.val + 240) (off102_eq k) (off103_eq k) hX Sx hS (by have := k.isLt; have := trips_q2; omega)) <|
    (by rw [wp_pure]; exact fupd_intro)

/-- Quarter 2: the loop fills its half of the scratch. -/
theorem wp_loop2 (d : Dev nD) (i : grid0.Coords) {ft : RowT F} {fx : RowX} (hX : InVocab fx)
    (Sx : Finset S8192.Idx) (hS : ∀ y : S8192.Idx, 0 ≤ (y 0).val → (y 0).val < 0 + 4096 → y ∈ Sx) :
    loopAt d i Sx 0 8192 ft fx 0
      ⊢ wp frame (wpE (defs₀ (F := F)) 𝒱₀ (thr d i) none) Set.univ (Scf.Loop.for k0_t4_loop k0_t4_ok ⟨⟩ (body2 (F := F) i))
          fun _ => loopAt d i Sx 0 8192 ft fx 4096 := by
  iintro H
  iapply (Scf.wp_for _ _ _ _ _ _ _ _ _ (fun n _ => loopAt d i Sx 0 8192 ft fx (256 * n))
    (fun k u => wp_body2 d i hX Sx hS k u))
  isplitl [H]; · iexact H
  iintro %u H
  iexact H

/-- Quarter 3: the body of the inner loop at the kernel's own arrays. -/
abbrev body3 (i : grid0.Coords) :
    Fin k0_t5_loop.trips → Unit → Prog (TpuEff nD τ sig (Elt F) Λ₀ (.scVector (cV i) (jV i))) Unit :=
  k0_t5_body i xV (Memref.isWhole_whole _) tV (Memref.isWhole_whole _) oV (Memref.isWhole_whole _)
      sT (Memref.isWhole_whole _) sX (Memref.isWhole_whole _) sO (Memref.isWhole_whole _)
      cc0_scratch3 cc0_scratch4 cc0_scoped0 cc0_scoped1

/-- Quarter 3: a trip is sixteen groups in order. -/
theorem body3_eq (i : grid0.Coords) (k : Fin k0_t5_loop.trips) (u : Unit) :
    body3 (F := F) i k u = (do
      group i (k0_off105 k) (k0_off106 k) (k0_off105_inb k) (k0_off106_inb k)
      group i (k0_off107 k) (k0_off108 k) (k0_off107_inb k) (k0_off108_inb k)
      group i (k0_off109 k) (k0_off110 k) (k0_off109_inb k) (k0_off110_inb k)
      group i (k0_off111 k) (k0_off112 k) (k0_off111_inb k) (k0_off112_inb k)
      group i (k0_off113 k) (k0_off114 k) (k0_off113_inb k) (k0_off114_inb k)
      group i (k0_off115 k) (k0_off116 k) (k0_off115_inb k) (k0_off116_inb k)
      group i (k0_off117 k) (k0_off118 k) (k0_off117_inb k) (k0_off118_inb k)
      group i (k0_off119 k) (k0_off120 k) (k0_off119_inb k) (k0_off120_inb k)
      group i (k0_off121 k) (k0_off122 k) (k0_off121_inb k) (k0_off122_inb k)
      group i (k0_off123 k) (k0_off124 k) (k0_off123_inb k) (k0_off124_inb k)
      group i (k0_off125 k) (k0_off126 k) (k0_off125_inb k) (k0_off126_inb k)
      group i (k0_off127 k) (k0_off128 k) (k0_off127_inb k) (k0_off128_inb k)
      group i (k0_off129 k) (k0_off130 k) (k0_off129_inb k) (k0_off130_inb k)
      group i (k0_off131 k) (k0_off132 k) (k0_off131_inb k) (k0_off132_inb k)
      group i (k0_off133 k) (k0_off134 k) (k0_off133_inb k) (k0_off134_inb k)
      group i (k0_off135 k) (k0_off136 k) (k0_off135_inb k) (k0_off136_inb k)
      pure ⟨⟩) := rfl

/-- Quarter 3: a trip fills 256 more entries. -/
theorem wp_body3 (d : Dev nD) (i : grid0.Coords) {ft : RowT F} {fx : RowX} (hX : InVocab fx)
    (Sx : Finset S8192.Idx) (hS : ∀ y : S8192.Idx, 4096 ≤ (y 0).val → (y 0).val < 4096 + 4096 → y ∈ Sx)
    (k : Fin k0_t5_loop.trips) (u : Unit) :
    loopAt d i Sx 4096 12288 ft fx (256 * k.val)
      ⊢ wp frame (wpE (defs₀ (F := F)) 𝒱₀ (thr d i) none) Set.univ (body3 (F := F) i k u)
          fun _ => loopAt d i Sx 4096 12288 ft fx (256 * (k.val + 1)) := by
  rw [body3_eq]
  exact
    wp_seq d i (wp_group d i (n := 256 * k.val + 0) (off105_eq k) (off106_eq k) hX Sx hS (by have := k.isLt; have := trips_q3; omega)) <|
    wp_seq d i (wp_group d i (n := 256 * k.val + 16) (off107_eq k) (off108_eq k) hX Sx hS (by have := k.isLt; have := trips_q3; omega)) <|
    wp_seq d i (wp_group d i (n := 256 * k.val + 32) (off109_eq k) (off110_eq k) hX Sx hS (by have := k.isLt; have := trips_q3; omega)) <|
    wp_seq d i (wp_group d i (n := 256 * k.val + 48) (off111_eq k) (off112_eq k) hX Sx hS (by have := k.isLt; have := trips_q3; omega)) <|
    wp_seq d i (wp_group d i (n := 256 * k.val + 64) (off113_eq k) (off114_eq k) hX Sx hS (by have := k.isLt; have := trips_q3; omega)) <|
    wp_seq d i (wp_group d i (n := 256 * k.val + 80) (off115_eq k) (off116_eq k) hX Sx hS (by have := k.isLt; have := trips_q3; omega)) <|
    wp_seq d i (wp_group d i (n := 256 * k.val + 96) (off117_eq k) (off118_eq k) hX Sx hS (by have := k.isLt; have := trips_q3; omega)) <|
    wp_seq d i (wp_group d i (n := 256 * k.val + 112) (off119_eq k) (off120_eq k) hX Sx hS (by have := k.isLt; have := trips_q3; omega)) <|
    wp_seq d i (wp_group d i (n := 256 * k.val + 128) (off121_eq k) (off122_eq k) hX Sx hS (by have := k.isLt; have := trips_q3; omega)) <|
    wp_seq d i (wp_group d i (n := 256 * k.val + 144) (off123_eq k) (off124_eq k) hX Sx hS (by have := k.isLt; have := trips_q3; omega)) <|
    wp_seq d i (wp_group d i (n := 256 * k.val + 160) (off125_eq k) (off126_eq k) hX Sx hS (by have := k.isLt; have := trips_q3; omega)) <|
    wp_seq d i (wp_group d i (n := 256 * k.val + 176) (off127_eq k) (off128_eq k) hX Sx hS (by have := k.isLt; have := trips_q3; omega)) <|
    wp_seq d i (wp_group d i (n := 256 * k.val + 192) (off129_eq k) (off130_eq k) hX Sx hS (by have := k.isLt; have := trips_q3; omega)) <|
    wp_seq d i (wp_group d i (n := 256 * k.val + 208) (off131_eq k) (off132_eq k) hX Sx hS (by have := k.isLt; have := trips_q3; omega)) <|
    wp_seq d i (wp_group d i (n := 256 * k.val + 224) (off133_eq k) (off134_eq k) hX Sx hS (by have := k.isLt; have := trips_q3; omega)) <|
    wp_seq d i (wp_group d i (n := 256 * k.val + 240) (off135_eq k) (off136_eq k) hX Sx hS (by have := k.isLt; have := trips_q3; omega)) <|
    (by rw [wp_pure]; exact fupd_intro)

/-- Quarter 3: the loop fills its half of the scratch. -/
theorem wp_loop3 (d : Dev nD) (i : grid0.Coords) {ft : RowT F} {fx : RowX} (hX : InVocab fx)
    (Sx : Finset S8192.Idx) (hS : ∀ y : S8192.Idx, 4096 ≤ (y 0).val → (y 0).val < 4096 + 4096 → y ∈ Sx) :
    loopAt d i Sx 4096 12288 ft fx 0
      ⊢ wp frame (wpE (defs₀ (F := F)) 𝒱₀ (thr d i) none) Set.univ (Scf.Loop.for k0_t5_loop k0_t5_ok ⟨⟩ (body3 (F := F) i))
          fun _ => loopAt d i Sx 4096 12288 ft fx 4096 := by
  iintro H
  iapply (Scf.wp_for _ _ _ _ _ _ _ _ _ (fun n _ => loopAt d i Sx 4096 12288 ft fx (256 * n))
    (fun k u => wp_body3 d i hX Sx hS k u))
  isplitl [H]; · iexact H
  iintro %u H
  iexact H

end Cert.Proof.Gather

end
-- ==== Proof.Moves.lean ====
/-
  The copies of a tile as steps of its proof: fetching an index row and a table row, sending a filled
  half of the result scratch to its quarter of a row, and waiting for such a copy to land. A copy under
  way holds what it moves until it is waited for; what it will hand back is fixed when it starts.
-/
module

public import proofs.«01_k».proof.Proof.Copies
public import proofs.«01_k».proof.Proof.Quarter

@[expose] public section

set_option maxRecDepth 16384

noncomputable section

namespace Cert.Proof.Gather

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## Running one program after another -/

/-- A program followed by another: what the first leaves is what the second starts from. -/
theorem wp_then (d : Dev nD) (i : grid0.Coords) {α β : Type} {P : sProp 𝕄} {R : β → sProp 𝕄} {Q : α → sProp 𝕄}
    {p : Prog (TpuEff nD τ sig (Elt F) Λ₀ (.scVector (cV i) (jV i))) β}
    {q : β → Prog (TpuEff nD τ sig (Elt F) Λ₀ (.scVector (cV i) (jV i))) α}
    (hp : P ⊢ wp frame (wpE (defs₀ (F := F)) 𝒱₀ (thr d i) none) Set.univ p R) :
    P ⊢ iprop((∀ b, R b -∗ wp frame (wpE (defs₀ (F := F)) 𝒱₀ (thr d i) none) Set.univ (q b) Q)
      -∗ wp frame (wpE (defs₀ (F := F)) 𝒱₀ (thr d i) none) Set.univ (p >>= q) Q) := by
  rw [wp_bind]
  exact hp.trans (wp_wand _ _ _)

/-! ## What a tile holds -/

/-- What the tile owes its launch, whatever waits it has made. -/
abbrev Owes (d : Dev nD) (i : grid0.Coords) (O : CellTallies nD τ sig (HIx 1)) : sProp 𝕄 :=
  iprop(∃ W : Waits sig (HIx 1), owes (thr d i) O W)

/-- One half of the result scratch, whatever it holds. -/
abbrev HalfAny (d : Dev nD) (i : grid0.Coords) (sb : ℕ) : sProp 𝕄 :=
  iprop(∃ fo : RowO F, sO.view.loc (thr d i) ↦[halfSet sb]{fullShare} fo)

/-- Quarter `h` of row `s` of the result, at contents `f`. -/
abbrev Quart (d : Dev nD) (s h : ℕ) (f : OBuf F) : sProp 𝕄 := iprop(oLoc d ↦[quarter s h]{fullShare} f)

/-- The tile's rows, by their number in the tile. -/
def rows : Finset ℕ := Finset.range 13

/-- There are thirteen of them. -/
theorem mem_rows {k : ℕ} : k ∈ rows ↔ k < 13 := Finset.mem_range

/-- The quarters `h` of the tile's thirteen rows when the first `n` are done: those hold `G`, the rest
    what they held before, `m0`. -/
abbrev Quarts (d : Dev nD) (i : grid0.Coords) (m0 G : OBuf F) (h n : ℕ) : sProp 𝕄 :=
  bigSep rows fun k => Quart d (rowNo i k) h (if k < n then G else m0)

/-- The same without row `j`. -/
abbrev Hole (d : Dev nD) (i : grid0.Coords) (m0 G : OBuf F) (h j : ℕ) : sProp 𝕄 :=
  bigSep (rows.erase j) fun k => Quart d (rowNo i k) h (if k < j then G else m0)

/-- Row `n` taken out, still to be written. -/
theorem quarts_take (d : Dev nD) (i : grid0.Coords) (m0 G : OBuf F) (h n : ℕ) (hn : n < 13) :
    Quarts d i m0 G h n ⊢ iprop(Quart d (rowNo i n) h m0 ∗ Hole d i m0 G h n) := by
  refine Entails.of_eq ?_
  refine (SparseCore.bigSep_erase' (mem_rows.mpr hn)).trans ?_
  rw [if_neg (Nat.lt_irrefl n)]

/-- Row `j` put back, written. -/
theorem quarts_put (d : Dev nD) (i : grid0.Coords) (m0 G : OBuf F) (h j : ℕ) (hj : j < 13) :
    iprop(Quart d (rowNo i j) h G ∗ Hole d i m0 G h j) ⊢ Quarts d i m0 G h (j + 1) := by
  refine Entails.of_eq ?_
  have e : Quart d (rowNo i j) h (if j < j + 1 then G else m0) = Quart d (rowNo i j) h G :=
    congrArg (Quart d (rowNo i j) h) (if_pos (Nat.lt_succ_self j))
  have e2 : Hole d i m0 G h j = bigSep (rows.erase j) fun k => Quart d (rowNo i k) h (if k < j + 1 then G else m0) := by
    refine bigSep_congr fun k hk => ?_
    have hne : k ≠ j := Finset.ne_of_mem_erase hk
    refine congrArg (Quart d (rowNo i k) h) ?_
    by_cases hlt : k < j
    · exact (if_pos hlt).trans (if_pos (show k < j + 1 by omega)).symm
    · exact (if_neg hlt).trans (if_neg (show ¬ k < j + 1 by omega)).symm
  rw [e2, ← e]
  exact (SparseCore.bigSep_erase' (Φ := fun k => Quart (F := F) d (rowNo i k) h (if k < j + 1 then G else m0)) (mem_rows.mpr hj)).symm

/-- What a copy of a half of the scratch to quarter `h` of row `s` hands back: the quarter holding the
    result, and the half. -/
abbrev Sent (d : Dev nD) (i : grid0.Coords) (G : OBuf F) (s h sb : ℕ) : sProp 𝕄 :=
  iprop(Quart d s h G ∗ HalfAny d i sb)

/-- The amount by which one such copy raises its semaphore. -/
abbrev sentAmount : ℕ := (main_v2_scv : Ref sig .scVector).dmaCredit S4096 .f32

/-- A half of the scratch at rest: its semaphore at zero and the first `n` rows done. -/
abbrev Idle (d : Dev nD) (i : grid0.Coords) (sem : DmaSem sig) (m0 G : OBuf F) (sb h n : ℕ) : sProp 𝕄 :=
  iprop(semVal (thr d i, SemLoc.dma sem) 0 ∗ HalfAny d i sb ∗ Quarts d i m0 G h n)

/-- A half of the scratch on its way to row `j`. -/
abbrev Busy (d : Dev nD) (i : grid0.Coords) (sem : DmaSem sig) (m0 G : OBuf F) (sb h j : ℕ) : sProp 𝕄 :=
  iprop(Transfers.Flight countersEmb (thr d i) (SemLoc.dma sem) (default : HIx 1) sentAmount (Sent d i G (rowNo i j) h sb)
    ∗ Hole d i m0 G h j)

/-- Before trip `n` a half is at rest at the first trip and on its way from the trip before at the others. -/
def Pend (d : Dev nD) (i : grid0.Coords) (sem : DmaSem sig) (m0 G : OBuf F) (sb h : ℕ) : ℕ → sProp 𝕄
  | 0 => Idle d i sem m0 G sb h 0
  | j + 1 => Busy d i sem m0 G sb h j

/-- Before the first trip a half is at rest. -/
theorem pend_zero (d : Dev nD) (i : grid0.Coords) (sem : DmaSem sig) (m0 G : OBuf F) (sb h : ℕ) :
    Pend d i sem m0 G sb h 0 = Idle d i sem m0 G sb h 0 := rfl

/-- Before a later trip it is on its way. -/
theorem pend_succ (d : Dev nD) (i : grid0.Coords) (sem : DmaSem sig) (m0 G : OBuf F) (sb h j : ℕ) :
    Pend d i sem m0 G sb h (j + 1) = Busy d i sem m0 G sb h j := rfl

/-! ## Sending a half and waiting for it -/

/-- Sending a filled half of the scratch to its quarter of row `n`. -/
theorem wp_send (d : Dev nD) (i : grid0.Coords) (sem : DmaSem sig) (X : XBuf) (Tt : TBuf F) (hX : ∀ z, (X z).toNat < 100000)
    (m0 : OBuf F) (sb h n : ℕ) (hsb : sb + 4096 ≤ 8192) (hh : h < 4) (hn : n < 13)
    (ft : RowT F) (fx : RowX) (fo : RowO F) (hT : RowOfT Tt (rowNo i n) ft) (hXr : RowOfX X (rowNo i n) fx)
    (hf : Filled sb (4096 * h) 4096 ft fx fo)
    (off : Fin 3 → ℕ) (inb) (ho : off = ![rowNo i n / 16, rowNo i n % 16, 4096 * h])
    (offh : Fin 1 → ℕ) (inbh) (hoh : offh = ![sb]) {h1 h2 h3} :
    iprop(semVal (thr d i, SemLoc.dma sem) 0 ∗ (sO.view.loc (thr d i) ↦[halfSet sb]{fullShare} fo)
        ∗ Quarts d i m0 (gathered X Tt hX) h n)
      ⊢ wp frame (wpE (defs₀ (F := F)) 𝒱₀ (thr d i) none) Set.univ
          (Prog.lift (.enqueueDma (half offh inbh) (.here (oPiece off inb)) (.dma sem) h1 h2 h3))
          fun _ => Busy d i sem m0 (gathered X Tt hX) sb h n := by
  have hset := oPiece_set (rowNo i n) h off inb ho
  have hhalf := half_set sb offh inbh hoh
  iintro ⟨Hsem, Hhalf, Hq⟩
  ihave Hq := quarts_take d i m0 (gathered X Tt hX) h n hn $$ Hq
  icases Hq with ⟨Hq, Hhole⟩
  iapply (Transfers.wp_dmaLocal countersEmb 𝒱₀ (thr d i) none (src := half offh inbh) (dst := oPiece off inb) (via := .same)
    (sm := .dma sem) (q := fullShare) (fs := fo) (Sd := quarter (rowNo i n) h) (fd := m0) (k := fun x => .ret x)
    (default : HIx 1) sentAmount rfl (View.amount_pos (oPiece off inb).view (.dma sem) (show 0 < S4096.numel by decide)) (by rw [hset])) $$ [Hsem Hhalf Hq]
  · isplitl [Hhalf]
    · rw [hhalf]; iexact Hhalf
    isplitl [Hq]; · iexact Hq
    iexact Hsem
  iintro Hfl
  sl_step
  isplitl [Hfl]
  · iapply (Transfers.Flight_mono (EC := countersEmb) (c := thr d i) ?_) $$ Hfl
    iintro ⟨Hd, Hs⟩
    isplitl [Hd]
    · iapply (Entails.of_eq (pointsTo_congr (fun y hy => quarter_written X Tt hX (rowNo i n) h sb hsb hh ft fx fo m0 hT hXr hf
        off inb ho offh inbh hoh y hy))) $$ Hd
    · rw [hhalf]
      iexists fo; iexact Hs
  iexact Hhole

/-- Waiting for the copy of a half to land. -/
theorem wp_land (d : Dev nD) (i : grid0.Coords) (sem : DmaSem sig) (m0 G : OBuf F) (sb h j : ℕ) (hj : j < 13)
    (O : CellTallies nD τ sig (HIx 1))
    (off : Fin 3 → ℕ) (inb) (offh : Fin 1 → ℕ) (inbh) {h1 h2} :
    iprop(Transfers.MayWaits (thr d i) (default : HIx 1) O ∗ Busy d i sem m0 G sb h j ∗ Owes d i O)
      ⊢ wp frame (wpE (defs₀ (F := F)) 𝒱₀ (thr d i) none) Set.univ
          (Prog.lift (.waitDma2 sem (half offh inbh) (oPiece off inb) h1 h2))
          fun _ => iprop(Idle d i sem m0 G sb h (j + 1) ∗ Owes d i O) := by
  iintro ⟨Hmw, ⟨Hfl, Hhole⟩, %W, HO⟩
  iapply (Transfers.wp_waitLocalO countersEmb 𝒱₀ (thr d i) none (dstw := oPiece off inb) (k := fun x => .ret x) (default : HIx 1)
    (rfl : (oPiece off inb).view.dmaCredit = sentAmount)) $$ [Hfl HO Hmw]
  · isplitl [Hfl]; · iexact Hfl
    isplitl [HO]; · iexact HO
    iapply (Transfers.MayWaits.elim (SemLoc.dma sem)) $$ Hmw
  iintro ⟨⟨Hq, Hhalf⟩, Hsem, HO⟩
  sl_step
  isplitr [HO]
  · isplitl [Hsem]; · iexact Hsem
    isplitl [Hhalf]; · iexact Hhalf
    iapply (quarts_put d i m0 G h j hj)
    isplitl [Hq]; · iexact Hq
    iexact Hhole
  iexists _; iexact HO

/-- The drain at the start of a trip: nothing at the first, the last trip's copy at the others. -/
theorem wp_drain (d : Dev nD) (i : grid0.Coords) (sem : DmaSem sig) (m0 G : OBuf F) (sb h n : ℕ) (hn : n < 13)
    (O : CellTallies nD τ sig (HIx 1)) {C : Prop} [Decidable C] (hC : C ↔ n ≠ 0)
    (off : C → Fin 3 → ℕ) (inb : ∀ hc a, off hc a + S1x1x4096.size a ≤ S26x16x16384.size a) (offh : Fin 1 → ℕ) (inbh) {h1}
    {h2 : ∀ hc, (oPiece (off hc) (inb hc)).view.WordExact}
    {α : Type} {Q : α → sProp 𝕄} {k : Prog (TpuEff nD τ sig (Elt F) Λ₀ (.scVector (cV i) (jV i))) α} :
    iprop(Transfers.MayWaits (thr d i) (default : HIx 1) O ∗ Pend d i sem m0 G sb h n ∗ Owes d i O)
      ⊢ iprop((iprop(Idle d i sem m0 G sb h n ∗ Owes d i O)
          -∗ wp frame (wpE (defs₀ (F := F)) 𝒱₀ (thr d i) none) Set.univ k Q)
        -∗ wp frame (wpE (defs₀ (F := F)) 𝒱₀ (thr d i) none) Set.univ
          (if hc : C then (do
              Prog.lift (.waitDma2 sem (half offh inbh) (oPiece (off hc) (inb hc)) h1 (h2 hc))
              k)
            else k) Q) := by
  match n with
  | 0 =>
    have hc : ¬ C := fun hc => hC.1 hc rfl
    rw [dif_neg hc, pend_zero]
    iintro ⟨-, Hp, HO⟩ Hk
    iapply Hk
    isplitl [Hp]; · iexact Hp
    iexact HO
  | j + 1 =>
    have hc : C := hC.2 (Nat.succ_ne_zero j)
    rw [dif_pos hc, pend_succ]
    iintro H Hk
    iapply (wp_then d i (wp_land d i sem m0 G sb h j (by omega) O (off hc) (inb hc) offh inbh)) $$ H
    iintro %u H
    iapply Hk $$ H

end Cert.Proof.Gather

end
-- ==== Proof.Fetch.lean ====
/-
  One trip of a tile's outer loop: it fetches the table row of its row of the result, fetches the index
  row if the feature is new, and makes the four quarters of the row in turn, each in one half of the
  result scratch, from where it is sent on its way. A half is used again only after its last copy landed.
-/
module

public import proofs.«01_k».proof.Proof.Moves

@[expose] public section

set_option maxRecDepth 16384

noncomputable section

namespace Cert.Proof.Gather

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## Fetching -/

/-- The index scratch before trip `n`: after the first trip it holds the index row of the trip before. -/
abbrev XPart (d : Dev nD) (i : grid0.Coords) (X : XBuf) (n : ℕ) : sProp 𝕄 :=
  iprop(∃ fx : RowX, (sX.view.loc (thr d i) ↦{fullShare} fx) ∗ ⌜∀ j, n = j + 1 → RowOfX X (rowNo i j) fx⌝)

/-- The index scratch holding the index row of row `s`. -/
abbrev XRow (d : Dev nD) (i : grid0.Coords) (X : XBuf) (s : ℕ) : sProp 𝕄 :=
  iprop(∃ fx : RowX, (sX.view.loc (thr d i) ↦{fullShare} fx) ∗ ⌜RowOfX X s fx⌝)

/-- The table scratch holding the table row of row `s`. -/
abbrev TRow (d : Dev nD) (i : grid0.Coords) (Tt : TBuf F) (s : ℕ) : sProp 𝕄 :=
  iprop(∃ ft : RowT F, (sT.view.loc (thr d i) ↦{fullShare} ft) ∗ ⌜RowOfT Tt s ft⌝)

/-- The table scratch, whatever it holds. -/
abbrev TAny (d : Dev nD) (i : grid0.Coords) : sProp 𝕄 :=
  iprop(∃ ft : RowT F, sT.view.loc (thr d i) ↦{fullShare} ft)

/-- The amount by which the copy of an index row raises its semaphore. -/
abbrev xAmount : ℕ := (cc0_scratch1 : Ref sig .scVector).dmaCredit S16384 .i32
/-- The amount by which the copy of a table row raises its semaphore. -/
abbrev tAmount : ℕ := (cc0_scratch0 : Ref sig .scVector).dmaCredit S100000 .f32

/-- Fetching the index row of row `s`, waiting for it. -/
theorem wp_fetchX (d : Dev nD) (i : grid0.Coords) (X : XBuf) (s : ℕ) (q : PosShare TreeShare) (O : CellTallies nD τ sig (HIx 1))
    (off : Fin 2 → ℕ) (inb) (ho : off = ![s / 16, 0]) {h1 h2 h3 h4 h5}
    {α : Type} {Q : α → sProp 𝕄} {k : Prog (TpuEff nD τ sig (Elt F) Λ₀ (.scVector (cV i) (jV i))) α} :
    iprop(Transfers.MayWaits (thr d i) (default : HIx 1) O ∗ (xLoc d ↦{q} X)
        ∗ (∃ fx : RowX, sX.view.loc (thr d i) ↦{fullShare} fx) ∗ semVal (thr d i, SemLoc.dma cc0_scoped0.sem) 0 ∗ Owes d i O)
      ⊢ iprop((iprop((xLoc d ↦{q} X) ∗ XRow d i X s ∗ semVal (thr d i, SemLoc.dma cc0_scoped0.sem) 0 ∗ Owes d i O)
          -∗ wp frame (wpE (defs₀ (F := F)) 𝒱₀ (thr d i) none) Set.univ k Q)
        -∗ wp frame (wpE (defs₀ (F := F)) 𝒱₀ (thr d i) none) Set.univ (do
          Prog.lift (.enqueueDma (xRow off inb) (.here sX) (.dma cc0_scoped0.sem) h1 h2 h3)
          Prog.lift (.waitDma2 cc0_scoped0.sem (xRow off inb) sX h4 h5)
          k) Q) := by
  have hset : sX.view.set = Finset.univ := View.set_whole _
  iintro ⟨Hmw, Hx, ⟨%fx, Hs⟩, Hsem, %W, HO⟩ Hk
  ihave Hx := (pointsTo_split_subset (q := q) (f := X) (S := Finset.univ) (Finset.subset_univ (xRow off inb).view.set)).1 $$ Hx
  icases Hx with ⟨Hx, Hxr⟩
  iapply (Transfers.wp_dmaLocal countersEmb 𝒱₀ (thr d i) none (src := xRow off inb) (dst := sX) (via := .same)
    (sm := .dma cc0_scoped0.sem) (q := q) (fs := X) (Sd := Finset.univ) (fd := fx)
    (default : HIx 1) xAmount rfl (View.amount_pos sX.view (.dma cc0_scoped0.sem) (show 0 < S16384.numel by decide)) (Finset.subset_univ _)) $$ [Hx Hs Hsem]
  · isplitl [Hx]; · iexact Hx
    isplitl [Hs]; · iexact Hs
    iexact Hsem
  iintro Hfl
  iapply (Transfers.wp_waitLocalO countersEmb 𝒱₀ (thr d i) none (dstw := sX) (default : HIx 1)
    (rfl : sX.view.dmaCredit = xAmount)) $$ [Hfl HO Hmw]
  · isplitl [Hfl]; · iexact Hfl
    isplitl [HO]; · iexact HO
    iapply (Transfers.MayWaits.elim (SemLoc.dma cc0_scoped0.sem)) $$ Hmw
  iintro ⟨⟨Hs, Hx⟩, Hsem, HO⟩
  iapply Hk
  isplitl [Hx Hxr]
  · iapply (pointsTo_split_subset (q := q) (f := X) (S := Finset.univ) (Finset.subset_univ (xRow off inb).view.set)).2
    isplitl [Hx]; · iexact Hx
    iexact Hxr
  isplitl [Hs]
  · iexists _
    isplitl [Hs]; · iexact Hs
    ipureintro
    exact rowOfX_fetch (F := F) X s fx off inb ho
  isplitl [Hsem]; · iexact Hsem
  iexists _; iexact HO

/-- The copy of the table row of row `s` under way: it will hand back the row in the scratch and the
    tables' row, beside the rest of the tables. -/
abbrev FetchingT (d : Dev nD) (i : grid0.Coords) (Tt : TBuf F) (s : ℕ) (q : PosShare TreeShare) (S : Finset S26x16x100000.Idx) : sProp 𝕄 :=
  iprop(Transfers.Flight countersEmb (thr d i) (SemLoc.dma cc0_scoped1.sem) (default : HIx 1) tAmount
      iprop(TRow d i Tt s ∗ (tLoc d ↦[S]{q} Tt))
    ∗ (tLoc d ↦[Finset.univ \ S]{q} Tt))

/-- Starting to fetch the table row of row `s`. -/
theorem wp_startT (d : Dev nD) (i : grid0.Coords) (Tt : TBuf F) (s : ℕ) (q : PosShare TreeShare)
    (off : Fin 3 → ℕ) (inb) (ho : off = ![s / 16, s % 16, 0]) {h1 h2 h3} :
    iprop((tLoc d ↦{q} Tt) ∗ TAny d i ∗ semVal (thr d i, SemLoc.dma cc0_scoped1.sem) 0)
      ⊢ wp frame (wpE (defs₀ (F := F)) 𝒱₀ (thr d i) none) Set.univ
          (Prog.lift (.enqueueDma (tRow off inb) (.here sT) (.dma cc0_scoped1.sem) h1 h2 h3))
          fun _ => FetchingT d i Tt s q (tRow off inb).view.set := by
  iintro ⟨Hx, ⟨%ft, Hs⟩, Hsem⟩
  ihave Hx := (pointsTo_split_subset (q := q) (f := Tt) (S := Finset.univ) (Finset.subset_univ (tRow off inb).view.set)).1 $$ Hx
  icases Hx with ⟨Hx, Hxr⟩
  iapply (Transfers.wp_dmaLocal countersEmb 𝒱₀ (thr d i) none (src := tRow off inb) (dst := sT) (via := .same)
    (sm := .dma cc0_scoped1.sem) (q := q) (fs := Tt) (Sd := Finset.univ) (fd := ft) (k := fun x => .ret x)
    (default : HIx 1) tAmount rfl (View.amount_pos sT.view (.dma cc0_scoped1.sem) (show 0 < S100000.numel by decide)) (Finset.subset_univ _)) $$ [Hx Hs Hsem]
  · isplitl [Hx]; · iexact Hx
    isplitl [Hs]; · iexact Hs
    iexact Hsem
  iintro Hfl
  sl_step
  isplitl [Hfl]
  · iapply (Transfers.Flight_mono (EC := countersEmb) (c := thr d i) ?_) $$ Hfl
    iintro ⟨Hs, Hx⟩
    isplitl [Hs]
    · iexists _
      isplitl [Hs]; · iexact Hs
      ipureintro
      exact rowOfT_fetch Tt s ft off inb ho
    iexact Hx
  iexact Hxr

/-- Waiting for the table row. -/
theorem wp_endT (d : Dev nD) (i : grid0.Coords) (Tt : TBuf F) (s : ℕ) (q : PosShare TreeShare) (O : CellTallies nD τ sig (HIx 1))
    (S : Finset S26x16x100000.Idx) (off : Fin 3 → ℕ) (inb) {h1 h2} :
    iprop(Transfers.MayWaits (thr d i) (default : HIx 1) O ∗ FetchingT d i Tt s q S ∗ Owes d i O)
      ⊢ wp frame (wpE (defs₀ (F := F)) 𝒱₀ (thr d i) none) Set.univ
          (Prog.lift (.waitDma2 cc0_scoped1.sem (tRow off inb) sT h1 h2))
          fun _ => iprop((tLoc d ↦{q} Tt) ∗ TRow d i Tt s ∗ semVal (thr d i, SemLoc.dma cc0_scoped1.sem) 0 ∗ Owes d i O) := by
  iintro ⟨Hmw, ⟨Hfl, Hxr⟩, %W, HO⟩
  iapply (Transfers.wp_waitLocalO countersEmb 𝒱₀ (thr d i) none (dstw := sT) (k := fun x => .ret x) (default : HIx 1)
    (rfl : sT.view.dmaCredit = tAmount)) $$ [Hfl HO Hmw]
  · isplitl [Hfl]; · iexact Hfl
    isplitl [HO]; · iexact HO
    iapply (Transfers.MayWaits.elim (SemLoc.dma cc0_scoped1.sem)) $$ Hmw
  iintro ⟨⟨Hs, Hx⟩, Hsem, HO⟩
  sl_step
  isplitl [Hx Hxr]
  · iapply (pointsTo_split_subset (q := q) (f := Tt) (S := Finset.univ) (Finset.subset_univ S)).2
    isplitl [Hx]; · iexact Hx
    iexact Hxr
  isplitl [Hs]; · iexact Hs
  isplitl [Hsem]; · iexact Hsem
  iexists _; iexact HO

/-! ## Making a quarter -/

/-- A quarter is made by a loop that fills a half of the scratch and is then sent. -/
theorem wp_quarter (d : Dev nD) (i : grid0.Coords) (sem : DmaSem sig) (X : XBuf) (Tt : TBuf F) (hX : ∀ z, (X z).toNat < 100000)
    (m0 : OBuf F) (sb h n : ℕ) (hsb : sb + 4096 ≤ 8192) (hh : h < 4) (hn : n < 13)
    (ft : RowT F) (fx : RowX) (hT : RowOfT Tt (rowNo i n) ft) (hXr : RowOfX X (rowNo i n) fx)
    {α : Type} {Q : α → sProp 𝕄} {p : Prog (TpuEff nD τ sig (Elt F) Λ₀ (.scVector (cV i) (jV i))) Unit}
    {q : PUnit → Prog (TpuEff nD τ sig (Elt F) Λ₀ (.scVector (cV i) (jV i))) α}
    (hp : loopAt d i (halfSet sb) sb (4096 * h) ft fx 0
      ⊢ wp frame (wpE (defs₀ (F := F)) 𝒱₀ (thr d i) none) Set.univ p fun _ => loopAt d i (halfSet sb) sb (4096 * h) ft fx 4096)
    (off : Fin 3 → ℕ) (inb) (ho : off = ![rowNo i n / 16, rowNo i n % 16, 4096 * h])
    (offh : Fin 1 → ℕ) (inbh) (hoh : offh = ![sb]) {h1 h2 h3} :
    iprop((sX.view.loc (thr d i) ↦{fullShare} fx) ∗ (sT.view.loc (thr d i) ↦{fullShare} ft)
        ∗ semVal (thr d i, SemLoc.dma sem) 0 ∗ HalfAny d i sb ∗ Quarts d i m0 (gathered X Tt hX) h n)
      ⊢ iprop((iprop((sX.view.loc (thr d i) ↦{fullShare} fx) ∗ (sT.view.loc (thr d i) ↦{fullShare} ft)
            ∗ Busy d i sem m0 (gathered X Tt hX) sb h n)
          -∗ wp frame (wpE (defs₀ (F := F)) 𝒱₀ (thr d i) none) Set.univ (q ⟨⟩) Q)
        -∗ wp frame (wpE (defs₀ (F := F)) 𝒱₀ (thr d i) none) Set.univ
          (p >>= fun _ => Prog.lift (.enqueueDma (half offh inbh) (.here (oPiece off inb)) (.dma sem) h1 h2 h3) >>= q) Q) := by
  iintro ⟨Hx, Ht, Hsem, ⟨%f0, Hh⟩, Hq⟩ Hk
  iapply (wp_then d i hp) $$ [Hx Ht Hh]
  · isplitl [Hx]; · iexact Hx
    isplitl [Ht]; · iexact Ht
    iexists f0
    isplitl [Hh]; · iexact Hh
    ipureintro
    exact filled_zero sb (4096 * h) ft fx f0
  iintro %u ⟨Hx, Ht, %fo, Hh, %hf⟩
  iapply (wp_then d i (wp_send d i sem X Tt hX m0 sb h n hsb hh hn ft fx fo hT hXr hf off inb ho offh inbh hoh)) $$ [Hsem Hh Hq]
  · isplitl [Hsem]; · iexact Hsem
    isplitl [Hh]; · iexact Hh
    iexact Hq
  iintro %u HB
  iapply Hk
  isplitl [Hx]; · iexact Hx
  isplitl [Ht]; · iexact Ht
  iexact HB

end Cert.Proof.Gather

end
-- ==== Proof.Trip.lean ====
/-
  One trip of a tile's outer loop put together from its steps, the thirteen trips, and the whole body of
  a tile: after it every quarter of the tile's thirteen rows holds the result.
-/
module

public import proofs.«01_k».proof.Proof.Fetch

@[expose] public section

set_option maxRecDepth 16384

noncomputable section

namespace Cert.Proof.Gather

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The trip number is below thirteen. -/
theorem trip_lt (t : Fin k0_t1_loop.trips) : t.val < 13 := lt_of_lt_of_eq t.isLt trips_outer

/-- Every row of every tile is a row of the result. -/
theorem rowNo_lt (i : grid0.Coords) (n : ℕ) (hn : n < 13) : rowNo i n < 416 := by
  have h := coords_lt i
  show 13 * (2 * (i 1).val + (i 0).val) + n < 416
  omega

/-- The first part of a trip: the index row is fetched if the feature is new, else it is still there; the
    table row is on its way. -/
theorem wp_part17 (d : Dev nD) (i : grid0.Coords) (X : XBuf) (Tt : TBuf F) (qx qt : PosShare TreeShare)
    (O : CellTallies nD τ sig (HIx 1)) (v2 : BitVec 32) (t : Fin k0_t1_loop.trips) :
    iprop(Transfers.MayWaits (thr d i) (default : HIx 1) O ∗ (xLoc d ↦{qx} X) ∗ (tLoc d ↦{qt} Tt) ∗ XPart d i X t.val ∗ TAny d i
        ∗ semVal (thr d i, SemLoc.dma cc0_scoped0.sem) 0 ∗ semVal (thr d i, SemLoc.dma cc0_scoped1.sem) 0 ∗ Owes d i O)
      ⊢ wp frame (wpE (defs₀ (F := F)) 𝒱₀ (thr d i) none) Set.univ (k0_part17 (F := F) i xV (Memref.isWhole_whole _) tV (Memref.isWhole_whole _) oV (Memref.isWhole_whole _)
      sT (Memref.isWhole_whole _) sX (Memref.isWhole_whole _) sO (Memref.isWhole_whole _)
      cc0_scratch3 cc0_scratch4 cc0_scoped0 cc0_scoped1 v2 0#32 1#32 t)
          fun _ => iprop((xLoc d ↦{qx} X) ∗ XRow d i X (rowNo i t.val) ∗ semVal (thr d i, SemLoc.dma cc0_scoped0.sem) 0
            ∗ FetchingT d i Tt (rowNo i t.val) qt (tRow (k0_off2 i t) (k0_off2_inb i t)).view.set ∗ Owes d i O) := by
  rw [k0_part17_eq_skeleton]
  unfold k0_part17_skel
  iintro ⟨#Hmw, Hx, Ht, Hxp, Hta, Hs0, Hs1, HO⟩
  have hcond : ∀ {α : Type} {Q : α → sProp 𝕄} {k : Prog (TpuEff nD τ sig (Elt F) Λ₀ (.scVector (cV i) (jV i))) α},
      iprop(Transfers.MayWaits (thr d i) (default : HIx 1) O ∗ (xLoc d ↦{qx} X) ∗ XPart (F := F) d i X t.val
        ∗ semVal (thr d i, SemLoc.dma cc0_scoped0.sem) 0 ∗ Owes d i O)
      ⊢ iprop((iprop((xLoc d ↦{qx} X) ∗ XRow d i X (rowNo i t.val) ∗ semVal (thr d i, SemLoc.dma cc0_scoped0.sem) 0 ∗ Owes d i O)
          -∗ wp frame (wpE (defs₀ (F := F)) 𝒱₀ (thr d i) none) Set.univ k Q)
        -∗ wp frame (wpE (defs₀ (F := F)) 𝒱₀ (thr d i) none) Set.univ
          (if k0_h1 : k0_cond1 i t = 1#1 then (do
            Prog.lift (.enqueueDma (xRow (k0_off1 i t) (k0_off1_inb i t k0_h1)) (.here sX) (.dma cc0_scoped0.sem)
              ((View.wordExact_bits rfl).reshape _ _) (Memref.isWhole_whole _).wordExact ⟨Or.inl rfl, trivial⟩)
            Prog.lift (.waitDma2 cc0_scoped0.sem (xRow (k0_off1 i t) (k0_off1_inb i t k0_h1)) sX
              ((View.wordExact_bits rfl).reshape _ _) (Memref.isWhole_whole _).wordExact)
            k) else k) Q) := by
    intro α Q k
    by_cases hc : k0_cond1 i t = 1#1
    · rw [dif_pos hc]
      iintro ⟨Hmw, Hx, ⟨%fx, Hs, -⟩, Hsem, HO⟩ Hk
      iapply (wp_fetchX d i X (rowNo i t.val) qx O (k0_off1 i t) (k0_off1_inb i t hc) (off1_eq i t)) $$ [Hmw Hx Hs Hsem HO]
      · isplitl [Hmw]; · iexact Hmw
        isplitl [Hx]; · iexact Hx
        isplitl [Hs]; · iexists fx; iexact Hs
        isplitl [Hsem]; · iexact Hsem
        iexact HO
      iexact Hk
    · rw [dif_neg hc]
      obtain ⟨ht, hr⟩ := cond1_of_ne i t hc
      iintro ⟨-, Hx, ⟨%fx, Hs, %hfx⟩, Hsem, HO⟩ Hk
      iapply Hk
      isplitl [Hx]; · iexact Hx
      isplitl [Hs]
      · iexists fx
        isplitl [Hs]; · iexact Hs
        ipureintro
        refine (hfx (t.val - 1) (by omega)).same ?_
        have : rowNo i t.val = rowNo i (t.val - 1) + 1 := by
          show 13 * (2 * (i 1).val + (i 0).val) + t.val = 13 * (2 * (i 1).val + (i 0).val) + (t.val - 1) + 1
          omega
        omega
      isplitl [Hsem]; · iexact Hsem
      iexact HO
  iapply hcond $$ [Hx Hxp Hs0 HO]
  · isplitr; · iexact Hmw
    isplitl [Hx]; · iexact Hx
    isplitl [Hxp]; · iexact Hxp
    isplitl [Hs0]; · iexact Hs0
    iexact HO
  iintro ⟨Hx, Hxr, Hs0, HO⟩
  iapply (wp_then d i (wp_startT d i Tt (rowNo i t.val) qt (k0_off2 i t) (k0_off2_inb i t) (off2_eq i t))) $$ [Ht Hta Hs1]
  · isplitl [Ht]; · iexact Ht
    isplitl [Hta]; · iexact Hta
    iexact Hs1
  iintro %u Hf
  sl_step
  isplitl [Hx]; · iexact Hx
  isplitl [Hxr]; · iexact Hxr
  isplitl [Hs0]; · iexact Hs0
  isplitl [Hf]; · iexact Hf
  iexact HO

/-- The second part of a trip: the table row arrives, and quarters 0 and 1 are made and sent, each in a
    half of the scratch whose last copy has landed. -/
theorem wp_part18 (d : Dev nD) (i : grid0.Coords) (X : XBuf) (Tt : TBuf F) (hX : ∀ z, (X z).toNat < 100000) (m0 : OBuf F)
    (qt : PosShare TreeShare) (O : CellTallies nD τ sig (HIx 1)) (S : Finset S26x16x100000.Idx)
    (t : Fin k0_t1_loop.trips) (a : BitVec 32) :
    iprop(Transfers.MayWaits (thr d i) (default : HIx 1) O ∗ XRow d i X (rowNo i t.val) ∗ FetchingT d i Tt (rowNo i t.val) qt S
        ∗ Pend d i cc0_scratch3.sem m0 (gathered X Tt hX) 0 2 t.val ∗ Pend d i cc0_scratch4.sem m0 (gathered X Tt hX) 4096 3 t.val
        ∗ Quarts d i m0 (gathered X Tt hX) 0 t.val ∗ Quarts d i m0 (gathered X Tt hX) 1 t.val ∗ Owes d i O)
      ⊢ wp frame (wpE (defs₀ (F := F)) 𝒱₀ (thr d i) none) Set.univ (k0_part18 (F := F) i xV (Memref.isWhole_whole _) tV (Memref.isWhole_whole _) oV (Memref.isWhole_whole _)
      sT (Memref.isWhole_whole _) sX (Memref.isWhole_whole _) sO (Memref.isWhole_whole _)
      cc0_scratch3 cc0_scratch4 cc0_scoped0 cc0_scoped1 t a)
          fun _ => iprop((tLoc d ↦{qt} Tt) ∗ semVal (thr d i, SemLoc.dma cc0_scoped1.sem) 0
            ∗ XRow d i X (rowNo i t.val) ∗ TRow d i Tt (rowNo i t.val)
            ∗ Busy d i cc0_scratch3.sem m0 (gathered X Tt hX) 0 0 t.val ∗ Busy d i cc0_scratch4.sem m0 (gathered X Tt hX) 4096 1 t.val
            ∗ Quarts d i m0 (gathered X Tt hX) 2 t.val ∗ Quarts d i m0 (gathered X Tt hX) 3 t.val ∗ Owes d i O) := by
  rw [k0_part18_eq_skeleton]
  unfold k0_part18_skel
  have ht := trip_lt t
  iintro ⟨#Hmw, ⟨%fx, Hx, %hfx⟩, Hf, Hp0, Hp1, Hq0, Hq1, HO⟩
  have hv : InVocab fx := hfx.inVocab hX (rowNo_lt i t.val ht)
  iapply (wp_then d i (wp_endT d i Tt (rowNo i t.val) qt O S (k0_off2 i t) (k0_off2_inb i t))) $$ [Hf HO]
  · isplitr; · iexact Hmw
    isplitl [Hf]; · iexact Hf
    iexact HO
  iintro %u ⟨Htt, ⟨%ft, Ht, %hft⟩, Hs1, HO⟩
  iapply (wp_drain d i cc0_scratch3.sem m0 (gathered X Tt hX) 0 2 t.val ht O (cond2_iff t)
    (fun _ => k0_off3 i t) (fun hc => k0_off3_inb i t hc) ![0] inb_S8192_S4096_0) $$ [Hp0 HO]
  · isplitr; · iexact Hmw
    isplitl [Hp0]; · iexact Hp0
    iexact HO
  iintro ⟨⟨Hsem, Hh, Hq2⟩, HO⟩
  iapply (wp_quarter d i cc0_scratch3.sem X Tt hX m0 0 0 t.val (by omega) (by omega) ht ft fx hft hfx
    (wp_loop0 d i t a hv (halfSet 0) (fun y h1 h2 => mem_halfSet.mpr ⟨h1, h2⟩))
    (k0_off36 i t) (k0_off36_inb i t) (off36_eq i t) ![0] inb_S8192_S4096_0 rfl) $$ [Hx Ht Hsem Hh Hq0]
  · isplitl [Hx]; · iexact Hx
    isplitl [Ht]; · iexact Ht
    isplitl [Hsem]; · iexact Hsem
    isplitl [Hh]; · iexact Hh
    iexact Hq0
  iintro ⟨Hx, Ht, HB0⟩
  iapply (wp_drain d i cc0_scratch4.sem m0 (gathered X Tt hX) 4096 3 t.val ht O (cond3_iff t)
    (fun _ => k0_off37 i t) (fun hc => k0_off37_inb i t hc) ![4096] inb_S8192_S4096_4096) $$ [Hp1 HO]
  · isplitr; · iexact Hmw
    isplitl [Hp1]; · iexact Hp1
    iexact HO
  iintro ⟨⟨Hsem, Hh, Hq3⟩, HO⟩
  iapply (wp_quarter d i cc0_scratch4.sem X Tt hX m0 4096 1 t.val (by omega) (by omega) ht ft fx hft hfx
    (wp_loop1 d i t a hv (halfSet 4096) (fun y h1 h2 => mem_halfSet.mpr ⟨h1, h2⟩))
    (k0_off70 i t) (k0_off70_inb i t) (off70_eq i t) ![4096] inb_S8192_S4096_4096 rfl) $$ [Hx Ht Hsem Hh Hq1]
  · isplitl [Hx]; · iexact Hx
    isplitl [Ht]; · iexact Ht
    isplitl [Hsem]; · iexact Hsem
    isplitl [Hh]; · iexact Hh
    iexact Hq1
  iintro ⟨Hx, Ht, HB1⟩
  sl_step
  isplitl [Htt]; · iexact Htt
  isplitl [Hs1]; · iexact Hs1
  isplitl [Hx]
  · iexists fx
    isplitl [Hx]; · iexact Hx
    ipureintro; exact hfx
  isplitl [Ht]
  · iexists ft
    isplitl [Ht]; · iexact Ht
    ipureintro; exact hft
  isplitl [HB0]; · iexact HB0
  isplitl [HB1]; · iexact HB1
  isplitl [Hq2]; · iexact Hq2
  isplitl [Hq3]; · iexact Hq3
  iexact HO

/-- What a tile holds before trip `n`. -/
def Inv (d : Dev nD) (i : grid0.Coords) (X : XBuf) (Tt : TBuf F) (hX : ∀ z, (X z).toNat < 100000) (m0 : OBuf F)
    (qx qt : PosShare TreeShare) (O : CellTallies nD τ sig (HIx 1)) (n : ℕ) : sProp 𝕄 :=
  iprop(Transfers.MayWaits (thr d i) (default : HIx 1) O ∗ (xLoc d ↦{qx} X) ∗ (tLoc d ↦{qt} Tt) ∗ XPart d i X n ∗ TAny d i
    ∗ semVal (thr d i, SemLoc.dma cc0_scoped0.sem) 0 ∗ semVal (thr d i, SemLoc.dma cc0_scoped1.sem) 0
    ∗ Pend d i cc0_scratch3.sem m0 (gathered X Tt hX) 0 2 n ∗ Pend d i cc0_scratch4.sem m0 (gathered X Tt hX) 4096 3 n
    ∗ Quarts d i m0 (gathered X Tt hX) 0 n ∗ Quarts d i m0 (gathered X Tt hX) 1 n ∗ Owes d i O)

/-- One trip. -/
theorem wp_trip (d : Dev nD) (i : grid0.Coords) (X : XBuf) (Tt : TBuf F) (hX : ∀ z, (X z).toNat < 100000) (m0 : OBuf F)
    (qx qt : PosShare TreeShare) (O : CellTallies nD τ sig (HIx 1)) (v2 : BitVec 32) (t : Fin k0_t1_loop.trips) (u : Unit) :
    Inv d i X Tt hX m0 qx qt O t.val
      ⊢ wp frame (wpE (defs₀ (F := F)) 𝒱₀ (thr d i) none) Set.univ (k0_t1_body (F := F) i xV (Memref.isWhole_whole _) tV (Memref.isWhole_whole _) oV (Memref.isWhole_whole _)
      sT (Memref.isWhole_whole _) sX (Memref.isWhole_whole _) sO (Memref.isWhole_whole _)
      cc0_scratch3 cc0_scratch4 cc0_scoped0 cc0_scoped1 v2 t u)
          fun _ => Inv d i X Tt hX m0 qx qt O (t.val + 1) := by
  have ht := trip_lt t
  unfold Inv k0_t1_body
  iintro ⟨#Hmw, Hxx, Htt, Hxp, Hta, Hs0, Hs1, Hp0, Hp1, Hq0, Hq1, HO⟩
  iapply (wp_then d i (wp_part17 d i X Tt qx qt O v2 t)) $$ [Hxx Htt Hxp Hta Hs0 Hs1 HO]
  · isplitr; · iexact Hmw
    isplitl [Hxx]; · iexact Hxx
    isplitl [Htt]; · iexact Htt
    isplitl [Hxp]; · iexact Hxp
    isplitl [Hta]; · iexact Hta
    isplitl [Hs0]; · iexact Hs0
    isplitl [Hs1]; · iexact Hs1
    iexact HO
  iintro %a ⟨Hxx, Hx, Hs0, Hf, HO⟩
  iapply (wp_then d i (wp_part18 d i X Tt hX m0 qt O _ t a)) $$ [Hx Hf Hp0 Hp1 Hq0 Hq1 HO]
  · isplitr; · iexact Hmw
    isplitl [Hx]; · iexact Hx
    isplitl [Hf]; · iexact Hf
    isplitl [Hp0]; · iexact Hp0
    isplitl [Hp1]; · iexact Hp1
    isplitl [Hq0]; · iexact Hq0
    isplitl [Hq1]; · iexact Hq1
    iexact HO
  iintro %u ⟨Htt, Hs1, ⟨%fx, Hx, %hfx⟩, ⟨%ft, Ht, %hft⟩, HB0, HB1, Hq2, Hq3, HO⟩
  have hv : InVocab fx := hfx.inVocab hX (rowNo_lt i t.val ht)
  iapply (wp_then d i (wp_land d i cc0_scratch3.sem m0 (gathered X Tt hX) 0 0 t.val ht O
    (k0_off71 i t) (k0_off71_inb i t) ![0] inb_S8192_S4096_0)) $$ [HB0 HO]
  · isplitr; · iexact Hmw
    isplitl [HB0]; · iexact HB0
    iexact HO
  iintro %u ⟨⟨Hsem, Hh, Hq0⟩, HO⟩
  iapply (wp_quarter d i cc0_scratch3.sem X Tt hX m0 0 2 t.val (by omega) (by omega) ht ft fx hft hfx
    (wp_loop2 d i hv (halfSet 0) (fun y h1 h2 => mem_halfSet.mpr ⟨h1, h2⟩))
    (k0_off71 i t) (k0_off71_inb i t) (off71_eq i t) ![0] inb_S8192_S4096_0 rfl) $$ [Hx Ht Hsem Hh Hq2]
  · isplitl [Hx]; · iexact Hx
    isplitl [Ht]; · iexact Ht
    isplitl [Hsem]; · iexact Hsem
    isplitl [Hh]; · iexact Hh
    iexact Hq2
  iintro ⟨Hx, Ht, HB0⟩
  iapply (wp_then d i (wp_land d i cc0_scratch4.sem m0 (gathered X Tt hX) 4096 1 t.val ht O
    (k0_off104 i t) (k0_off104_inb i t) ![4096] inb_S8192_S4096_4096)) $$ [HB1 HO]
  · isplitr; · iexact Hmw
    isplitl [HB1]; · iexact HB1
    iexact HO
  iintro %u ⟨⟨Hsem, Hh, Hq1⟩, HO⟩
  iapply (wp_quarter d i cc0_scratch4.sem X Tt hX m0 4096 3 t.val (by omega) (by omega) ht ft fx hft hfx
    (wp_loop3 d i hv (halfSet 4096) (fun y h1 h2 => mem_halfSet.mpr ⟨h1, h2⟩))
    (k0_off104 i t) (k0_off104_inb i t) (off104_eq i t) ![4096] inb_S8192_S4096_4096 rfl) $$ [Hx Ht Hsem Hh Hq3]
  · isplitl [Hx]; · iexact Hx
    isplitl [Ht]; · iexact Ht
    isplitl [Hsem]; · iexact Hsem
    isplitl [Hh]; · iexact Hh
    iexact Hq3
  iintro ⟨Hx, Ht, HB1⟩
  sl_step
  isplitr; · iexact Hmw
  isplitl [Hxx]; · iexact Hxx
  isplitl [Htt]; · iexact Htt
  isplitl [Hx]
  · iexists fx
    isplitl [Hx]; · iexact Hx
    ipureintro
    intro j hj
    rw [← Nat.succ.inj hj]; exact hfx
  isplitl [Ht]; · iexists ft; iexact Ht
  isplitl [Hs0]; · iexact Hs0
  isplitl [Hs1]; · iexact Hs1
  isplitl [HB0]; · rw [pend_succ]; iexact HB0
  isplitl [HB1]; · rw [pend_succ]; iexact HB1
  isplitl [Hq0]; · iexact Hq0
  isplitl [Hq1]; · iexact Hq1
  iexact HO

end Cert.Proof.Gather

end
-- ==== Proof.Tile.lean ====
/-
  The whole body of a tile: the thirteen trips and the two last waits. It starts with the indices and
  the tables at a share, the tile's quarters of the result as they were, its scratches and its four copy
  semaphores at zero; it ends with the quarters holding the gathered values and all the rest back.
-/
module

public import proofs.«01_k».proof.Proof.Trip

@[expose] public section

set_option maxRecDepth 16384

noncomputable section

namespace Cert.Proof.Gather

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The two halves of the result scratch -/

/-- The scratch without its first half is its second half. -/
theorem halves_compl : (Finset.univ : Finset S8192.Idx) \ halfSet 0 = halfSet 4096 := by
  ext y
  have hy : (y 0).val < 8192 := (y 0).isLt
  rw [Finset.mem_sdiff, mem_halfSet, mem_halfSet]
  constructor
  · rintro ⟨-, h⟩; omega
  · intro h; exact ⟨Finset.mem_univ _, by omega⟩

/-- The scratch is its two halves. -/
theorem halves_split (d : Dev nD) (i : grid0.Coords) :
    (iprop(∃ fo : RowO F, (thr d i).loc cc0_scratch2 ↦{fullShare} fo) : sProp 𝕄) ⊢ iprop(HalfAny d i 0 ∗ HalfAny d i 4096) := by
  iintro ⟨%fo, H⟩
  ihave H := (pointsTo_split_subset (ℓ := (thr d i).loc cc0_scratch2) (q := fullShare) (f := fo) (S := Finset.univ)
    (Finset.subset_univ (halfSet 0))).1 $$ H
  icases H with ⟨H0, H1⟩
  isplitl [H0]
  · iexists fo; iexact H0
  iexists fo
  iapply (Entails.of_eq (congrArg (fun S => ((thr d i).loc cc0_scratch2 ↦[S]{fullShare} fo : sProp 𝕄)) halves_compl)) $$ H1

/-- The two halves, whatever each holds, are the scratch. -/
theorem halves_join (d : Dev nD) (i : grid0.Coords) :
    (iprop(HalfAny d i 0 ∗ HalfAny d i 4096) : sProp 𝕄) ⊢ iprop(∃ fo : RowO F, (thr d i).loc cc0_scratch2 ↦{fullShare} fo) := by
  iintro ⟨⟨%f0, H0⟩, %f1, H1⟩
  iexists _
  iapply (pointsTo_join_subset (ℓ := (thr d i).loc cc0_scratch2) (q := fullShare) (g := f0) (f := f1) (S := Finset.univ)
    (Finset.subset_univ (halfSet 0)))
  isplitl [H0]; · iexact H0
  iapply (Entails.of_eq (congrArg (fun S => ((thr d i).loc cc0_scratch2 ↦[S]{fullShare} f1 : sProp 𝕄)) halves_compl.symm)) $$ H1

/-! ## The body -/

/-- What a tile is handed and hands back: the indices and the tables at a share, and its quarters of the
    result, of which the first `n` rows hold the gathered values. -/
abbrev TileAt (d : Dev nD) (i : grid0.Coords) (X : XBuf) (Tt : TBuf F) (hX : ∀ z, (X z).toNat < 100000) (m0 : OBuf F)
    (qx qt : PosShare TreeShare) (n : ℕ) : sProp 𝕄 :=
  iprop((xLoc d ↦{qx} X) ∗ (tLoc d ↦{qt} Tt)
    ∗ Quarts d i m0 (gathered X Tt hX) 0 n ∗ Quarts d i m0 (gathered X Tt hX) 1 n
    ∗ Quarts d i m0 (gathered X Tt hX) 2 n ∗ Quarts d i m0 (gathered X Tt hX) 3 n)

/-- The thirteen trips. -/
theorem wp_part19 (d : Dev nD) (i : grid0.Coords) (X : XBuf) (Tt : TBuf F) (hX : ∀ z, (X z).toNat < 100000) (m0 : OBuf F)
    (qx qt : PosShare TreeShare) (O : CellTallies nD τ sig (HIx 1)) :
    Inv d i X Tt hX m0 qx qt O 0
      ⊢ wp frame (wpE (defs₀ (F := F)) 𝒱₀ (thr d i) none) Set.univ (k0_part19 (F := F) i xV (Memref.isWhole_whole _) tV (Memref.isWhole_whole _) oV (Memref.isWhole_whole _)
      sT (Memref.isWhole_whole _) sX (Memref.isWhole_whole _) sO (Memref.isWhole_whole _)
      cc0_scratch3 cc0_scratch4 cc0_scoped0 cc0_scoped1)
          fun _ => Inv d i X Tt hX m0 qx qt O 13 := by
  rw [k0_part19_eq_skeleton]
  unfold k0_part19_skel
  have hloop : ∀ v2 : BitVec 32, Inv d i X Tt hX m0 qx qt O 0
      ⊢ wp frame (wpE (defs₀ (F := F)) 𝒱₀ (thr d i) none) Set.univ (Scf.Loop.for k0_t1_loop k0_t1_ok ⟨⟩ (k0_t1_body (F := F) i xV (Memref.isWhole_whole _) tV (Memref.isWhole_whole _) oV (Memref.isWhole_whole _)
      sT (Memref.isWhole_whole _) sX (Memref.isWhole_whole _) sO (Memref.isWhole_whole _)
      cc0_scratch3 cc0_scratch4 cc0_scoped0 cc0_scoped1 v2))
          fun _ => Inv d i X Tt hX m0 qx qt O 13 := by
    intro v2
    iintro H
    iapply (Scf.wp_for _ _ _ _ _ _ _ _ _ (fun n _ => Inv d i X Tt hX m0 qx qt O n)
      (fun k u => wp_trip d i X Tt hX m0 qx qt O v2 k u))
    isplitl [H]; · iexact H
    iintro %u H
    iapply (Entails.of_eq (congrArg (Inv d i X Tt hX m0 qx qt O) trips_outer)) $$ H
  iintro H
  iapply (wp_then d i (hloop _)) $$ H
  iintro %u H
  sl_step
  iexact H

/-- The body between its scratches. -/
theorem wp_body (d : Dev nD) (i : grid0.Coords) (X : XBuf) (Tt : TBuf F) (hX : ∀ z, (X z).toNat < 100000) (m0 : OBuf F)
    (qx qt : PosShare TreeShare) (O : CellTallies nD τ sig (HIx 1)) :
    iprop(Transfers.MayWaits (thr d i) (default : HIx 1) O ∗ TileAt d i X Tt hX m0 qx qt 0
        ∗ TAny d i ∗ (∃ fx : RowX, (thr d i).loc cc0_scratch1 ↦{fullShare} fx) ∗ (∃ fo : RowO F, (thr d i).loc cc0_scratch2 ↦{fullShare} fo)
        ∗ semVal (thr d i, SemLoc.dma cc0_scratch3.sem) 0 ∗ semVal (thr d i, SemLoc.dma cc0_scratch4.sem) 0
        ∗ semVal (thr d i, SemLoc.dma cc0_scoped0.sem) 0 ∗ semVal (thr d i, SemLoc.dma cc0_scoped1.sem) 0 ∗ Owes d i O)
      ⊢ wp frame (wpE (defs₀ (F := F)) 𝒱₀ (thr d i) none) Set.univ (cc0__gather_kernel (F := F) i xV (Memref.isWhole_whole _) tV (Memref.isWhole_whole _) oV (Memref.isWhole_whole _)
      sT (Memref.isWhole_whole _) sX (Memref.isWhole_whole _) sO (Memref.isWhole_whole _)
      cc0_scratch3 cc0_scratch4 cc0_scoped0 cc0_scoped1)
          fun _ => iprop(TileAt d i X Tt hX m0 qx qt 13
            ∗ TAny d i ∗ (∃ fx : RowX, (thr d i).loc cc0_scratch1 ↦{fullShare} fx) ∗ (∃ fo : RowO F, (thr d i).loc cc0_scratch2 ↦{fullShare} fo)
            ∗ semVal (thr d i, SemLoc.dma cc0_scratch3.sem) 0 ∗ semVal (thr d i, SemLoc.dma cc0_scratch4.sem) 0
            ∗ semVal (thr d i, SemLoc.dma cc0_scoped0.sem) 0 ∗ semVal (thr d i, SemLoc.dma cc0_scoped1.sem) 0 ∗ Owes d i O) := by
  rw [cc0__gather_kernel_eq_skeleton]
  unfold cc0__gather_kernel_skel
  iintro ⟨#Hmw, ⟨Hxx, Htt, Hq0, Hq1, Hq2, Hq3⟩, Hta, ⟨%fx, Hx⟩, Ho, Hs3, Hs4, Hs0, Hs1, HO⟩
  ihave Ho := (halves_split d i) $$ Ho
  icases Ho with ⟨Hh0, Hh1⟩
  iapply (wp_then d i (wp_part19 d i X Tt hX m0 qx qt O)) $$ [Hxx Htt Hq0 Hq1 Hq2 Hq3 Hta Hx Hh0 Hh1 Hs3 Hs4 Hs0 Hs1 HO]
  · unfold Inv
    isplitr; · iexact Hmw
    isplitl [Hxx]; · iexact Hxx
    isplitl [Htt]; · iexact Htt
    isplitl [Hx]
    · iexists fx
      isplitl [Hx]; · iexact Hx
      ipureintro
      intro j hj
      exact absurd hj (Nat.succ_ne_zero j).symm
    isplitl [Hta]; · iexact Hta
    isplitl [Hs0]; · iexact Hs0
    isplitl [Hs1]; · iexact Hs1
    isplitl [Hs3 Hh0 Hq2]
    · rw [pend_zero]
      isplitl [Hs3]; · iexact Hs3
      isplitl [Hh0]; · iexact Hh0
      iexact Hq2
    isplitl [Hs4 Hh1 Hq3]
    · rw [pend_zero]
      isplitl [Hs4]; · iexact Hs4
      isplitl [Hh1]; · iexact Hh1
      iexact Hq3
    isplitl [Hq0]; · iexact Hq0
    isplitl [Hq1]; · iexact Hq1
    iexact HO
  iintro %u HI
  ihave HI := (Entails.of_eq (show Inv d i X Tt hX m0 qx qt O 13 = iprop(Transfers.MayWaits (thr d i) (default : HIx 1) O
      ∗ (xLoc d ↦{qx} X) ∗ (tLoc d ↦{qt} Tt) ∗ XPart d i X 13 ∗ TAny d i
      ∗ semVal (thr d i, SemLoc.dma cc0_scoped0.sem) 0 ∗ semVal (thr d i, SemLoc.dma cc0_scoped1.sem) 0
      ∗ Busy d i cc0_scratch3.sem m0 (gathered X Tt hX) 0 2 12 ∗ Busy d i cc0_scratch4.sem m0 (gathered X Tt hX) 4096 3 12
      ∗ Quarts d i m0 (gathered X Tt hX) 0 13 ∗ Quarts d i m0 (gathered X Tt hX) 1 13 ∗ Owes d i O) from rfl)) $$ HI
  icases HI with ⟨-, Hxx, Htt, ⟨%fx, Hx, -⟩, Hta, Hs0, Hs1, HB0, HB1, Hq0, Hq1, HO⟩
  iapply (wp_then d i (wp_land d i cc0_scratch3.sem m0 (gathered X Tt hX) 0 2 12 (by omega) O
    (k0_off137 i) (k0_off137_inb i) ![0] inb_S8192_S4096_0)) $$ [HB0 HO]
  · isplitr; · iexact Hmw
    isplitl [HB0]; · iexact HB0
    iexact HO
  iintro %u ⟨⟨Hs3, Hh0, Hq2⟩, HO⟩
  iapply (wp_then d i (wp_land d i cc0_scratch4.sem m0 (gathered X Tt hX) 4096 3 12 (by omega) O
    (k0_off138 i) (k0_off138_inb i) ![4096] inb_S8192_S4096_4096)) $$ [HB1 HO]
  · isplitr; · iexact Hmw
    isplitl [HB1]; · iexact HB1
    iexact HO
  iintro %u ⟨⟨Hs4, Hh1, Hq3⟩, HO⟩
  sl_step
  isplitl [Hxx Htt Hq0 Hq1 Hq2 Hq3]
  · isplitl [Hxx]; · iexact Hxx
    isplitl [Htt]; · iexact Htt
    isplitl [Hq0]; · iexact Hq0
    isplitl [Hq1]; · iexact Hq1
    isplitl [Hq2]; · iexact Hq2
    iexact Hq3
  isplitl [Hta]; · iexact Hta
  isplitl [Hx]; · iexists fx; iexact Hx
  isplitl [Hh0 Hh1]
  · iapply (halves_join d i)
    isplitl [Hh0]; · iexact Hh0
    iexact Hh1
  isplitl [Hs3]; · iexact Hs3
  isplitl [Hs4]; · iexact Hs4
  isplitl [Hs0]; · iexact Hs0
  isplitl [Hs1]; · iexact Hs1
  iexact HO

/-! ## The tile's own semaphores and buffers -/

/-- The copy semaphore `sem` of the tile at `i`. -/
abbrev cell (d : Dev nD) (i : grid0.Coords) (sem : DmaSem sig) : GSem nD τ sig := (thr d i, SemLoc.dma sem)

/-- Two different copy semaphores of a tile are two cells. -/
theorem cell_ne (d : Dev nD) (i : grid0.Coords) {a b : DmaSem sig} (h : SemLoc.dma a ≠ (SemLoc.dma b : SemLoc sig)) :
    cell d i a ≠ cell d i b := fun e => h (Prod.mk.inj e).2

/-- A copy semaphore that belongs to the vector subcores is among the tile's own. -/
theorem cell_mem (d : Dev nD) (i : grid0.Coords) (a : DmaSem sig) (h : (SemLoc.dma a : SemLoc sig).isScoped .scVector = true) :
    cell d i a ∈ SparseCore.Cfg.ownCells (thr d i) := SparseCore.Cfg.mem_ownCells.mpr ⟨rfl, h⟩

/-- The tile's own semaphores: the four of its copies, and the rest. -/
theorem own_sems (d : Dev nD) (i : grid0.Coords) :
    (SparseCore.Cfg.ownSems0 (thr d i) : sProp 𝕄)
      = iprop(semVal (cell d i cc0_scratch3.sem) 0 ∗ semVal (cell d i cc0_scratch4.sem) 0
          ∗ semVal (cell d i cc0_scoped0.sem) 0 ∗ semVal (cell d i cc0_scoped1.sem) 0
          ∗ bigSep (((((SparseCore.Cfg.ownCells (thr d i)).erase (cell d i cc0_scratch3.sem)).erase (cell d i cc0_scratch4.sem)).erase
              (cell d i cc0_scoped0.sem)).erase (cell d i cc0_scoped1.sem)) fun g => semVal g 0) := by
  unfold SparseCore.Cfg.ownSems0
  rw [SparseCore.bigSep_erase' (cell_mem d i cc0_scratch3.sem (by decide)),
    SparseCore.bigSep_erase' (Finset.mem_erase.mpr ⟨cell_ne d i (by decide), cell_mem d i cc0_scratch4.sem (by decide)⟩),
    SparseCore.bigSep_erase' (Finset.mem_erase.mpr ⟨cell_ne d i (by decide), Finset.mem_erase.mpr ⟨cell_ne d i (by decide),
      cell_mem d i cc0_scoped0.sem (by decide)⟩⟩),
    SparseCore.bigSep_erase' (Finset.mem_erase.mpr ⟨cell_ne d i (by decide), Finset.mem_erase.mpr ⟨cell_ne d i (by decide),
      Finset.mem_erase.mpr ⟨cell_ne d i (by decide), cell_mem d i cc0_scoped1.sem (by decide)⟩⟩⟩)]

/-- A scratch of the vector subcores, as the tile's own buffer. -/
abbrev buf (i : grid0.Coords) (b : Ref sig .scVector) : DevRef τ sig := (Proc.scVector (cV i) (jV i)).devRef b

/-- Different scratches are different buffers. -/
theorem buf_ne (i : grid0.Coords) {a b : Ref sig .scVector} (h : a ≠ b) : buf i a ≠ buf i b :=
  fun e => absurd (Proc.devRef_injective _ e) h

/-- The tile's own buffers: its three scratches, each at some contents, and the rest. -/
theorem own_bufs (d : Dev nD) (i : grid0.Coords) :
    (SparseCore.Cfg.ownBufs (thr d i) : sProp 𝕄)
      = iprop((∃ f, (thr d i).loc cc0_scratch0 ↦{fullShare} f) ∗ (∃ f, (thr d i).loc cc0_scratch1 ↦{fullShare} f)
          ∗ (∃ f, (thr d i).loc cc0_scratch2 ↦{fullShare} f)
          ∗ bigSep ((((SparseCore.Cfg.ownRefs (τ := τ) (.scVector (cV i) (jV i))).erase (buf i cc0_scratch0)).erase (buf i cc0_scratch1)).erase
              (buf i cc0_scratch2)) fun b => iprop(∃ f, ((d, b) : Loc nD τ sig) ↦{fullShare} f)) := by
  unfold SparseCore.Cfg.ownBufs
  refine (SparseCore.bigSep_erase' (SparseCore.Cfg.mem_ownRefs_of_owner (p := Proc.scVector (cV i) (jV i))
    (b := buf i cc0_scratch0) rfl)).trans ?_
  rw [SparseCore.bigSep_erase' (Finset.mem_erase.mpr ⟨buf_ne i (show (cc0_scratch1 : Ref sig .scVector) ≠ cc0_scratch0 by decide),
      SparseCore.Cfg.mem_ownRefs_of_owner (p := Proc.scVector (cV i) (jV i)) (b := buf i cc0_scratch1) rfl⟩),
    SparseCore.bigSep_erase' (Finset.mem_erase.mpr ⟨buf_ne i (show (cc0_scratch2 : Ref sig .scVector) ≠ cc0_scratch1 by decide),
      Finset.mem_erase.mpr ⟨buf_ne i (show (cc0_scratch2 : Ref sig .scVector) ≠ cc0_scratch0 by decide),
      SparseCore.Cfg.mem_ownRefs_of_owner (p := Proc.scVector (cV i) (jV i)) (b := buf i cc0_scratch2) rfl⟩⟩)]

/-- The body of a tile as the launch runs it. -/
theorem tile_body (d : Dev nD) (i : grid0.Coords) (X : XBuf) (Tt : TBuf F) (hX : ∀ z, (X z).toNat < 100000) (m0 : OBuf F)
    (qx qt : PosShare TreeShare) (hF : (K (F := F)).Facts) (O : CellTallies nD τ sig (HIx 1)) (W : Waits sig (HIx 1)) (hO : ∀ g, O g none = 0) :
    iprop(levAts (K (F := F)).L (K (F := F)).lev ∗ emp ∗ TileAt d i X Tt hX m0 qx qt 0
        ∗ scopedBufs (thr d i) ∗ scopedSems0 (thr d i) ∗ owes (thr d i) O W)
      ⊢ wp frame (wpE (defs₀ (F := F)) 𝒱₀ (thr d i) none) Set.univ (cc0__gather_kernel (F := F) i xV (Memref.isWhole_whole _) tV (Memref.isWhole_whole _) oV (Memref.isWhole_whole _)
      sT (Memref.isWhole_whole _) sX (Memref.isWhole_whole _) sO (Memref.isWhole_whole _)
      cc0_scratch3 cc0_scratch4 cc0_scoped0 cc0_scoped1)
          fun _ => iprop(TileAt d i X Tt hX m0 qx qt 13 ∗ scopedBufs (thr d i) ∗ scopedSems0 (thr d i)
            ∗ ∃ W', ⌜∀ p ∈ W', p ∈ W ∨ p.2 = none ∨ p.2 = some (0 : Fin 1)⌝ ∗ owes (thr d i) O W') := by
  rw [(K (F := F)).scopedBufs_V hF d (cV i) (jV i), SparseCore.Cfg.scopedSems0_V (Val := Elt F) d (cV i) (jV i), own_sems, own_bufs]
  iintro ⟨#Hlv, -, Hp, ⟨Ht, Hx, Ho, Hbufs⟩, ⟨Hs3, Hs4, Hs0, Hs1, Hsems⟩, HO⟩
  ihave Hmw := (show levAts (K (F := F)).L (K (F := F)).lev ⊢ Transfers.MayWaits (thr d i) (default : HIx 1) O from
    (K (F := F)).mayWaits_none (thr := thr d i) hO) $$ Hlv
  iapply ((wp_body d i X Tt hX m0 qx qt O).trans (wp_wand _ _ _)) $$ [Hmw Hp Ht Hx Ho Hs3 Hs4 Hs0 Hs1 HO]
  · isplitl [Hmw]; · iexact Hmw
    isplitl [Hp]; · iexact Hp
    isplitl [Ht]; · iexact Ht
    isplitl [Hx]; · iexact Hx
    isplitl [Ho]; · iexact Ho
    isplitl [Hs3]; · iexact Hs3
    isplitl [Hs4]; · iexact Hs4
    isplitl [Hs0]; · iexact Hs0
    isplitl [Hs1]; · iexact Hs1
    iexists W; iexact HO
  iintro %u ⟨Hp, Ht, Hx, Ho, Hs3, Hs4, Hs0, Hs1, %W', HO⟩
  isplitl [Hp]; · iexact Hp
  isplitl [Ht Hx Ho Hbufs]
  · isplitl [Ht]; · iexact Ht
    isplitl [Hx]; · iexact Hx
    isplitl [Ho]; · iexact Ho
    iexact Hbufs
  isplitl [Hs3 Hs4 Hs0 Hs1 Hsems]
  · isplitl [Hs3]; · iexact Hs3
    isplitl [Hs4]; · iexact Hs4
    isplitl [Hs0]; · iexact Hs0
    isplitl [Hs1]; · iexact Hs1
    iexact Hsems
  iexists W'
  isplitr
  · ipureintro
    intro p _
    rcases p.2 with _ | q
    · exact .inr (.inl rfl)
    · exact .inr (.inr (congrArg some (Subsingleton.elim q 0)))
  iexact HO

end Cert.Proof.Gather

end
-- ==== Proof.Deal.lean ====
/-
  How the arrays are dealt to the tiles. Row `s` of the result belongs to tile number `s / 13`; tile
  number `2 i + c` is vector subcore `i` of SparseCore `c`. The indices and the tables are read by all, so
  each SparseCore and each of its tiles gets a share of them.
-/
module

public import proofs.«01_k».proof.Proof.Tile

@[expose] public section

set_option maxRecDepth 16384

noncomputable section

namespace Cert.Proof.Gather

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The result's rows -/

/-- The places of the result that SparseCore `c` makes. -/
def coreSet (c : ℕ) : Finset S26x16x16384.Idx :=
  Finset.univ.filter fun y => (((y 0).val * 16 + (y 1).val) / 13) % 2 = c

/-- The places that tile number `w` makes. -/
def tileSet (w : ℕ) : Finset S26x16x16384.Idx :=
  Finset.univ.filter fun y => ((y 0).val * 16 + (y 1).val) / 13 = w

/-- The places of quarter `h` that tile number `w` makes. -/
def tileQuarter (w h : ℕ) : Finset S26x16x16384.Idx :=
  Finset.univ.filter fun y => ((y 0).val * 16 + (y 1).val) / 13 = w ∧ (y 2).val / 4096 = h

/-- Membership in a SparseCore's part. -/
theorem mem_coreSet {c : ℕ} {y : S26x16x16384.Idx} : y ∈ coreSet c ↔ (((y 0).val * 16 + (y 1).val) / 13) % 2 = c := by
  unfold coreSet
  rw [Finset.mem_filter]
  exact ⟨fun h => h.2, fun h => ⟨Finset.mem_univ _, h⟩⟩

/-- Membership in a tile's part. -/
theorem mem_tileSet {w : ℕ} {y : S26x16x16384.Idx} : y ∈ tileSet w ↔ ((y 0).val * 16 + (y 1).val) / 13 = w := by
  unfold tileSet
  rw [Finset.mem_filter]
  exact ⟨fun h => h.2, fun h => ⟨Finset.mem_univ _, h⟩⟩

/-- Membership in a tile's part of a quarter. -/
theorem mem_tileQuarter {w h : ℕ} {y : S26x16x16384.Idx} :
    y ∈ tileQuarter w h ↔ ((y 0).val * 16 + (y 1).val) / 13 = w ∧ (y 2).val / 4096 = h := by
  unfold tileQuarter
  rw [Finset.mem_filter]
  exact ⟨fun h => h.2, fun h => ⟨Finset.mem_univ _, h⟩⟩

/-- The bounds of a place of the result. -/
theorem place_lt (y : S26x16x16384.Idx) : (y 0).val < 26 ∧ (y 1).val < 16 ∧ (y 2).val < 16384 :=
  ⟨(y 0).isLt, (y 1).isLt, (y 2).isLt⟩

/-- Sets told apart by a place's number are disjoint. -/
theorem disjoint_of {A B : Finset S26x16x16384.Idx} (h : ∀ y, y ∈ A → y ∈ B → False) : Disjoint A B :=
  Finset.disjoint_left.mpr fun y hA hB => h y hA hB

/-- Equal sets of places make equal ownership. -/
theorem on_eq (d : Dev nD) (f : OBuf F) {A B : Finset S26x16x16384.Idx} (h : A = B) :
    (oLoc d ↦[A]{fullShare} f : sProp 𝕄) = oLoc d ↦[B]{fullShare} f := by
  rw [h]

/-- The result is the two SparseCores' parts. -/
theorem result_cores (d : Dev nD) (f : OBuf F) :
    (oLoc d ↦{fullShare} f : sProp 𝕄) = bigSep Finset.univ fun c : Fin 2 => oLoc d ↦[coreSet c.val]{fullShare} f := by
  refine (on_eq d f ?_).trans (pointsTo_biUnion (ℓ := oLoc d) Finset.univ (fun c : Fin 2 => coreSet c.val) ?_)
  · ext y
    rw [Finset.mem_biUnion]
    refine ⟨fun _ => ⟨⟨_, Nat.mod_lt _ (by omega : 0 < 2)⟩, Finset.mem_univ _, mem_coreSet.mpr rfl⟩, fun _ => Finset.mem_univ _⟩
  · intro a _ b _ hab
    refine disjoint_of fun y hA hB => hab (Fin.ext ?_)
    rw [← mem_coreSet.mp hA, ← mem_coreSet.mp hB]

/-- A SparseCore's part is its sixteen tiles'. -/
theorem core_tiles (d : Dev nD) (c : Fin 2) (f : OBuf F) :
    (oLoc d ↦[coreSet c.val]{fullShare} f : sProp 𝕄)
      = bigSep Finset.univ fun i : Fin 16 => oLoc d ↦[tileSet (2 * i.val + c.val)]{fullShare} f := by
  refine (on_eq d f ?_).trans (pointsTo_biUnion (ℓ := oLoc d) Finset.univ (fun i : Fin 16 => tileSet (2 * i.val + c.val)) ?_)
  · ext y
    have hy := place_lt y
    have hc := c.isLt
    rw [Finset.mem_biUnion]
    constructor
    · intro h
      rw [mem_coreSet] at h
      refine ⟨⟨((y 0).val * 16 + (y 1).val) / 13 / 2, by omega⟩, Finset.mem_univ _, ?_⟩
      rw [mem_tileSet]
      show ((y 0).val * 16 + (y 1).val) / 13 = 2 * (((y 0).val * 16 + (y 1).val) / 13 / 2) + c.val
      omega
    · rintro ⟨i, -, h⟩
      rw [mem_tileSet] at h
      rw [mem_coreSet]
      omega
  · intro a _ b _ hab
    refine disjoint_of fun y hA hB => hab (Fin.ext ?_)
    rw [mem_tileSet] at hA hB
    omega

/-- A tile's part is its four quarters. -/
theorem tile_quarters (d : Dev nD) (w : ℕ) (f : OBuf F) :
    (oLoc d ↦[tileSet w]{fullShare} f : sProp 𝕄)
      = bigSep Finset.univ fun h : Fin 4 => oLoc d ↦[tileQuarter w h.val]{fullShare} f := by
  refine (on_eq d f ?_).trans (pointsTo_biUnion (ℓ := oLoc d) Finset.univ (fun h : Fin 4 => tileQuarter w h.val) ?_)
  · ext y
    have hy := place_lt y
    rw [Finset.mem_biUnion]
    constructor
    · intro h
      rw [mem_tileSet] at h
      exact ⟨⟨(y 2).val / 4096, by omega⟩, Finset.mem_univ _, mem_tileQuarter.mpr ⟨h, rfl⟩⟩
    · rintro ⟨i, -, h⟩
      exact mem_tileSet.mpr (mem_tileQuarter.mp h).1
  · intro a _ b _ hab
    refine disjoint_of fun y hA hB => hab (Fin.ext ?_)
    rw [← (mem_tileQuarter.mp hA).2, ← (mem_tileQuarter.mp hB).2]

/-- A tile's quarter is that quarter of its thirteen rows. -/
theorem tileQuarter_rows (d : Dev nD) (w h : ℕ) (f : OBuf F) :
    (oLoc d ↦[tileQuarter w h]{fullShare} f : sProp 𝕄)
      = bigSep rows fun k => oLoc d ↦[quarter (13 * w + k) h]{fullShare} f := by
  refine (on_eq d f ?_).trans (pointsTo_biUnion (ℓ := oLoc d) rows (fun k => quarter (13 * w + k) h) ?_)
  · ext y
    rw [Finset.mem_biUnion]
    constructor
    · intro hy
      rw [mem_tileQuarter] at hy
      refine ⟨((y 0).val * 16 + (y 1).val) % 13, mem_rows.mpr (Nat.mod_lt _ (by omega)), mem_quarter.mpr ⟨?_, hy.2⟩⟩
      omega
    · rintro ⟨k, hk, hy⟩
      rw [mem_rows] at hk
      rw [mem_quarter] at hy
      exact mem_tileQuarter.mpr ⟨by omega, hy.2⟩
  · intro a _ b _ hab
    refine disjoint_of fun y hA hB => hab ?_
    rw [mem_quarter] at hA hB
    omega

/-- Four things in a row. -/
theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide),
    SparseCore.bigSep_insert' (by decide), SparseCore.bigSep_insert' (by decide), bigSep_singleton]

/-- Before the first trip all of a quarter is as it was. -/
theorem quarts_start (d : Dev nD) (i : grid0.Coords) (m0 G : OBuf F) (h : ℕ) :
    (Quarts d i m0 G h 0 : sProp 𝕄) = oLoc d ↦[tileQuarter (2 * (i 1).val + (i 0).val) h]{fullShare} m0 := by
  rw [tileQuarter_rows]
  exact bigSep_congr fun k _ => congrArg (Quart d (rowNo i k) h) (if_neg (Nat.not_lt_zero k))

/-- After the last trip all of a quarter holds the result. -/
theorem quarts_end (d : Dev nD) (i : grid0.Coords) (m0 G : OBuf F) (h : ℕ) :
    (Quarts d i m0 G h 13 : sProp 𝕄) = oLoc d ↦[tileQuarter (2 * (i 1).val + (i 0).val) h]{fullShare} G := by
  rw [tileQuarter_rows]
  exact bigSep_congr fun k hk => congrArg (Quart d (rowNo i k) h) (if_pos (mem_rows.mp hk))

/-! ## Shares of the indices and the tables -/

/-- SparseCore `c`'s share. -/
def coreShare (c : Fin 2) : PosShare TreeShare := Transfers.dealOf fullShare (Finset.univ : Finset (Fin 2)) c

/-- The share of tile `i` of SparseCore `c`. -/
def tileShare (c : Fin 2) (i : Fin 16) : PosShare TreeShare := Transfers.dealOf (coreShare c) (Finset.univ : Finset (Fin 16)) i

/-- Everything, at result contents `f`: the indices, the tables, the result. -/
abbrev AllAt (d : Dev nD) (X : XBuf) (Tt : TBuf F) (f : OBuf F) : sProp 𝕄 :=
  iprop((xLoc d ↦{fullShare} X) ∗ (tLoc d ↦{fullShare} Tt) ∗ (oLoc d ↦{fullShare} f))

/-- What SparseCore `c` is handed or hands back, at result contents `f`. -/
abbrev CoreAt (d : Dev nD) (X : XBuf) (Tt : TBuf F) (f : OBuf F) (c : Fin 2) : sProp 𝕄 :=
  iprop((xLoc d ↦{coreShare c} X) ∗ (tLoc d ↦{coreShare c} Tt) ∗ (oLoc d ↦[coreSet c.val]{fullShare} f))

/-- What tile `i` of SparseCore `c` is handed or hands back, at result contents `f`. -/
abbrev PartAt (d : Dev nD) (X : XBuf) (Tt : TBuf F) (f : OBuf F) (c : Fin 2) (i : Fin 16) : sProp 𝕄 :=
  iprop((xLoc d ↦{tileShare c i} X) ∗ (tLoc d ↦{tileShare c i} Tt) ∗ (oLoc d ↦[tileSet (2 * i.val + c.val)]{fullShare} f))

/-- Everything is the two SparseCores' parts. -/
theorem all_cores (d : Dev nD) (X : XBuf) (Tt : TBuf F) (f : OBuf F) :
    (AllAt d X Tt f : sProp 𝕄) = bigSep Finset.univ fun c : Fin 2 => CoreAt d X Tt f c := by
  have hx : (xLoc d ↦{fullShare} X : sProp 𝕄) = bigSep Finset.univ fun c : Fin 2 => xLoc d ↦{coreShare c} X :=
    Transfers.pointsTo_deal Finset.univ Finset.univ_nonempty fullShare
  have ht : (tLoc d ↦{fullShare} Tt : sProp 𝕄) = bigSep Finset.univ fun c : Fin 2 => tLoc d ↦{coreShare c} Tt :=
    Transfers.pointsTo_deal Finset.univ Finset.univ_nonempty fullShare
  rw [bigSep_sep', bigSep_sep', ← hx, ← ht, ← result_cores]

/-- A SparseCore's part is its sixteen tiles'. -/
theorem core_parts (d : Dev nD) (X : XBuf) (Tt : TBuf F) (f : OBuf F) (c : Fin 2) :
    (CoreAt d X Tt f c : sProp 𝕄) = bigSep Finset.univ fun i : Fin 16 => PartAt d X Tt f c i := by
  have hx : (xLoc d ↦{coreShare c} X : sProp 𝕄) = bigSep Finset.univ fun i : Fin 16 => xLoc d ↦{tileShare c i} X :=
    Transfers.pointsTo_deal Finset.univ Finset.univ_nonempty (coreShare c)
  have ht : (tLoc d ↦{coreShare c} Tt : sProp 𝕄) = bigSep Finset.univ fun i : Fin 16 => tLoc d ↦{tileShare c i} Tt :=
    Transfers.pointsTo_deal Finset.univ Finset.univ_nonempty (coreShare c)
  rw [bigSep_sep', bigSep_sep', ← hx, ← ht, ← core_tiles]

/-- A tile's part before its body runs, as the body takes it. -/
theorem part_start (d : Dev nD) (i : grid0.Coords) (X : XBuf) (Tt : TBuf F) (hX : ∀ z, (X z).toNat < 100000) (m0 : OBuf F)
    (qx : PosShare TreeShare) :
    (TileAt d i X Tt hX m0 qx qx 0 : sProp 𝕄)
      = iprop((xLoc d ↦{qx} X) ∗ (tLoc d ↦{qx} Tt) ∗ (oLoc d ↦[tileSet (2 * (i 1).val + (i 0).val)]{fullShare} m0)) := by
  rw [tile_quarters, bigSep_four]
  unfold TileAt
  rw [quarts_start, quarts_start, quarts_start, quarts_start]
  rfl

/-- A tile's part after its body ran, as the body leaves it. -/
theorem part_end (d : Dev nD) (i : grid0.Coords) (X : XBuf) (Tt : TBuf F) (hX : ∀ z, (X z).toNat < 100000) (m0 : OBuf F)
    (qx : PosShare TreeShare) :
    (TileAt d i X Tt hX m0 qx qx 13 : sProp 𝕄)
      = iprop((xLoc d ↦{qx} X) ∗ (tLoc d ↦{qx} Tt)
        ∗ (oLoc d ↦[tileSet (2 * (i 1).val + (i 0).val)]{fullShare} (gathered X Tt hX))) := by
  rw [tile_quarters, bigSep_four]
  unfold TileAt
  rw [quarts_end, quarts_end, quarts_end, quarts_end]
  rfl

end Cert.Proof.Gather

end
-- ==== Proof.Launch.lean ====
/-
  The launch of the kernel: what the program hands to the two SparseCores, what each of them hands to its
  sixteen tiles, and what comes back.
-/
module

public import proofs.«01_k».proof.Proof.Deal

@[expose] public section

set_option maxRecDepth 16384

noncomputable section

namespace Cert.Proof.Gather

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
variable [FloatOps F]

variable (X : Dev nD → XBuf) (Tt : Dev nD → TBuf F) (hX : ∀ d z, (X d z).toNat < 100000) (m0 : Dev nD → OBuf F)

/-- The result that device `d` is to make. -/
abbrev goal (d : Dev nD) : OBuf F := gathered (X d) (Tt d) (hX d)

/-- What the call moves: to each SparseCore and tile its part with the result as it was, and back the
    part with the gathered values. -/
def P : (K (F := F)).Pay (nD := nD) (Val := Elt F) (Name := ℕ) (U := UU) where
  st := fun q d c => match q with | 0 => CoreAt d (X d) (Tt d) (m0 d) (Fin.cast nCore_eq c)
  dn := fun q d c => match q with | 0 => CoreAt d (X d) (Tt d) (goal X Tt hX d) (Fin.cast nCore_eq c)
  go := fun q d c i => match q with | 0 => PartAt d (X d) (Tt d) (m0 d) (Fin.cast nCore_eq c) (Fin.cast nSub_eq i)
  td := fun q d c i => match q with | 0 => PartAt d (X d) (Tt d) (goal X Tt hX d) (Fin.cast nCore_eq c) (Fin.cast nSub_eq i)
  x := fun _ _ => iprop(emp)

/-- What the call moves can be kept in the handshakes. -/
instance P_storable : (P X Tt hX m0).IsStorable where
  st q d c := match q with
    | 0 => (inferInstance : BI.Storable (upEmb : UEmb _ 𝕄) (CoreAt d (X d) (Tt d) (m0 d) (Fin.cast nCore_eq c)))
  dn q d c := match q with
    | 0 => (inferInstance : BI.Storable (upEmb : UEmb _ 𝕄) (CoreAt d (X d) (Tt d) (goal X Tt hX d) (Fin.cast nCore_eq c)))
  go q d c i := match q with
    | 0 => (inferInstance : BI.Storable (upEmb : UEmb _ 𝕄)
        (PartAt d (X d) (Tt d) (m0 d) (Fin.cast nCore_eq c) (Fin.cast nSub_eq i)))
  td q d c i := match q with
    | 0 => (inferInstance : BI.Storable (upEmb : UEmb _ 𝕄)
        (PartAt d (X d) (Tt d) (goal X Tt hX d) (Fin.cast nCore_eq c) (Fin.cast nSub_eq i)))

/-- The grid position of SparseCore `c` and vector subcore `s`. -/
abbrev place (c : Fin (grid0.bound 0)) (s : Fin (grid0.bound 1)) : grid0.Coords := fun
  | 0 => c | 1 => s | ⟨_ + 2, h⟩ => absurd h (Nat.not_lt.2 (Nat.le_add_left _ _))

/-- What a vector subcore runs at the call. -/
theorem defs_tile (c : Fin τ.nSC) (s : Fin τ.nSub) :
    defs₀ (F := F) (.scVector c s) 0 () = SparseCore.onTile hcore0 hsub0 (fun c s => cc0__gather_kernel (F := F) (place c s)
      xV (Memref.isWhole_whole _) tV (Memref.isWhole_whole _) oV (Memref.isWhole_whole _)
      sT (Memref.isWhole_whole _) sX (Memref.isWhole_whole _) sO (Memref.isWhole_whole _)
      cc0_scratch3 cc0_scratch4 cc0_scoped0 cc0_scoped1) ⟨⟩ c s := rfl

/-- One tile's run, from its part as it was to its part gathered. -/
theorem tile_part (d : Dev nD) (c : Fin 2) (j : Fin 16) (O : CellTallies nD τ sig (HIx 1)) (W : Waits sig (HIx 1))
    (hO : ∀ g, O g none = 0) :
    iprop(levAts (K (F := F)).L (K (F := F)).lev ∗ emp ∗ PartAt d (X d) (Tt d) (m0 d) c j
        ∗ scopedBufs (thr d (place c j)) ∗ scopedSems0 (thr d (place c j)) ∗ owes (thr d (place c j)) O W)
      ⊢ wp frame (wpE (defs₀ (F := F)) 𝒱₀ (thr d (place c j)) none) Set.univ (cc0__gather_kernel (F := F) (place c j)
      xV (Memref.isWhole_whole _) tV (Memref.isWhole_whole _) oV (Memref.isWhole_whole _)
      sT (Memref.isWhole_whole _) sX (Memref.isWhole_whole _) sO (Memref.isWhole_whole _)
      cc0_scratch3 cc0_scratch4 cc0_scoped0 cc0_scoped1)
          fun _ => iprop(PartAt d (X d) (Tt d) (goal X Tt hX d) c j
            ∗ scopedBufs (thr d (place c j)) ∗ scopedSems0 (thr d (place c j))
            ∗ ∃ W', ⌜∀ p ∈ W', p ∈ W ∨ p.2 = none ∨ p.2 = some (0 : Fin 1)⌝ ∗ owes (thr d (place c j)) O W') := by
  have h := tile_body d (place c j) (X d) (Tt d) (hX d) (m0 d) (tileShare c j) (tileShare c j) launch_facts O W hO
  rw [part_start, part_end] at h
  exact h

/-- The launch's claim on each tile. -/
theorem tileObl : (K (F := F)).TileObl (D (F := F)) 𝒱 (P X Tt hX m0) v₀ 0 := by
  intro d c i O W hO _ _
  simp only [show (P X Tt hX m0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs_tile]
  simp only [SparseCore.onTile, hci, and_self, ↓reduceDIte]
  exact tile_part X Tt hX m0 d (Fin.cast nCore_eq c) (Fin.cast nSub_eq i) O W hO

/-- Things in a row over a core's tiles, by number. -/
theorem over_tiles (Φ : Fin 16 → sProp 𝕄) :
    (bigSep Finset.univ fun i : Fin ((K (F := F)).nSub 0) => Φ (Fin.cast nSub_eq i)) = bigSep Finset.univ Φ :=
  bigSep_congr fun _ _ => congrArg Φ (Fin.ext rfl)

/-- Things in a row over the cores, by number. -/
theorem over_cores (Φ : Fin 2 → sProp 𝕄) :
    (bigSep Finset.univ fun c : Fin ((K (F := F)).nCore 0) => Φ (Fin.cast nCore_eq c)) = bigSep Finset.univ Φ :=
  bigSep_congr fun _ _ => congrArg Φ (Fin.ext rfl)

/-- A SparseCore deals its part to its tiles and joins what they bring back. -/
theorem vecSplit : (K (F := F)).VecSplit' (P X Tt hX m0) 0 := by
  intro d c
  show CoreAt d (X d) (Tt d) (m0 d) (Fin.cast nCore_eq c) ⊢ |={Set.univ}=> iprop(
    (bigSep Finset.univ fun i : Fin ((K (F := F)).nSub 0) => PartAt d (X d) (Tt d) (m0 d) (Fin.cast nCore_eq c) (Fin.cast nSub_eq i))
    ∗ ((bigSep Finset.univ fun i : Fin ((K (F := F)).nSub 0) =>
        PartAt d (X d) (Tt d) (goal X Tt hX d) (Fin.cast nCore_eq c) (Fin.cast nSub_eq i))
      -∗ CoreAt d (X d) (Tt d) (goal X Tt hX d) (Fin.cast nCore_eq c)))
  have e1 := (core_parts d (X d) (Tt d) (m0 d) (Fin.cast nCore_eq c)).trans
    (over_tiles fun i => PartAt d (X d) (Tt d) (m0 d) (Fin.cast nCore_eq c) i).symm
  have e2 := (core_parts d (X d) (Tt d) (goal X Tt hX d) (Fin.cast nCore_eq c)).trans
    (over_tiles fun i => PartAt d (X d) (Tt d) (goal X Tt hX d) (Fin.cast nCore_eq c) i).symm
  iintro H
  imodintro
  isplitl [H]
  · ihave H' := (Entails.of_eq e1) $$ H
    iexact H'
  · iintro H
    ihave H' := (Entails.of_eq e2.symm) $$ H
    iexact H'

/-- What the call takes for the SparseCores is everything with the result as it was. -/
theorem call_takes (d : Dev nD) :
    (bigSep Finset.univ fun c : Fin ((K (F := F)).nCore 0) => (P X Tt hX m0).st 0 d c) = AllAt d (X d) (Tt d) (m0 d) :=
  (over_cores fun c => CoreAt d (X d) (Tt d) (m0 d) c).trans (all_cores d (X d) (Tt d) (m0 d)).symm

/-- What the call brings back is everything with the result gathered. -/
theorem call_brings (d : Dev nD) :
    (bigSep Finset.univ fun c : Fin ((K (F := F)).nCore 0) => (P X Tt hX m0).dn 0 d c) = AllAt d (X d) (Tt d) (goal X Tt hX d) :=
  (over_cores fun c => CoreAt d (X d) (Tt d) (goal X Tt hX d) c).trans (all_cores d (X d) (Tt d) (goal X Tt hX d)).symm

/-- What the launch starts with: the handshakes' rounds, and no counters. -/
def u₀ : UU := (initOf (K (F := F)).hsCells (K (F := F)).hsToks, 1)

/-- The start gives the handshakes theirs; the kernel needs nothing of its own. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P X Tt hX m0).x q thr) := by
  have e0 : (bigSep Finset.univ fun _ : Dev nD => (iprop(emp) : sProp 𝕄)) = iprop(emp) := bigSep_emp_const _
  have e1 : (bigSep Finset.univ fun thr : Thread nD τ => bigSep Finset.univ fun q : Fin 1 => (P X Tt hX m0).x q thr) = iprop(emp) :=
    (bigSep_congr fun _ _ => bigSep_emp_const (Finset.univ : Finset (Fin 1))).trans (bigSep_emp_const _)
  rw [e0, e1]
  unfold u₀
  iintro Hu
  ihave H := (ownU_pair _ _) $$ Hu
  icases H with ⟨HH, -⟩
  imodintro
  isplitl [HH]; · iexact HH
  isplitr <;> iempintro

end Cert.Proof.Gather

end
-- ==== Proof.Main.lean ====
/-
  The whole program: the tables and the indices are transposed, the kernel gathers, and its result is
  transposed back. Every run ends with the arguments as they were, the result at the gathered values,
  and every semaphore at zero.
-/
module

public import proofs.«01_k».proof.Proof.Launch

@[expose] public section

set_option maxRecDepth 16384

noncomputable section

namespace Cert.Proof.Gather

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
variable [FloatOps F]

open Idealize.ShloMosaic.StableHlo (held wp_hlo_within unary_result unary_result_ne)

variable (m : (ℓ : Loc nD τ sig) → Buf (Elt F) ℓ) (ρ : Dev nD → PrngReg)

/-! ## The values -/

/-- The transposed indices of device `d`. -/
abbrev inds (d : Dev nD) : XBuf := transpose S26x16384 [1, 0] (m (aLoc d)) transposes_S16384x26_S26x16384_1_0
/-- The transposed tables of device `d`. -/
abbrev tabs (d : Dev nD) : TBuf F := transpose S26x16x100000 [0, 2, 1] (m (bLoc d)) transposes_S26x100000x16_S26x16x100000_0_2_1
/-- What the kernel's result holds at the start. -/
abbrev outs (d : Dev nD) : OBuf F := m (oLoc d)

/-- The indices of every device name vocabulary entries. -/
abbrev ArgsInVocab : Prop := ∀ (d : Dev nD) (z : S16384x26.Idx), BitVec.toNat (w := 32) (m (aLoc d) z) < 100000

/-- The transposed indices name vocabulary entries, too. -/
theorem inds_lt (hV : ArgsInVocab m) (d : Dev nD) (z : S26x16384.Idx) : (inds m d z).toNat < 100000 := hV d _

/-- The kernel's result on device `d`. -/
abbrev made (hV : ArgsInVocab m) (d : Dev nD) : OBuf F := goal (inds m) (tabs m) (inds_lt m hV) d

/-- The program's result on device `d`. -/
abbrev answer (hV : ArgsInVocab m) (d : Dev nD) : S26x16384x16.Idx → F .f32 :=
  transpose S26x16384x16 [0, 2, 1] (made m hV d) transposes_S26x16x16384_S26x16384x16_0_2_1

/-! ## The host steps -/

/-- The place of the indices. -/
abbrev aRef : DevRef τ sig := Proc.devRef .tc (main_arg0 : Ref sig .tc)
/-- The place of the tables. -/
abbrev bRef : DevRef τ sig := Proc.devRef .tc (main_arg1 : Ref sig .tc)
/-- The place of the transposed tables. -/
abbrev tRef : DevRef τ sig := Proc.devRef .tc (main_v0 : Ref sig .tc)
/-- The place of the transposed indices. -/
abbrev xRef : DevRef τ sig := Proc.devRef .tc (main_v1 : Ref sig .tc)
/-- The place of the kernel's result. -/
abbrev oRef : DevRef τ sig := Proc.devRef .tc (main_v2 : Ref sig .tc)
/-- The place of the program's result. -/
abbrev rRef : DevRef τ sig := Proc.devRef .tc (main_v3 : Ref sig .tc)

/-- The tables' transpose. -/
abbrev opT : HloOp τ sig (Elt F) := StableHlo.unary main_arg1 main_v0
  ((transpose S26x16x100000 [0, 2, 1] · transposes_S26x100000x16_S26x16x100000_0_2_1) :
    (⟨S26x100000x16, .f32⟩ : BufTy).Contents (Elt F) → (⟨S26x16x100000, .f32⟩ : BufTy).Contents (Elt F))
/-- The indices' transpose. -/
abbrev opX : HloOp τ sig (Elt F) := StableHlo.unary main_arg0 main_v1
  ((transpose S26x16384 [1, 0] · transposes_S16384x26_S26x16384_1_0) :
    (⟨S16384x26, .i32⟩ : BufTy).Contents (Elt F) → (⟨S26x16384, .i32⟩ : BufTy).Contents (Elt F))
/-- The result's transpose. -/
abbrev opR : HloOp τ sig (Elt F) := StableHlo.unary main_v2 main_v3
  ((transpose S26x16384x16 [0, 2, 1] · transposes_S26x16x16384_S26x16384x16_0_2_1) :
    (⟨S26x16x16384, .f32⟩ : BufTy).Contents (Elt F) → (⟨S26x16384x16, .f32⟩ : BufTy).Contents (Elt F))

/-- The six arrays of the program. -/
abbrev S6 : Finset (DevRef τ sig) := {aRef, bRef, tRef, xRef, oRef, rRef}

/-- The steps touch only these arrays. -/
theorem opT_sub : (opT (F := F)).bufs ⊆ S6 := show ({bRef, tRef} : Finset (DevRef τ sig)) ⊆ S6 by decide
/-- The steps touch only these arrays. -/
theorem opX_sub : (opX (F := F)).bufs ⊆ S6 := show ({aRef, xRef} : Finset (DevRef τ sig)) ⊆ S6 by decide
/-- The steps touch only these arrays. -/
theorem opR_sub : (opR (F := F)).bufs ⊆ S6 := show ({oRef, rRef} : Finset (DevRef τ sig)) ⊆ S6 by decide

/-- The six arrays held whole, one by one. -/
theorem held_six (d : Dev nD) (W : Valuation τ sig (Elt F)) :
    (held (SparseCore.T d) S6 W : sProp 𝕄) = iprop((aLoc d ↦{fullShare} W aRef) ∗ (bLoc d ↦{fullShare} W bRef)
      ∗ (tLoc d ↦{fullShare} W tRef) ∗ (xLoc d ↦{fullShare} W xRef) ∗ (oLoc d ↦{fullShare} W oRef) ∗ rLoc d ↦{fullShare} W rRef) := by
  unfold held S6
  rw [SparseCore.bigSep_insert' (by decide), SparseCore.bigSep_insert' (by decide), SparseCore.bigSep_insert' (by decide),
    SparseCore.bigSep_insert' (by decide), SparseCore.bigSep_insert' (by decide), bigSep_singleton]

/-- What the launch gives the program is those six arrays. -/
theorem launch_six (d : Dev nD) (W : (b : Ref sig .tc) → Buf (Elt F) ((d.tc : Thread nD τ).loc b)) :
    (unscopedBufs d W : sProp 𝕄) = iprop((aLoc d ↦{fullShare} W main_arg0) ∗ (bLoc d ↦{fullShare} W main_arg1)
      ∗ (tLoc d ↦{fullShare} W main_v0) ∗ (xLoc d ↦{fullShare} W main_v1) ∗ (oLoc d ↦{fullShare} W main_v2)
      ∗ rLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The arrays at the start. -/
def V0 (d : Dev nD) : Valuation τ sig (Elt F) := fun b => m (d, b)
/-- The arrays after both transposes. -/
def V2 (d : Dev nD) : Valuation τ sig (Elt F) := (opX (F := F)).result ((opT (F := F)).result (V0 m d))
/-- The arrays after the kernel. -/
def V3 (hV : ArgsInVocab m) (d : Dev nD) : Valuation τ sig (Elt F) := Function.update (V2 m d) oRef (made m hV d)

/-- What the launch gives is the arrays at the start. -/
theorem launch_held (d : Dev nD) :
    (unscopedBufs d (fun b => m ((SparseCore.T d).loc b)) : sProp 𝕄) = held (SparseCore.T d) S6 (V0 m d) := by
  rw [launch_six, held_six]
  rfl

/-- An array that the transposes leave. -/
theorem V2_other (d : Dev nD) (r : Ref sig .tc) (h0 : r ≠ main_v0) (h1 : r ≠ main_v1) :
    V2 m d (Proc.devRef .tc r) = m (d, Proc.devRef .tc r) := by
  unfold V2 opX opT
  rw [unary_result_ne _ _ _ _ _ _ h1, unary_result_ne _ _ _ _ _ _ h0]
  rfl

/-- The transposed tables are made. -/
theorem V2_t (d : Dev nD) : V2 m d tRef = tabs m d := by
  unfold V2 opX opT tRef
  rw [unary_result_ne _ _ _ _ _ _ (show (main_v0 : Ref sig .tc) ≠ main_v1 by decide), unary_result]
  rfl

/-- The transposed indices are made. -/
theorem V2_x (d : Dev nD) : V2 m d xRef = inds m d := by
  unfold V2 opX xRef
  rw [unary_result]
  unfold opT
  rw [unary_result_ne _ _ _ _ _ _ (show (main_arg0 : Ref sig .tc) ≠ main_v0 by decide)]
  rfl

/-- The arrays after both transposes, one by one. -/
theorem held_V2 (d : Dev nD) :
    (held (SparseCore.T d) S6 (V2 m d) : sProp 𝕄) = iprop((aLoc d ↦{fullShare} m (aLoc d)) ∗ (bLoc d ↦{fullShare} m (bLoc d))
      ∗ (tLoc d ↦{fullShare} tabs m d) ∗ (xLoc d ↦{fullShare} inds m d) ∗ (oLoc d ↦{fullShare} outs m d) ∗ rLoc d ↦{fullShare} m (rLoc d)) := by
  rw [held_six, V2_t, V2_x, V2_other m d main_arg0 (by decide) (by decide), V2_other m d main_arg1 (by decide) (by decide),
    V2_other m d main_v2 (by decide) (by decide), V2_other m d main_v3 (by decide) (by decide)]

/-- The arrays after the kernel, one by one. -/
theorem held_V3 (hV : ArgsInVocab m) (d : Dev nD) :
    (held (SparseCore.T d) S6 (V3 m hV d) : sProp 𝕄) = iprop((aLoc d ↦{fullShare} m (aLoc d)) ∗ (bLoc d ↦{fullShare} m (bLoc d))
      ∗ (tLoc d ↦{fullShare} tabs m d) ∗ (xLoc d ↦{fullShare} inds m d) ∗ (oLoc d ↦{fullShare} made m hV d)
      ∗ rLoc d ↦{fullShare} m (rLoc d)) := by
  have e : ∀ b, b ≠ oRef → V3 m hV d b = V2 m d b := fun b h => Function.update_of_ne h _ _
  have eo : V3 m hV d oRef = made m hV d := Function.update_self _ _ _
  rw [held_six, eo, e aRef (by decide), e bRef (by decide), e tRef (by decide), e xRef (by decide), e rRef (by decide), V2_t, V2_x,
    V2_other m d main_arg0 (by decide) (by decide), V2_other m d main_arg1 (by decide) (by decide),
    V2_other m d main_v3 (by decide) (by decide)]

/-- The arrays at the end: the arguments, the result, and the others. -/
theorem held_end (hV : ArgsInVocab m) (d : Dev nD) :
    (held (SparseCore.T d) S6 ((opR (F := F)).result (V3 m hV d)) : sProp 𝕄)
      = iprop((aLoc d ↦{fullShare} m (aLoc d)) ∗ (bLoc d ↦{fullShare} m (bLoc d))
      ∗ (tLoc d ↦{fullShare} tabs m d) ∗ (xLoc d ↦{fullShare} inds m d) ∗ (oLoc d ↦{fullShare} made m hV d)
      ∗ rLoc d ↦{fullShare} answer m hV d) := by
  have e : ∀ r : Ref sig .tc, r ≠ main_v3 →
      (opR (F := F)).result (V3 m hV d) (Proc.devRef .tc r) = V3 m hV d (Proc.devRef .tc r) :=
    fun r h => unary_result_ne _ _ _ _ _ _ h
  have er : (opR (F := F)).result (V3 m hV d) rRef = answer m hV d := by
    unfold opR rRef
    rw [unary_result]
    exact congrArg (fun f : OBuf F => transpose S26x16384x16 [0, 2, 1] f transposes_S26x16x16384_S26x16384x16_0_2_1)
      (show V3 m hV d oRef = made m hV d from Function.update_self _ _ _)
  have h3 := held_V3 m hV d
  rw [held_six] at h3 ⊢
  rw [er, e main_arg0 (by decide), e main_arg1 (by decide), e main_v0 (by decide), e main_v1 (by decide), e main_v2 (by decide)]
  have ea : V3 m hV d aRef = m (aLoc d) :=
    (Function.update_of_ne (show aRef ≠ oRef by decide) _ _).trans (V2_other m d main_arg0 (by decide) (by decide))
  have eb : V3 m hV d bRef = m (bLoc d) :=
    (Function.update_of_ne (show bRef ≠ oRef by decide) _ _).trans (V2_other m d main_arg1 (by decide) (by decide))
  have et : V3 m hV d tRef = tabs m d := (Function.update_of_ne (show tRef ≠ oRef by decide) _ _).trans (V2_t m d)
  have ex : V3 m hV d xRef = inds m d := (Function.update_of_ne (show xRef ≠ oRef by decide) _ _).trans (V2_x m d)
  have eo : V3 m hV d oRef = made m hV d := Function.update_self _ _ _
  rw [ea, eb, et, ex, eo]

/-! ## The program on the TensorCore -/

/-- What the program leaves: the arguments as they were and the result. -/
abbrev Left (hV : ArgsInVocab m) (d : Dev nD) : sProp 𝕄 :=
  iprop((aLoc d ↦{fullShare} m (aLoc d)) ∗ (bLoc d ↦{fullShare} m (bLoc d)) ∗ (rLoc d ↦{fullShare} answer m hV d))

/-- What the call moves in this program. -/
abbrev PM (hV : ArgsInVocab m) : (K (F := F)).Pay (nD := nD) (Val := Elt F) (Name := ℕ) (U := UU) :=
  P (inds m) (tabs m) (inds_lt m hV) (outs m)

/-- The program's run on a device's TensorCore. -/
theorem hmain (hV : ArgsInVocab m) (κ : GSem nD τ sig → ℕ) (d : Dev nD) :
    iprop((K (F := F)).ctx EH (PM m hV) κ ∗ (K (F := F)).tcSt EH d 0 ∗ (K (F := F)).tcRes m ρ d ∗ emp)
      ⊢ wp frame (wpE ((K (F := F)).defs (D (F := F))) 𝒱 (SparseCore.T d) none) Set.univ (main (F := F) d)
          fun _ => iprop((K (F := F)).tcSt EH d 1 ∗ Left m hV d ∗ (K (F := F)).tcEnd d) := by
  unfold SparseCore.Cfg.tcRes SparseCore.Cfg.tcEnd
  rw [launch_held]
  simp only [main, wp_bind, wp_pure]
  iintro ⟨#Hctx, Hst, ⟨Hb, Hheld, Hts, -⟩, -⟩
  iapply (wp_hlo_within 𝒱 (SparseCore.T d) none Set.univ (op := opT) (S := S6) opT_sub (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opX) (S := S6) opX_sub (V := (opT (F := F)).result (V0 m d))) $$ [Hb Hheld]
  · isplitl [Hb]; · iexact Hb
    iexact Hheld
  iintro ⟨Hb, Hheld⟩
  rw [wp_ret]; imodintro
  ihave Hh := (show (held (SparseCore.T d) S6 ((opX (F := F)).result ((opT (F := F)).result (V0 m d))) : sProp 𝕄) ⊢ _ from
    Entails.of_eq (held_V2 (F := F) m d)) $$ Hheld
  icases Hh with ⟨Ha, Hbb, Ht, Hx, Ho, Hr⟩
  iapply ((K (F := F)).wp_run (D (F := F)) 𝒱 (EH := EH) (P := PM m hV) κ d 0) $$ [Hst Ht Hx Ho Ha Hbb Hb Hr Hts]
  isplitr; · iexact Hctx
  isplitl [Hst]; · iexact Hst
  isplitl [Ht Hx Ho]
  · rw [call_takes]
    isplitl [Hx]; · iexact Hx
    isplitl [Ht]; · iexact Ht
    iexact Ho
  iintro ⟨Hst, Hdn⟩
  ihave Hdn' := (Entails.of_eq (call_brings (inds m) (tabs m) (inds_lt m hV) (outs m) d)) $$ Hdn
  icases Hdn' with ⟨Hx, Ht, Ho⟩
  iapply (wp_hlo_within 𝒱 (SparseCore.T d) none Set.univ (op := opR) (S := S6) opR_sub (V := V3 m hV d)) $$ [Hb Ha Hbb Ht Hx Ho Hr]
  · isplitl [Hb]; · iexact Hb
    rw [held_V3]
    isplitl [Ha]; · iexact Ha
    isplitl [Hbb]; · iexact Hbb
    isplitl [Ht]; · iexact Ht
    isplitl [Hx]; · iexact Hx
    isplitl [Ho]; · iexact Ho
    iexact Hr
  iintro ⟨Hb, Hheld⟩
  ihave Hh := (Entails.of_eq (held_end (F := F) m hV d)) $$ Hheld
  icases Hh with ⟨Ha, Hbb, -, -, -, Hr⟩
  rw [wp_ret]; imodintro; imodintro
  isplitl [Hst]; · iexact Hst
  isplitr [Hb Hts]
  · isplitl [Ha]; · iexact Ha
    isplitl [Hbb]; · iexact Hbb
    iexact Hr
  isplitl [Hb] <;> iassumption

/-- What is read off the memory at the end. -/
def fq (hV : ArgsInVocab m) (d : Dev nD) (s' : Phys nD τ sig (Elt F)) : Prop :=
  s'.mem.mem (aLoc d) = m (aLoc d) ∧ s'.mem.mem (bLoc d) = m (bLoc d) ∧ s'.mem.mem (rLoc d) = answer m hV d

/-- A whole array's contents are the memory's. -/
theorem read_off (s' : Phys nD τ sig (Elt F)) (ℓ : Loc nD τ sig) (f : Buf (Elt F) ℓ) (R : sProp 𝕄)
    (h : R ⊢ iprop(SI s' ∗ ℓ ↦{fullShare} f)) : R ⊢ (⌜s'.mem.mem ℓ = f⌝ : sProp 𝕄) := by
  refine h.trans ?_
  iintro H
  ihave H := (SI_pointsTo_agree (st := s') (ℓ := ℓ) (I := Finset.univ) (q := fullShare) (f := f)) $$ H
  icases H with %hx
  ipureintro
  exact funext fun i => hx i (Finset.mem_univ i)

/-- What the program leaves, read off the memory. -/
theorem hfin (hV : ArgsInVocab m) (d : Dev nD) (s' : Phys nD τ sig (Elt F)) : iprop(Left m hV d ∗ SI s') ⊢ (⌜fq m hV d s'⌝ : sProp 𝕄) := by
  have ha : iprop(Left m hV d ∗ SI s') ⊢ (⌜s'.mem.mem (aLoc d) = m (aLoc d)⌝ : sProp 𝕄) := by
    refine read_off s' (aLoc d) _ _ ?_
    iintro ⟨⟨Ha, -, -⟩, HS⟩
    isplitl [HS] <;> iassumption
  have hb : iprop(Left m hV d ∗ SI s') ⊢ (⌜s'.mem.mem (bLoc d) = m (bLoc d)⌝ : sProp 𝕄) := by
    refine read_off s' (bLoc d) _ _ ?_
    iintro ⟨⟨-, Hb, -⟩, HS⟩
    isplitl [HS] <;> iassumption
  have hr : iprop(Left m hV d ∗ SI s') ⊢ (⌜s'.mem.mem (rLoc d) = answer m hV d⌝ : sProp 𝕄) := by
    refine read_off s' (rLoc d) _ _ ?_
    iintro ⟨⟨-, -, Hr⟩, HS⟩
    isplitl [HS] <;> iassumption
  intro n x
  exact ⟨ha n x, hb n x, hr n x⟩

/-- How a run ends. -/
def Ends (hV : ArgsInVocab m) : PUnit × MemSt nD τ sig (Elt F) → Prop := fun r =>
  (∀ d : Dev nD, r.2.mem (aLoc d) = m (aLoc d) ∧ r.2.mem (bLoc d) = m (bLoc d) ∧ r.2.mem (rLoc d) = answer m hV d)
    ∧ r.2.sem = fun _ => 0

/-- Every run of the program, from any memory whose indices name vocabulary entries. -/
theorem run_main [∀ e, Nonempty (Elt F e)] (hV : ArgsInVocab m) :
    θ_run (Cert.KernelIdeal.defs (F := F)) (Cert.KernelIdeal.threads (F := F)) ⟨m, fun _ => 0, ρ⟩ (Ends m hV) :=
  SparseCore.Cfg.θ_run_sc_quiescent (K := K (F := F)) (D := D (F := F)) (𝒱 := 𝒱) (EH := EH) (P := PM m hV) (A := ∅) launch_facts v₀
    (fun q hq => match q with | 0 => nomatch hq)
    (fun q _ => match q with | 0 => tileObl (inds m) (tabs m) (inds_lt m hV) (outs m))
    (fun q _ => match q with | 0 => SparseCore.Cfg.VecSplit.of_plain (vecSplit (inds m) (tabs m) (inds_lt m hV) (outs m)))
    m ρ main (fun _ => iprop(emp)) (Left m hV) (u₀ (F := F))
    (sep_elim_left.trans (hu₀ (inds m) (tabs m) (inds_lt m hV) (outs m))) (hmain m ρ hV) (fq m hV) (hfin m hV) (Ends m hV)
    (fun _ h hz => ⟨h, hz⟩)

end Cert.Proof.Gather

end
-- ==== Proof.Lookup.lean ====
/-
  The mathematics: row `x (b, f)` of table `f`, for every feature `f` and batch entry `b`.
-/
module

public import Idealize.ShloMosaic.Lib.ValueIdxCore

@[expose] public section

set_option maxRecDepth 16384

noncomputable section

namespace Cert.Proof.Gather

open Idealize.ShloMosaic Idealize.ShloMosaic.ValueIdx

/-- The indices: one per batch entry and feature. -/
abbrev Indices : Type := (⟨2, ![16384, 26]⟩ : Shape).Idx → BitVec 32
/-- The tables: per feature, vocabulary entry and coordinate a value. -/
abbrev Tables (α : Type) : Type := (⟨3, ![26, 100000, 16]⟩ : Shape).Idx → α
/-- The result: per feature, batch entry and coordinate a value. -/
abbrev Rows (α : Type) : Type := (⟨3, ![26, 16384, 16]⟩ : Shape).Idx → α

/-- The lookup: at `(f, b, d)` the value of table `f` at row `x (b, f)` and coordinate `d`. -/
def looked {α : Type} (x : Indices) (t : Tables α) (hx : ∀ z, (x z).toNat < 100000) : Rows α := fun y =>
  t (ix3 (y 0) (⟨(x (ix2 (y 1) (y 0))).toNat, hx _⟩ : Fin 100000) (y 2))

/-- Equal arguments look up equal results. -/
theorem looked_congr {α : Type} {x x' : Indices} {t t' : Tables α} (hx : ∀ z, (x z).toNat < 100000)
    (hx' : ∀ z, (x' z).toNat < 100000) (e : x = x') (e' : t = t') : looked x t hx = looked x' t' hx' := by
  subst e
  subst e'
  rfl

end Cert.Proof.Gather

end
-- ==== Proof.Vocab.lean ====
/-
  What the precondition says: every index names a vocabulary entry.
-/
module

public import proofs.«01_k».proof.Proof.Gen.Pre_in_vocab
public import proofs.«01_k».proof.Proof.Lookup
public import Idealize.ShloMosaic.Lib.ReduceAll
public import Idealize.ShloMosaic.Lib.Affine

@[expose] public section

set_option maxRecDepth 16384

noncomputable section

namespace Cert.Proof.Gather

open Idealize.ShloMosaic Idealize.ShloMosaic.ValueIdx Cert.Pre_in_vocab Cert.Pre_in_vocab.Gen

/-- A word that is at least 0 and below 100000, both read signed, is below 100000. -/
theorem word_lt {v : BitVec 32} (h0 : 0 ≤ v.toInt) (h1 : v.toInt < 100000) : v.toNat < 100000 := by
  rw [BitVec.toInt_eq_toNat_cond] at h0 h1
  have := v.isLt
  split at h0 <;> omega

/-- The array of no axes has one place. -/
instance one_place : Subsingleton S_.Idx := ⟨fun _ _ => funext fun a => a.elim0⟩

/-- The precondition bounds every index. -/
theorem vocab {F : FTy → Type} [FloatOps F] (x : Indices) (t : Tables (F .f32))
    (h : Cert.Pre_in_vocab.fn (F := F) x t = fun _ => 1#1) (z : (⟨2, ![16384, 26]⟩ : Shape).Idx) : (x z).toNat < 100000 := by
  have hj := congrFun h (fun a => a.elim0)
  dsimp only [Cert.Pre_in_vocab.fn] at hj
  have hb : ∀ a b : BitVec 1, IntOp.andi a b = 1#1 → a = 1#1 ∧ b = 1#1 := by decide
  obtain ⟨ha, hc⟩ := hb _ _ hj
  have h0 := IntOp.cmpi_sge.1 (Host.reduce_andi_all _ _ _ _ _ ha z)
  have h1 := IntOp.cmpi_slt.1 (Host.reduce_andi_all _ _ _ _ _ hc z)
  exact word_lt h0 h1

end Cert.Proof.Gather

end
-- ==== Proof.Referred.lean ====
/-
  What the reference computes. It wraps negative indices, gathers, and fills where an index is out of range;
  for indices that name vocabulary entries neither wrapping nor filling happens, and it is the lookup.
-/
module

public import proofs.«01_k».proof.Proof.Gen.ReferenceIdeal
public import proofs.«01_k».proof.Proof.Lookup
public import Idealize.ShloMosaic.Lib.ReduceAll
public import Idealize.ShloMosaic.Lib.Affine
public import Idealize.ShloMosaic.Lib.Pipeline.Value

@[expose] public section

set_option maxRecDepth 16384

noncomputable section

namespace Cert.Proof.Gather

open Idealize.ShloMosaic Idealize.ShloMosaic.ValueIdx Cert.ReferenceIdeal Cert.ReferenceIdeal.Gen

variable {F : FTy → Type} [FloatOps F]

/-- A vocabulary entry's word read signed is its number. -/
theorem word_toInt {v : BitVec 32} (h : v.toNat < 100000) : v.toInt = v.toNat := by
  rw [BitVec.toInt_eq_toNat_cond, if_pos (by omega)]

/-- The indices after wrapping. -/
abbrev wrapped (x : Indices) : Indices :=
  select (cmpi .slt x (broadcastInDim S16384x26 ![] bcast_S_S16384x26 (constantI S_ 32 0#32)))
    (addi x (broadcastInDim S16384x26 ![] bcast_S_S16384x26 (constantI S_ 32 100000#32))) x

/-- Wrapping changes no index that names an entry. -/
theorem wrapped_eq (x : Indices) (hx : ∀ z, (x z).toNat < 100000) : wrapped x = x := by
  funext z
  have h : ¬ IntOp.cmpi .slt (x z) 0#32 = 1#1 := by
    rw [IntOp.cmpi_slt, word_toInt (hx z), show (0#32 : BitVec 32).toInt = 0 by decide]
    omega
  have h' := eq_zero_of_ne_one h
  show Scalar.select (IntOp.cmpi .slt (x z) 0#32) _ _ = _
  rw [h']
  rfl

/-- The indices as the gather takes them: per feature and batch entry a list of one. -/
abbrev starts (x : Indices) : (⟨3, ![26, 16384, 1]⟩ : Shape).Idx → BitVec 32 :=
  broadcastInDim S26x16384x1 ![0, 1] bcast_S26x16384_S26x16384x1_0_1
    (transpose S26x16384 [1, 0] x transposes_S16384x26_S26x16384_1_0)

/-- The start at `(f, b)` is the index of batch entry `b` and feature `f`. -/
theorem starts_apply (x : Indices) (y : (⟨3, ![26, 16384, 1]⟩ : Shape).Idx) : starts x y = x (ix2 (y 1) (y 0)) := by
  unfold starts
  refine (broadcastInDim_apply _ _ _ y (ix2 (y 0) (y 1) : S26x16384.Idx)
    fun a => match a with | ⟨0, _⟩ => rfl | ⟨1, _⟩ => rfl).trans ?_
  exact transpose_apply _ _ _ _ _ fun c => match c with | ⟨0, _⟩ => rfl | ⟨1, _⟩ => rfl

/-- Where the reference keeps the gathered value: 1 at every place whose index is in range. -/
abbrev kept (x : Indices) : (⟨2, ![26, 16384]⟩ : Shape).Idx → BitVec 1 :=
  Host.reduce IntOp.andi
    (andi (cmpi .sge (starts x) (broadcastInDim S26x16384x1 ![] bcast_S_S26x16384x1 (constantI S_ 32 0#32)))
      (cmpi .sle (starts x) (broadcastInDim S26x16384x1 ![0, 1, 2] bcast_S1x1x1_S26x16384x1_0_1_2
        (broadcastInDim S1x1x1 ![2] bcast_S1_S1x1x1_2 (constantI S1 32 99999#32)))))
    (constantI S_ 1 1#1) reducesTo_S26x16384x1_S26x16384_d2 h_S_

/-- All places are kept when every index names an entry. -/
theorem kept_one (x : Indices) (hx : ∀ z, (x z).toNat < 100000) (j : (⟨2, ![26, 16384]⟩ : Shape).Idx) : kept x j = 1#1 := by
  refine Host.reduce_andi_one _ _ _ _ j rfl fun i => ?_
  show IntOp.andi (IntOp.cmpi .sge (starts x i) 0#32) (IntOp.cmpi .sle (starts x i) 99999#32) = 1#1
  rw [starts_apply]
  have h := hx (ix2 (i 1) (i 0))
  rw [IntOp.cmpi_sge.2 (by rw [word_toInt h, show (0#32 : BitVec 32).toInt = 0 by decide]; omega),
    IntOp.cmpi_sle.2 (by rw [word_toInt h, show (99999#32 : BitVec 32).toInt = 99999 by decide]; omega)]
  rfl

/-- The gather's shape of work: the first axes of the tables and the starts go together, a start names the table's row,
    and the last axis is copied. -/
abbrev rowDims : GatherDims ⟨3, ![26, 100000, 16]⟩ ⟨3, ![26, 16384, 1]⟩ ⟨3, ![26, 16384, 16]⟩ where
  offsetDims := [2]
  collapsedSliceDims := [1]
  operandBatchingDims := [0]
  startIndicesBatchingDims := [0]
  startIndexMap := [1]
  indexVectorDim := 2
  sliceSizes := ![1, 1, 16]
  wf := gather_S26x100000x16_S26x16384x1_S26x16384x16_2_1_0_0_1_2_1116_wf

/-- The gather at `(f, b, d)`: table `f` at the start of `(f, b)`, cut off at the last entry, and coordinate `d`. -/
theorem gather_apply {α : Type} (t : Tables α) (s : (⟨3, ![26, 16384, 1]⟩ : Shape).Idx → BitVec 32)
    (y : (⟨3, ![26, 16384, 16]⟩ : Shape).Idx) (n : Fin 100000)
    (hn : n.val = min (s (ix3 (y 0) (y 1) (0 : Fin 1))).toInt.toNat 99999) :
    Host.gather rowDims t s y = t (ix3 (y 0) n (y 2)) := by
  unfold Host.gather
  congr 1
  funext a
  refine Fin.ext ?_
  show GatherDims.start rowDims y s a
    + GatherDims.batchCoord rowDims y a
    + GatherDims.offCoord rowDims y a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  have n10 : (1 : Fin 3) ∉ [(0 : Fin 3)] := by decide
  have n20 : (2 : Fin 3) ∉ [(0 : Fin 3)] := by decide
  have n21 : (2 : Fin 3) ∉ [(1 : Fin 3)] := by decide
  rcases ha with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ rowDims.operandBatchingDims from List.mem_singleton.mpr rfl)]
    rfl
  · rw [GatherDims.batchCoord_eq_zero _ _ _ n10,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ rowDims.startIndexMap from List.mem_singleton.mpr rfl)]
    refine Eq.trans ?_ hn.symm
    have hs : ∀ w : (⟨3, ![26, 16384, 1]⟩ : Shape).Idx, w = ix3 (y 0) (y 1) (0 : Fin 1) →
        min (s w).toInt.toNat (100000 - 1) = min (s (ix3 (y 0) (y 1) (0 : Fin 1))).toInt.toNat 99999 := fun w e => by
      subst e
      rfl
    refine hs _ ?_
    funext b
    refine Fin.ext ?_
    match b with
    | ⟨0, _⟩ => rfl
    | ⟨1, _⟩ => rfl
    | ⟨2, _⟩ => rfl
  · rw [GatherDims.batchCoord_eq_zero _ _ _ n20]
    unfold GatherDims.start
    rw [dif_neg (show (2 : Fin 3) ∉ rowDims.startIndexMap from n21)]
    unfold GatherDims.offCoord
    rw [dif_pos (show (2 : Fin 3) ∈ rowDims.sKept from (GatherDims.mem_sKept _ _).mpr ⟨n21, n20⟩)]
    simp only [Nat.zero_add]
    rfl

/-- The reference's result from its arguments: the gathered values where kept, the filling elsewhere. -/
abbrev referred (x : Indices) (t : Tables (F .f32)) : Rows (F .f32) :=
  select (broadcastInDim S26x16384x16 ![0, 1] bcast_S26x16384_S26x16384x16_0_1 (kept (wrapped x)))
    (Host.gather gather_S26x100000x16_S26x16384x1_S26x16384x16_2_1_0_0_1_2_1116 t (starts (wrapped x)))
    (broadcastInDim S26x16384x16 ![] bcast_S_S26x16384x16 (constant S_ .f32 0x7FC00000#32))

/-- For indices that name vocabulary entries the reference is the lookup. -/
theorem referred_eq (x : Indices) (t : Tables (F .f32)) (hx : ∀ z, (x z).toNat < 100000) :
    referred (F := F) x t = looked x t hx := by
  funext y
  unfold referred
  rw [wrapped_eq x hx]
  show Scalar.select (broadcastInDim S26x16384x16 ![0, 1] bcast_S26x16384_S26x16384x16_0_1 (kept x) y) _ _ = _
  have hk : broadcastInDim S26x16384x16 ![0, 1] bcast_S26x16384_S26x16384x16_0_1 (kept x) y = 1#1 :=
    (broadcastInDim_apply _ _ _ y (ix2 (y 0) (y 1) : S26x16384.Idx)
      fun a => match a with | ⟨0, _⟩ => rfl | ⟨1, _⟩ => rfl).trans (kept_one x hx _)
  rw [hk, select_one]
  have h := hx (ix2 (y 1) (y 0))
  refine gather_apply t (starts x) y ⟨_, h⟩ ?_
  rw [starts_apply]
  show (x (ix2 (y 1) (y 0))).toNat = min (x (ix2 (y 1) (y 0))).toInt.toNat 99999
  rw [word_toInt h, Int.toNat_natCast]
  omega

end Cert.Proof.Gather

end
-- ==== Proof.Answer.lean ====
/-
  The program's result is the lookup.
-/
module

public import proofs.«01_k».proof.Proof.Main
public import proofs.«01_k».proof.Proof.Lookup
public import Idealize.ShloMosaic.Lib.Pipeline.Value

@[expose] public section

set_option maxRecDepth 16384

noncomputable section

namespace Cert.Proof.Gather

open Idealize.ShloMosaic Idealize.ShloMosaic.ValueIdx Cert.KernelIdeal Cert.KernelIdeal.Gen

variable {F : FTy → Type} [FloatOps F]

/-- The program's result on a device is the lookup of that device's indices in its tables. -/
theorem answer_eq (m : (ℓ : Loc nD τ sig) → Buf (Elt F) ℓ) (hV : ArgsInVocab m) (d : Dev nD) :
    answer m hV d = looked (α := F .f32) (m (aLoc d)) (m (bLoc d)) (hV d) := by
  funext y
  unfold answer
  refine (transpose_apply [0, 2, 1] (made m hV d) _ y (ix3 (y 0) (y 2) (y 1) : S26x16x16384.Idx)
    fun c => match c with | ⟨0, _⟩ => rfl | ⟨1, _⟩ => rfl | ⟨2, _⟩ => rfl).trans ?_
  have hz : inds m d (ix2 (y 0) (y 1)) = m (aLoc d) (ix2 (y 1) (y 0)) :=
    transpose_apply _ _ _ _ _ fun c => match c with | ⟨0, _⟩ => rfl | ⟨1, _⟩ => rfl
  refine (gathered_eq (inds m d) (tabs m d) (inds_lt m hV d) (ix3 (y 0) (y 2) (y 1)) (ix2 (y 0) (y 1))
    (ix3 (y 0) (y 2) (⟨BitVec.toNat (w := 32) (m (aLoc d) (ix2 (y 1) (y 0))), hV d _⟩ : Fin 100000)) rfl rfl rfl rfl
    (congrArg BitVec.toNat hz.symm)).trans ?_
  exact transpose_apply _ _ _ _ _ fun c => match c with | ⟨0, _⟩ => rfl | ⟨1, _⟩ => rfl | ⟨2, _⟩ => rfl

end Cert.Proof.Gather

end
-- ==== Proof.lean ====
/-
  The claim, assembled: the kernel's two programs end with their arguments unchanged and every semaphore
  at zero, so does the reference, and kernel and reference compute the same lookup.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_vocab
public import proofs.«01_k».proof.Proof.Main
public import proofs.«01_k».proof.Proof.Vocab
public import proofs.«01_k».proof.Proof.Referred
public import proofs.«01_k».proof.Proof.Answer
public import Idealize.ShloMosaic.Adequacy
public import Idealize.ShloMosaic.Init

@[expose] public section

noncomputable section

namespace Cert.Proof

open Idealize.ShloMosaic Idealize.SL.Sem Cert.Proof.Gather

/-- The kernel over floats as words: it ends, its arguments unchanged and every semaphore at zero. -/
theorem frame_kernel : Cert.quiescent_Kernel := fun m ρ hp =>
  (θ_run Cert.KernelIdeal.defs _ _).mono (fun _ h => ⟨fun c => ⟨(h.1 c).1, (h.1 c).2.1⟩, h.2⟩)
    (run_main (F := Bits) m ρ fun d => vocab _ _ (hp d))

/-- The kernel over the extended reals: the same. -/
theorem frame_ideal : Cert.quiescent_KernelIdeal := fun m ρ hp =>
  (θ_run Cert.KernelIdeal.defs _ _).mono (fun _ h => ⟨fun c => ⟨(h.1 c).1, (h.1 c).2.1⟩, h.2⟩)
    (run_main (F := Ideal) m ρ fun d => vocab _ _ (hp d))

/-- The reference: the same, for any arguments. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference end with the same result, the lookup. -/
theorem same_lookup : Cert.algebraic_KernelIdeal_ReferenceIdeal := fun m ρ m' ρ' hp hargs => by
  have hV : ArgsInVocab m := fun d => vocab _ _ (hp d)
  refine ⟨answer m hV, (θ_run Cert.KernelIdeal.defs _ _).mono (fun _ h c => ⟨(h.1 c).2.2, (h.1 c).1, (h.1 c).2.1⟩)
    (run_main (F := Ideal) m ρ hV), ?_⟩
  refine (θ_run Cert.ReferenceIdeal.defs _ _).mono (fun _ h c => ⟨(h c).1.trans ?_, (h c).2⟩)
    (Cert.ReferenceIdeal.Value.run (F := Ideal) m' ρ')
  have hx' : ∀ z, BitVec.toNat (w := 32) (m' ((c.tc : Thread Cert.ReferenceIdeal.nD Cert.ReferenceIdeal.τ).loc Cert.ReferenceIdeal.main_arg0) z) < 100000 :=
    fun z => (congrArg (fun v => BitVec.toNat (w := 32) v) (congrFun (hargs c).1 z)).trans_lt (hV c z)
  exact (referred_eq (F := Ideal) _ _ hx').trans
    ((looked_congr hx' (hV c) (hargs c).1 (hargs c).2).trans (answer_eq m hV c).symm)

/-- Everything that is claimed. -/
theorem claim : Cert.Claim := ⟨Cert.Kernel.Gen.facts, Cert.KernelIdeal.Gen.facts, Cert.ReferenceIdeal.Gen.facts, Cert.Pre_in_vocab.Gen.facts,
  frame_kernel, frame_ideal, frame_reference, fun m ρ _ => frame_reference m ρ trivial, trivial, same_lookup⟩

end Cert.Proof

end
